-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v146)) (v1 : (c : Dev Cert.KernelIdeal.nD) → Buf (Elt Ideal) ((c.tc : Thread Cert.KernelIdeal.nD Cert.KernelIdeal.τ).loc Cert.KernelIdeal.main_v149)) (v2 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_v149) = v1 c
          ∧ r.2.mem ((c.tc : Thread Cert.KernelIdeal.nD Cert.KernelIdeal.τ).loc Cert.KernelIdeal.main_v152) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x12288 : Shape := ⟨3, ![3, 1, 12288]⟩
abbrev S4x9216x1536 : Shape := ⟨3, ![4, 9216, 1536]⟩
abbrev S9216x384 : Shape := ⟨2, ![9216, 384]⟩
abbrev S4 : Shape := ⟨1, ![4]⟩
abbrev S4x1x1 : Shape := ⟨3, ![4, 1, 1]⟩
abbrev S128 : Shape := ⟨1, ![128]⟩
abbrev S1x128x1 : Shape := ⟨3, ![1, 128, 1]⟩
abbrev S512 : Shape := ⟨1, ![512]⟩
abbrev S1x1x512 : Shape := ⟨3, ![1, 1, 512]⟩
abbrev S_ : Shape := ⟨0, ![]⟩
abbrev S4x1x512 : Shape := ⟨3, ![4, 1, 512]⟩
abbrev S4x128x512 : Shape := ⟨3, ![4, 128, 512]⟩
abbrev S2 : Shape := ⟨1, ![2]⟩
abbrev S2x1x1 : Shape := ⟨3, ![2, 1, 1]⟩
abbrev S1024 : Shape := ⟨1, ![1024]⟩
abbrev S1x1x1024 : Shape := ⟨3, ![1, 1, 1024]⟩
abbrev S2x1x1024 : Shape := ⟨3, ![2, 1, 1024]⟩
abbrev S2x128x1024 : Shape := ⟨3, ![2, 128, 1024]⟩
abbrev S1x128x1024 : Shape := ⟨3, ![1, 128, 1024]⟩
abbrev S2x128x1 : Shape := ⟨3, ![2, 128, 1]⟩
abbrev S2x128x128 : Shape := ⟨3, ![2, 128, 128]⟩
abbrev S8 : Shape := ⟨1, ![8]⟩
abbrev S8x1 : Shape := ⟨2, ![8, 1]⟩
abbrev S1x1024 : Shape := ⟨2, ![1, 1024]⟩
abbrev S8x1024 : Shape := ⟨2, ![8, 1024]⟩
abbrev S288x128 : Shape := ⟨2, ![288, 128]⟩
abbrev S9x3x4x256 : Shape := ⟨4, ![9, 3, 4, 256]⟩
abbrev S288x512 : Shape := ⟨2, ![288, 512]⟩
abbrev S4x1024x512 : Shape := ⟨3, ![4, 1024, 512]⟩
abbrev S1024x128 : Shape := ⟨2, ![1024, 128]⟩
abbrev S1x3x4x256 : Shape := ⟨4, ![1, 3, 4, 256]⟩
abbrev S192x32x1024 : Shape := ⟨3, ![192, 32, 1024]⟩
abbrev S2x288x1024 : Shape := ⟨3, ![2, 288, 1024]⟩
abbrev S192x3x8x128 : Shape := ⟨4, ![192, 3, 8, 128]⟩
abbrev S2x2x288x128 : Shape := ⟨4, ![2, 2, 288, 128]⟩
abbrev S2x512x128 : Shape := ⟨3, ![2, 512, 128]⟩
abbrev S4x128x256 : Shape := ⟨3, ![4, 128, 256]⟩
abbrev S3x8x256 : Shape := ⟨3, ![3, 8, 256]⟩
abbrev S1x128x512 : Shape := ⟨3, ![1, 128, 512]⟩
abbrev S128x512 : Shape := ⟨2, ![128, 512]⟩
abbrev S288 : Shape := ⟨1, ![288]⟩
abbrev S288x1 : Shape := ⟨2, ![288, 1]⟩
abbrev S128x1024 : Shape := ⟨2, ![128, 1024]⟩
abbrev S288x1024 : Shape := ⟨2, ![288, 1024]⟩
abbrev S1x288x1024 : Shape := ⟨3, ![1, 288, 1024]⟩
abbrev S1x128x128 : Shape := ⟨3, ![1, 128, 128]⟩
abbrev S128x128 : Shape := ⟨2, ![128, 128]⟩
abbrev S1x1x288x128 : Shape := ⟨4, ![1, 1, 288, 128]⟩
abbrev S8x128 : Shape := ⟨2, ![8, 128]⟩
abbrev S1x1x1x128 : Shape := ⟨4, ![1, 1, 1, 128]⟩
abbrev S1x128 : Shape := ⟨2, ![1, 128]⟩
abbrev S1x1x8x128 : Shape := ⟨4, ![1, 1, 8, 128]⟩
abbrev S32x1024 : Shape := ⟨2, ![32, 1024]⟩
abbrev S1x32x1024 : Shape := ⟨3, ![1, 32, 1024]⟩
abbrev S1x512x128 : Shape := ⟨3, ![1, 512, 128]⟩
abbrev S512x128 : Shape := ⟨2, ![512, 128]⟩
abbrev S1x8x256 : Shape := ⟨3, ![1, 8, 256]⟩
abbrev S8x256 : Shape := ⟨2, ![8, 256]⟩
abbrev S240x256 : Shape := ⟨2, ![240, 256]⟩
abbrev S960x256 : Shape := ⟨2, ![960, 256]⟩
abbrev S1x32x960 : Shape := ⟨3, ![1, 32, 960]⟩
abbrev S32x960 : Shape := ⟨2, ![32, 960]⟩
abbrev S32x256 : Shape := ⟨2, ![32, 256]⟩
abbrev S1x8x128 : Shape := ⟨3, ![1, 8, 128]⟩
abbrev S1x256 : Shape := ⟨2, ![1, 256]⟩
abbrev S4x256 : Shape := ⟨2, ![4, 256]⟩
abbrev S1x1x4x256 : Shape := ⟨4, ![1, 1, 4, 256]⟩
abbrev S3x9x256x4 : Shape := ⟨4, ![3, 9, 256, 4]⟩
abbrev S3x1x9216 : Shape := ⟨3, ![3, 1, 9216]⟩
abbrev S3x96x2x2x16x8 : Shape := ⟨6, ![3, 96, 2, 2, 16, 8]⟩
abbrev S3x96x2x8x2x16 : Shape := ⟨6, ![3, 96, 2, 8, 2, 16]⟩
abbrev S3x1x3072x16 : Shape := ⟨4, ![3, 1, 3072, 16]⟩
abbrev S3x1x96 : Shape := ⟨3, ![3, 1, 96]⟩

abbrev nBuf : Space → Nat
  | .hbm => 212
  | .vmem => 23
  | .smem => 0
  | _ => 0

abbrev hbmTy0_0 (i : Nat) : BufTy := match i % 128 with
  | 0 => ⟨S3x1x12288, .bf16⟩
  | 1 => ⟨S4x9216x1536, .i8⟩
  | 2 => ⟨S9216x384, .f32⟩
  | 3 => ⟨S9216x384, .f32⟩
  | 4 => ⟨S4, .i32⟩
  | 5 => ⟨S4x1x1, .i32⟩
  | 6 => ⟨S128, .i32⟩
  | 7 => ⟨S1x128x1, .i32⟩
  | 8 => ⟨S512, .i32⟩
  | 9 => ⟨S1x1x512, .i32⟩
  | 10 => ⟨S_, .i32⟩
  | 11 => ⟨S1x1x512, .i32⟩
  | 12 => ⟨S1x1x512, .i32⟩
  | 13 => ⟨S_, .i32⟩
  | 14 => ⟨S1x1x512, .i32⟩
  | 15 => ⟨S1x1x512, .i32⟩
  | 16 => ⟨S_, .i32⟩
  | 17 => ⟨S1x1x512, .i32⟩
  | 18 => ⟨S1x1x512, .i32⟩
  | 19 => ⟨S_, .i32⟩
  | 20 => ⟨S1x1x512, .i32⟩
  | 21 => ⟨S1x1x512, .i32⟩
  | 22 => ⟨S_, .i32⟩
  | 23 => ⟨S1x1x512, .i32⟩
  | 24 => ⟨S1x1x512, .i32⟩
  | 25 => ⟨S_, .i32⟩
  | 26 => ⟨S1x1x512, .i32⟩
  | 27 => ⟨S1x1x512, .i32⟩
  | 28 => ⟨S_, .i32⟩
  | 29 => ⟨S1x1x512, .i32⟩
  | 30 => ⟨S1x1x512, .i32⟩
  | 31 => ⟨S_, .i32⟩
  | 32 => ⟨S1x1x512, .i32⟩
  | 33 => ⟨S1x1x512, .i32⟩
  | 34 => ⟨S1x1x512, .i32⟩
  | 35 => ⟨S_, .i32⟩
  | 36 => ⟨S1x1x512, .i32⟩
  | 37 => ⟨S1x1x512, .i32⟩
  | 38 => ⟨S1x1x512, .i32⟩
  | 39 => ⟨S4x1x512, .i32⟩
  | 40 => ⟨S4x1x512, .i32⟩
  | 41 => ⟨S4x1x512, .i32⟩
  | 42 => ⟨S4x128x512, .i32⟩
  | 43 => ⟨S4x128x512, .i32⟩
  | 44 => ⟨S4x128x512, .i1⟩
  | 45 => ⟨S4x1x512, .i32⟩
  | 46 => ⟨S4x1x512, .i32⟩
  | 47 => ⟨S4x1x512, .i32⟩
  | 48 => ⟨S_, .i32⟩
  | 49 => ⟨S4x1x512, .i32⟩
  | 50 => ⟨S4x1x512, .i32⟩
  | 51 => ⟨S4x1x512, .f32⟩
  | 52 => ⟨S_, .f32⟩
  | 53 => ⟨S_, .f32⟩
  | 54 => ⟨S4x128x512, .f32⟩
  | 55 => ⟨S4x128x512, .f32⟩
  | 56 => ⟨S4x128x512, .f32⟩
  | 57 => ⟨S4x128x512, .bf16⟩
  | 58 => ⟨S2, .i32⟩
  | 59 => ⟨S2x1x1, .i32⟩
  | 60 => ⟨S128, .i32⟩
  | 61 => ⟨S1x128x1, .i32⟩
  | 62 => ⟨S1024, .i32⟩
  | 63 => ⟨S1x1x1024, .i32⟩
  | 64 => ⟨S_, .i32⟩
  | 65 => ⟨S1x128x1, .i32⟩
  | 66 => ⟨S1x128x1, .i32⟩
  | 67 => ⟨S_, .i32⟩
  | 68 => ⟨S1x128x1, .i32⟩
  | 69 => ⟨S1x128x1, .i32⟩
  | 70 => ⟨S_, .i32⟩
  | 71 => ⟨S1x1x1024, .i32⟩
  | 72 => ⟨S1x1x1024, .i32⟩
  | 73 => ⟨S_, .i32⟩
  | 74 => ⟨S2x1x1, .i32⟩
  | 75 => ⟨S2x1x1, .i32⟩
  | 76 => ⟨S2x1x1024, .i32⟩
  | 77 => ⟨S2x1x1024, .i32⟩
  | 78 => ⟨S2x1x1024, .i32⟩
  | 79 => ⟨S_, .i32⟩
  | 80 => ⟨S2x1x1024, .i32⟩
  | 81 => ⟨S2x1x1024, .i32⟩
  | 82 => ⟨S_, .i32⟩
  | 83 => ⟨S1x1x1024, .i32⟩
  | 84 => ⟨S1x1x1024, .i32⟩
  | 85 => ⟨S_, .i32⟩
  | 86 => ⟨S1x1x1024, .i32⟩
  | 87 => ⟨S1x1x1024, .i32⟩
  | 88 => ⟨S2x128x1024, .i32⟩
  | 89 => ⟨S2x128x1024, .i32⟩
  | 90 => ⟨S2x128x1024, .i32⟩
  | 91 => ⟨S_, .i32⟩
  | 92 => ⟨S2x128x1024, .i32⟩
  | 93 => ⟨S2x128x1024, .i32⟩
  | 94 => ⟨S2x128x1024, .i32⟩
  | 95 => ⟨S_, .i32⟩
  | 96 => ⟨S2x128x1024, .i32⟩
  | 97 => ⟨S2x128x1024, .i32⟩
  | 98 => ⟨S2x128x1024, .i32⟩
  | 99 => ⟨S_, .i32⟩
  | 100 => ⟨S2x128x1024, .i32⟩
  | 101 => ⟨S2x128x1024, .i32⟩
  | 102 => ⟨S_, .i32⟩
  | 103 => ⟨S2x128x1024, .i32⟩
  | 104 => ⟨S2x128x1024, .i32⟩
  | 105 => ⟨S_, .i32⟩
  | 106 => ⟨S2x128x1024, .i32⟩
  | 107 => ⟨S2x128x1024, .i32⟩
  | 108 => ⟨S2x128x1024, .f32⟩
  | 109 => ⟨S_, .i32⟩
  | 110 => ⟨S2x1x1024, .i32⟩
  | 111 => ⟨S2x1x1024, .i1⟩
  | 112 => ⟨S_, .i32⟩
  | 113 => ⟨S2x1x1024, .i32⟩
  | 114 => ⟨S2x1x1024, .i1⟩
  | 115 => ⟨S2x1x1024, .i1⟩
  | 116 => ⟨S2x128x1024, .i32⟩
  | 117 => ⟨S2x128x1024, .i32⟩
  | 118 => ⟨S2x128x1024, .i32⟩
  | 119 => ⟨S2x128x1024, .i32⟩
  | 120 => ⟨S2x128x1024, .i1⟩
  | 121 => ⟨S2x128x1024, .i1⟩
  | 122 => ⟨S2x128x1024, .i1⟩
  | 123 => ⟨S_, .f32⟩
  | 124 => ⟨S2x128x1024, .f32⟩
  | 125 => ⟨S2x128x1024, .f32⟩
  | 126 => ⟨S_, .f32⟩
  | 127 => ⟨S_, .f32⟩
  | _ => ⟨S3x1x12288, .bf16⟩

abbrev hbmTy0_1 (i : Nat) : BufTy := match i % 128 with
  | 0 => ⟨S2x128x1024, .f32⟩
  | 1 => ⟨S2x128x1024, .f32⟩
  | 2 => ⟨S1x128x1024, .i32⟩
  | 3 => ⟨S1x128x1024, .i32⟩
  | 4 => ⟨S1x128x1024, .i1⟩
  | 5 => ⟨S_, .f32⟩
  | 6 => ⟨S_, .f32⟩
  | 7 => ⟨S2x128x1024, .i1⟩
  | 8 => ⟨S2x128x1024, .f32⟩
  | 9 => ⟨S2x128x1024, .f32⟩
  | 10 => ⟨S2x128x1024, .bf16⟩
  | 11 => ⟨S2, .i32⟩
  | 12 => ⟨S2x1x1, .i32⟩
  | 13 => ⟨S128, .i32⟩
  | 14 => ⟨S1x128x1, .i32⟩
  | 15 => ⟨S_, .i32⟩
  | 16 => ⟨S1x128x1, .i32⟩
  | 17 => ⟨S1x128x1, .i32⟩
  | 18 => ⟨S_, .i32⟩
  | 19 => ⟨S1x128x1, .i32⟩
  | 20 => ⟨S1x128x1, .i1⟩
  | 21 => ⟨S_, .i32⟩
  | 22 => ⟨S1x128x1, .i32⟩
  | 23 => ⟨S1x128x1, .i32⟩
  | 24 => ⟨S_, .i32⟩
  | 25 => ⟨S1x128x1, .i32⟩
  | 26 => ⟨S1x128x1, .i32⟩
  | 27 => ⟨S2x128x1, .i32⟩
  | 28 => ⟨S2x128x1, .i32⟩
  | 29 => ⟨S2x128x1, .i1⟩
  | 30 => ⟨S2x128x1, .i1⟩
  | 31 => ⟨S2x128x1, .i1⟩
  | 32 => ⟨S_, .f32⟩
  | 33 => ⟨S_, .f32⟩
  | 34 => ⟨S2x128x1, .f32⟩
  | 35 => ⟨S2x128x1, .f32⟩
  | 36 => ⟨S2x128x1, .f32⟩
  | 37 => ⟨S2x128x128, .f32⟩
  | 38 => ⟨S2x128x128, .bf16⟩
  | 39 => ⟨S8, .i32⟩
  | 40 => ⟨S8x1, .i32⟩
  | 41 => ⟨S1024, .i32⟩
  | 42 => ⟨S1x1024, .i32⟩
  | 43 => ⟨S_, .i32⟩
  | 44 => ⟨S1x1024, .i32⟩
  | 45 => ⟨S1x1024, .i32⟩
  | 46 => ⟨S_, .i32⟩
  | 47 => ⟨S1x1024, .i32⟩
  | 48 => ⟨S1x1024, .i32⟩
  | 49 => ⟨S_, .i32⟩
  | 50 => ⟨S8x1, .i32⟩
  | 51 => ⟨S8x1, .i32⟩
  | 52 => ⟨S8x1024, .i32⟩
  | 53 => ⟨S8x1024, .i32⟩
  | 54 => ⟨S8x1024, .i1⟩
  | 55 => ⟨S_, .i32⟩
  | 56 => ⟨S1x1024, .i32⟩
  | 57 => ⟨S1x1024, .i32⟩
  | 58 => ⟨S_, .i32⟩
  | 59 => ⟨S8x1, .i32⟩
  | 60 => ⟨S8x1, .i32⟩
  | 61 => ⟨S8x1024, .i32⟩
  | 62 => ⟨S8x1024, .i32⟩
  | 63 => ⟨S8x1024, .i1⟩
  | 64 => ⟨S8x1024, .i1⟩
  | 65 => ⟨S_, .f32⟩
  | 66 => ⟨S_, .f32⟩
  | 67 => ⟨S8x1024, .f32⟩
  | 68 => ⟨S8x1024, .f32⟩
  | 69 => ⟨S8x1024, .f32⟩
  | 70 => ⟨S8x1024, .f32⟩
  | 71 => ⟨S288x128, .bf16⟩
  | 72 => ⟨S9x3x4x256, .f32⟩
  | 73 => ⟨S288x512, .i8⟩
  | 74 => ⟨S288x128, .f32⟩
  | 75 => ⟨S3x9x256x4, .f32⟩
  | 76 => ⟨S3x1x9216, .f32⟩
  | 77 => ⟨S3x1x9216, .bf16⟩
  | 78 => ⟨S3x96x2x2x16x8, .i8⟩
  | 79 => ⟨S3x96x2x8x2x16, .i8⟩
  | 80 => ⟨S3x1x3072x16, .i8⟩
  | 81 => ⟨S288x1, .f32⟩
  | 82 => ⟨S288, .f32⟩
  | 83 => ⟨S3x1x96, .f32⟩
  | _ => ⟨S3x1x12288, .bf16⟩

abbrev hbmTy (i : Nat) : BufTy := match i / 128 with
  | 0 => hbmTy0_0 i
  | 1 => hbmTy0_1 i
  | _ => ⟨S3x1x12288, .bf16⟩

abbrev bufTy : (tb : Table) → Fin (tcTables nBuf tb) → BufTy
  | .hbm, ⟨i, _⟩ => hbmTy i
  | .local _ .vmem, ⟨0, _⟩ => ⟨S288x128, .bf16⟩
  | .local _ .vmem, ⟨1, _⟩ => ⟨S4x128x512, .bf16⟩
  | .local _ .vmem, ⟨2, _⟩ => ⟨S2x128x1024, .bf16⟩
  | .local _ .vmem, ⟨3, _⟩ => ⟨S2x128x128, .bf16⟩
  | .local _ .vmem, ⟨4, _⟩ => ⟨S8x1024, .f32⟩
  | .local _ .vmem, ⟨5, _⟩ => ⟨S4x1024x512, .i8⟩
  | .local _ .vmem, ⟨6, _⟩ => ⟨S4x1024x512, .i8⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x3x4x256, .f32⟩
  | .local _ .vmem, ⟨12, _⟩ => ⟨S1x3x4x256, .f32⟩
  | .local _ .vmem, ⟨13, _⟩ => ⟨S288x512, .i8⟩
  | .local _ .vmem, ⟨14, _⟩ => ⟨S288x128, .f32⟩
  | .local _ .vmem, ⟨15, _⟩ => ⟨S192x32x1024, .bf16⟩
  | .local _ .vmem, ⟨16, _⟩ => ⟨S2x288x1024, .f32⟩
  | .local _ .vmem, ⟨17, _⟩ => ⟨S192x3x8x128, .f32⟩
  | .local _ .vmem, ⟨18, _⟩ => ⟨S2x2x288x128, .f32⟩
  | .local _ .vmem, ⟨19, _⟩ => ⟨S2x512x128, .f32⟩
  | .local _ .vmem, ⟨20, _⟩ => ⟨S2x512x128, .f32⟩
  | .local _ .vmem, ⟨21, _⟩ => ⟨S4x128x256, .i32⟩
  | .local _ .vmem, ⟨22, _⟩ => ⟨S3x8x256, .f32⟩
  | _, _ => ⟨S3x1x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_c_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_c_19 : Ref sig .tc := ⟨.hbm, 102, rfl⟩
abbrev main_v74 : Ref sig .tc := ⟨.hbm, 103, rfl⟩
abbrev main_v75 : Ref sig .tc := ⟨.hbm, 104, rfl⟩
abbrev main_c_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_21 : Ref sig .tc := ⟨.hbm, 109, rfl⟩
abbrev main_v79 : Ref sig .tc := ⟨.hbm, 110, rfl⟩
abbrev main_v80 : Ref sig .tc := ⟨.hbm, 111, rfl⟩
abbrev main_c_22 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_23 : Ref sig .tc := ⟨.hbm, 123, rfl⟩
abbrev main_v91 : Ref sig .tc := ⟨.hbm, 124, rfl⟩
abbrev main_v92 : Ref sig .tc := ⟨.hbm, 125, rfl⟩
abbrev main_cst_24 : Ref sig .tc := ⟨.hbm, 126, rfl⟩
abbrev main_call1_v0 : Ref sig .tc := ⟨.hbm, 127, rfl⟩
abbrev main_call1_v1 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_25 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_26 : Ref sig .tc := ⟨.hbm, 143, rfl⟩
abbrev main_v103 : Ref sig .tc := ⟨.hbm, 144, rfl⟩
abbrev main_v104 : Ref sig .tc := ⟨.hbm, 145, rfl⟩
abbrev main_c_27 : Ref sig .tc := ⟨.hbm, 146, rfl⟩
abbrev main_v105 : Ref sig .tc := ⟨.hbm, 147, rfl⟩
abbrev main_v106 : Ref sig .tc := ⟨.hbm, 148, rfl⟩
abbrev main_c_28 : Ref sig .tc := ⟨.hbm, 149, rfl⟩
abbrev main_v107 : Ref sig .tc := ⟨.hbm, 150, rfl⟩
abbrev main_v108 : Ref sig .tc := ⟨.hbm, 151, rfl⟩
abbrev main_c_29 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_30 : Ref sig .tc := ⟨.hbm, 160, rfl⟩
abbrev main_cst_31 : Ref sig .tc := ⟨.hbm, 161, rfl⟩
abbrev main_call3_v0 : Ref sig .tc := ⟨.hbm, 162, rfl⟩
abbrev main_call3_v1 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_32 : Ref sig .tc := ⟨.hbm, 171, rfl⟩
abbrev main_v123 : Ref sig .tc := ⟨.hbm, 172, rfl⟩
abbrev main_v124 : Ref sig .tc := ⟨.hbm, 173, rfl⟩
abbrev main_c_33 : Ref sig .tc := ⟨.hbm, 174, rfl⟩
abbrev main_v125 : Ref sig .tc := ⟨.hbm, 175, rfl⟩
abbrev main_v126 : Ref sig .tc := ⟨.hbm, 176, rfl⟩
abbrev main_c_34 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_c_35 : Ref sig .tc := ⟨.hbm, 183, rfl⟩
abbrev main_v132 : Ref sig .tc := ⟨.hbm, 184, rfl⟩
abbrev main_v133 : Ref sig .tc := ⟨.hbm, 185, rfl⟩
abbrev main_c_36 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_37 : Ref sig .tc := ⟨.hbm, 193, rfl⟩
abbrev main_cst_38 : Ref sig .tc := ⟨.hbm, 194, rfl⟩
abbrev main_call4_v0 : Ref sig .tc := ⟨.hbm, 195, rfl⟩
abbrev main_call4_v1 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143_0 : Ref sig .tc := ⟨.hbm, 200, rfl⟩
abbrev main_v143_1 : Ref sig .tc := ⟨.hbm, 201, rfl⟩
abbrev main_v143_2 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![9, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_176 : BitVec 32 := 0#32
  let c96_i32 : BitVec 32 := 96#32
  let v200 : BitVec 32 := Scalar.addi c0_i32_176 c96_i32
  let c1_i32_177 : BitVec 32 := 1#32
  ⟨c0_i32_176, v200, c1_i32_177⟩
def k0_off1 (k0_t1 : Fin k0_t1_loop.trips) (c0_i32_179 : BitVec 32) : Fin 3 → Nat :=
  let c0_180 : Index := 0#32
  let c0_i32_176 : BitVec 32 := 0#32
  let c1_i32_177 : BitVec 32 := 1#32
  let arg21 : BitVec 32 := Scf.iv c0_i32_176 c1_i32_177 k0_t1
  let v201 : BitVec 32 := Scalar.addi c0_i32_179 arg21
  let v202 : Index := Scalar.indexCast v201
  let c0_181 : Index := 0#32
  ![0, v202.toNat, 0]
def k0_off2 (k0_t1 : Fin k0_t1_loop.trips) (c0_i32_179 : BitVec 32) : Fin 4 → Nat :=
  let c0_182 : Index := 0#32
  let c0_183 : Index := 0#32
  let c0_i32_176 : BitVec 32 := 0#32
  let c1_i32_177 : BitVec 32 := 1#32
  let arg21 : BitVec 32 := Scf.iv c0_i32_176 c1_i32_177 k0_t1
  let v201 : BitVec 32 := Scalar.addi c0_i32_179 arg21
  let v207 : Index := Scalar.indexCast v201
  let c0_184 : Index := 0#32
  ![0, 0, v207.toNat, 0]
def k0_off3 (k0_t1 : Fin k0_t1_loop.trips) (c0_i32_179 : BitVec 32) : Fin 4 → Nat :=
  let c0_185 : Index := 0#32
  let c1_186 : Index := 1#32
  let c0_i32_176 : BitVec 32 := 0#32
  let c1_i32_177 : BitVec 32 := 1#32
  let arg21 : BitVec 32 := Scf.iv c0_i32_176 c1_i32_177 k0_t1
  let v201 : BitVec 32 := Scalar.addi c0_i32_179 arg21
  let v212 : Index := Scalar.indexCast v201
  let c0_187 : Index := 0#32
  ![0, 1, v212.toNat, 0]
def k0_off4 (k0_t1 : Fin k0_t1_loop.trips) (c0_i32_190 : BitVec 32) : Fin 4 → Nat :=
  let c2_i32_189 : BitVec 32 := 2#32
  let c0_i32_176 : BitVec 32 := 0#32
  let c1_i32_177 : BitVec 32 := 1#32
  let arg21 : BitVec 32 := Scf.iv c0_i32_176 c1_i32_177 k0_t1
  let v220 : BitVec 32 := Scalar.muli c2_i32_189 arg21
  let v221 : BitVec 32 := Scalar.addi v220 c0_i32_190
  let v222 : Index := Scalar.indexCast v221
  let c0_191 : Index := 0#32
  let c0_192 : Index := 0#32
  let c0_193 : Index := 0#32
  ![v222.toNat, 0, 0, 0]
def k0_off5 (k0_t1 : Fin k0_t1_loop.trips) (c0_i32_205 : BitVec 32) : Fin 4 → Nat :=
  let c2_i32_204 : BitVec 32 := 2#32
  let c0_i32_176 : BitVec 32 := 0#32
  let c1_i32_177 : BitVec 32 := 1#32
  let arg21 : BitVec 32 := Scf.iv c0_i32_176 c1_i32_177 k0_t1
  let v245 : BitVec 32 := Scalar.muli c2_i32_204 arg21
  let v246 : BitVec 32 := Scalar.addi v245 c0_i32_205
  let v247 : Index := Scalar.indexCast v246
  let c1_206 : Index := 1#32
  let c0_207 : Index := 0#32
  let c0_208 : Index := 0#32
  ![v247.toNat, 1, 0, 0]
def k0_off6 (k0_t1 : Fin k0_t1_loop.trips) (c0_i32_219 : BitVec 32) : Fin 4 → Nat :=
  let c2_i32_218 : BitVec 32 := 2#32
  let c0_i32_176 : BitVec 32 := 0#32
  let c1_i32_177 : BitVec 32 := 1#32
  let arg21 : BitVec 32 := Scf.iv c0_i32_176 c1_i32_177 k0_t1
  let v270 : BitVec 32 := Scalar.muli c2_i32_218 arg21
  let v271 : BitVec 32 := Scalar.addi v270 c0_i32_219
  let v272 : Index := Scalar.indexCast v271
  let c2_220 : Index := 2#32
  let c0_221 : Index := 0#32
  let c0_222 : Index := 0#32
  ![v272.toNat, 2, 0, 0]
def k0_off7 (k0_t1 : Fin k0_t1_loop.trips) (c0_i32_225 : BitVec 32) : Fin 3 → Nat :=
  let c2_i32_224 : BitVec 32 := 2#32
  let c0_i32_176 : BitVec 32 := 0#32
  let c1_i32_177 : BitVec 32 := 1#32
  let arg21 : BitVec 32 := Scf.iv c0_i32_176 c1_i32_177 k0_t1
  let v279 : BitVec 32 := Scalar.muli c2_i32_224 arg21
  let v280 : BitVec 32 := Scalar.addi v279 c0_i32_225
  let v281 : Index := Scalar.indexCast v280
  let c0_226 : Index := 0#32
  let c0_227 : Index := 0#32
  ![v281.toNat, 0, 0]
def k0_off8 (k0_t1 : Fin k0_t1_loop.trips) (c0_i32_228 : BitVec 32) : Fin 3 → Nat :=
  let c1_229 : Index := 1#32
  let c0_i32_176 : BitVec 32 := 0#32
  let c1_i32_177 : BitVec 32 := 1#32
  let arg21 : BitVec 32 := Scf.iv c0_i32_176 c1_i32_177 k0_t1
  let v285 : BitVec 32 := Scalar.addi c0_i32_228 arg21
  let v286 : Index := Scalar.indexCast v285
  let c0_230 : Index := 0#32
  ![1, v286.toNat, 0]
def k0_off9 (k0_t1 : Fin k0_t1_loop.trips) (c0_i32_228 : BitVec 32) : Fin 4 → Nat :=
  let c1_231 : Index := 1#32
  let c0_232 : Index := 0#32
  let c0_i32_176 : BitVec 32 := 0#32
  let c1_i32_177 : BitVec 32 := 1#32
  let arg21 : BitVec 32 := Scf.iv c0_i32_176 c1_i32_177 k0_t1
  let v285 : BitVec 32 := Scalar.addi c0_i32_228 arg21
  let v291 : Index := Scalar.indexCast v285
  let c0_233 : Index := 0#32
  ![1, 0, v291.toNat, 0]
def k0_off10 (k0_t1 : Fin k0_t1_loop.trips) (c0_i32_228 : BitVec 32) : Fin 4 → Nat :=
  let c1_234 : Index := 1#32
  let c1_235 : Index := 1#32
  let c0_i32_176 : BitVec 32 := 0#32
  let c1_i32_177 : BitVec 32 := 1#32
  let arg21 : BitVec 32 := Scf.iv c0_i32_176 c1_i32_177 k0_t1
  let v285 : BitVec 32 := Scalar.addi c0_i32_228 arg21
  let v296 : Index := Scalar.indexCast v285
  let c0_236 : Index := 0#32
  ![1, 1, v296.toNat, 0]
@[reducible] def k0_t2_loop : Scf.Loop 32 :=
  let c0_i32_76 : BitVec 32 := 0#32
  let c4_i32 : BitVec 32 := 4#32
  let v88 : BitVec 32 := Scalar.addi c0_i32_76 c4_i32
  let c1_i32 : BitVec 32 := 1#32
  ⟨c0_i32_76, v88, c1_i32⟩
def k0_mult1 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32 : BitVec 32 := 128#32
  let v92 : BitVec 32 := Scalar.muli arg21 c128_i32
  v92
def k0_off11 (k0_t2 : Fin k0_t2_loop.trips) : Fin 3 → Nat :=
  let c0_79 : Index := 0#32
  let c0_80 : Index := 0#32
  let c0_i32_76 : BitVec 32 := 0#32
  let c1_i32 : BitVec 32 := 1#32
  let arg21 : BitVec 32 := Scf.iv c0_i32_76 c1_i32 k0_t2
  let c128_i32 : BitVec 32 := 128#32
  let v92 : BitVec 32 := Scalar.muli arg21 c128_i32
  let v93 : BitVec 32 := v92
  let v94 : Index := Scalar.indexCast v93
  ![0, 0, v94.toNat]
def k0_mult2 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_84 : BitVec 32 := 128#32
  let v102 : BitVec 32 := Scalar.muli arg21 c128_i32_84
  v102
def k0_off12 (k0_t2 : Fin k0_t2_loop.trips) : Fin 3 → Nat :=
  let c0_85 : Index := 0#32
  let c512_86 : Index := 512#32
  let c0_i32_76 : BitVec 32 := 0#32
  let c1_i32 : BitVec 32 := 1#32
  let arg21 : BitVec 32 := Scf.iv c0_i32_76 c1_i32 k0_t2
  let c128_i32_84 : BitVec 32 := 128#32
  let v102 : BitVec 32 := Scalar.muli arg21 c128_i32_84
  let v103 : BitVec 32 := v102
  let v104 : Index := Scalar.indexCast v103
  ![0, 512, v104.toNat]
def k0_mult3 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_89 : BitVec 32 := 128#32
  let v112 : BitVec 32 := Scalar.muli arg21 c128_i32_89
  v112
def k0_off13 (k0_t2 : Fin k0_t2_loop.trips) : Fin 3 → Nat :=
  let c1_90 : Index := 1#32
  let c0_91 : Index := 0#32
  let c0_i32_76 : BitVec 32 := 0#32
  let c1_i32 : BitVec 32 := 1#32
  let arg21 : BitVec 32 := Scf.iv c0_i32_76 c1_i32 k0_t2
  let c128_i32_89 : BitVec 32 := 128#32
  let v112 : BitVec 32 := Scalar.muli arg21 c128_i32_89
  let v113 : BitVec 32 := v112
  let v114 : Index := Scalar.indexCast v113
  ![1, 0, v114.toNat]
def k0_mult4 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_95 : BitVec 32 := 128#32
  let v122 : BitVec 32 := Scalar.muli arg21 c128_i32_95
  v122
def k0_off14 (k0_t2 : Fin k0_t2_loop.trips) : Fin 3 → Nat :=
  let c1_96 : Index := 1#32
  let c512_97 : Index := 512#32
  let c0_i32_76 : BitVec 32 := 0#32
  let c1_i32 : BitVec 32 := 1#32
  let arg21 : BitVec 32 := Scf.iv c0_i32_76 c1_i32 k0_t2
  let c128_i32_95 : BitVec 32 := 128#32
  let v122 : BitVec 32 := Scalar.muli arg21 c128_i32_95
  let v123 : BitVec 32 := v122
  let v124 : Index := Scalar.indexCast v123
  ![1, 512, v124.toNat]
def k0_mult5 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_101 : BitVec 32 := 128#32
  let v132 : BitVec 32 := Scalar.muli arg21 c128_i32_101
  v132
def k0_off15 (k0_t2 : Fin k0_t2_loop.trips) : Fin 3 → Nat :=
  let c2_102 : Index := 2#32
  let c0_103 : Index := 0#32
  let c0_i32_76 : BitVec 32 := 0#32
  let c1_i32 : BitVec 32 := 1#32
  let arg21 : BitVec 32 := Scf.iv c0_i32_76 c1_i32 k0_t2
  let c128_i32_101 : BitVec 32 := 128#32
  let v132 : BitVec 32 := Scalar.muli arg21 c128_i32_101
  let v133 : BitVec 32 := v132
  let v134 : Index := Scalar.indexCast v133
  ![2, 0, v134.toNat]
def k0_mult6 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_107 : BitVec 32 := 128#32
  let v142 : BitVec 32 := Scalar.muli arg21 c128_i32_107
  v142
def k0_off16 (k0_t2 : Fin k0_t2_loop.trips) : Fin 3 → Nat :=
  let c2_108 : Index := 2#32
  let c512_109 : Index := 512#32
  let c0_i32_76 : BitVec 32 := 0#32
  let c1_i32 : BitVec 32 := 1#32
  let arg21 : BitVec 32 := Scf.iv c0_i32_76 c1_i32 k0_t2
  let c128_i32_107 : BitVec 32 := 128#32
  let v142 : BitVec 32 := Scalar.muli arg21 c128_i32_107
  let v143 : BitVec 32 := v142
  let v144 : Index := Scalar.indexCast v143
  ![2, 512, v144.toNat]
def k0_mult7 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_113 : BitVec 32 := 128#32
  let v152 : BitVec 32 := Scalar.muli arg21 c128_i32_113
  v152
def k0_off17 (k0_t2 : Fin k0_t2_loop.trips) : Fin 3 → Nat :=
  let c3_114 : Index := 3#32
  let c0_115 : Index := 0#32
  let c0_i32_76 : BitVec 32 := 0#32
  let c1_i32 : BitVec 32 := 1#32
  let arg21 : BitVec 32 := Scf.iv c0_i32_76 c1_i32 k0_t2
  let c128_i32_113 : BitVec 32 := 128#32
  let v152 : BitVec 32 := Scalar.muli arg21 c128_i32_113
  let v153 : BitVec 32 := v152
  let v154 : Index := Scalar.indexCast v153
  ![3, 0, v154.toNat]
def k0_mult8 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c128_i32_119 : BitVec 32 := 128#32
  let v162 : BitVec 32 := Scalar.muli arg21 c128_i32_119
  v162
def k0_off18 (k0_t2 : Fin k0_t2_loop.trips) : Fin 3 → Nat :=
  let c3_120 : Index := 3#32
  let c512_121 : Index := 512#32
  let c0_i32_76 : BitVec 32 := 0#32
  let c1_i32 : BitVec 32 := 1#32
  let arg21 : BitVec 32 := Scf.iv c0_i32_76 c1_i32 k0_t2
  let c128_i32_119 : BitVec 32 := 128#32
  let v162 : BitVec 32 := Scalar.muli arg21 c128_i32_119
  let v163 : BitVec 32 := v162
  let v164 : Index := Scalar.indexCast v163
  ![3, 512, v164.toNat]
def k0_off19 (i : grid0.Coords) (k0_t2 : Fin k0_t2_loop.trips) (c0_i32_125 : BitVec 32) : Fin 3 → Nat :=
  let arg1 : BitVec 32 := BitVec.ofNat 32 (i 1).val
  let c64_i32 : BitVec 32 := 64#32
  let v174 : BitVec 32 := Scalar.muli arg1 c64_i32
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let v173 : BitVec 32 := Scalar.addi v172 c0_i32_125
  let v175 : BitVec 32 := Scalar.addi v174 v173
  let v268 : Index := Scalar.indexCast v175
  let c0_159 : Index := 0#32
  let c0_160 : Index := 0#32
  ![v268.toNat, 0, 0]
def k0_mult9 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let c0_i32_125 : BitVec 32 := 0#32
  let v173 : BitVec 32 := Scalar.addi v172 c0_i32_125
  let c8_i32 : BitVec 32 := 8#32
  let v272 : BitVec 32 := Scalar.muli v173 c8_i32
  v272
def k0_off20 (k0_t2 : Fin k0_t2_loop.trips) (c0_i32_125 : BitVec 32) : Fin 3 → Nat :=
  let c0_161 : Index := 0#32
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let v173 : BitVec 32 := Scalar.addi v172 c0_i32_125
  let c8_i32 : BitVec 32 := 8#32
  let v272 : BitVec 32 := Scalar.muli v173 c8_i32
  let v273 : BitVec 32 := v272
  let v274 : Index := Scalar.indexCast v273
  let c0_162 : Index := 0#32
  ![0, v274.toNat, 0]
def k0_off21 (k0_t2 : Fin k0_t2_loop.trips) (c0_i32_125 : BitVec 32) : Fin 3 → Nat :=
  let c1_163 : Index := 1#32
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let v173 : BitVec 32 := Scalar.addi v172 c0_i32_125
  let c8_i32 : BitVec 32 := 8#32
  let v272 : BitVec 32 := Scalar.muli v173 c8_i32
  let v273 : BitVec 32 := v272
  let v277 : Index := Scalar.indexCast v273
  let c0_164 : Index := 0#32
  ![1, v277.toNat, 0]
def k0_off22 (i : grid0.Coords) (k0_t2 : Fin k0_t2_loop.trips) (c0_i32_125 : BitVec 32) : Fin 4 → Nat :=
  let arg1 : BitVec 32 := BitVec.ofNat 32 (i 1).val
  let c64_i32 : BitVec 32 := 64#32
  let v174 : BitVec 32 := Scalar.muli arg1 c64_i32
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let v173 : BitVec 32 := Scalar.addi v172 c0_i32_125
  let v175 : BitVec 32 := Scalar.addi v174 v173
  let v288 : Index := Scalar.indexCast v175
  let c0_169 : Index := 0#32
  let c0_170 : Index := 0#32
  let c0_171 : Index := 0#32
  ![v288.toNat, 0, 0, 0]
def k0_off23 (i : grid0.Coords) (k0_t2 : Fin k0_t2_loop.trips) (c0_i32_125 : BitVec 32) : Fin 4 → Nat :=
  let arg1 : BitVec 32 := BitVec.ofNat 32 (i 1).val
  let c64_i32 : BitVec 32 := 64#32
  let v174 : BitVec 32 := Scalar.muli arg1 c64_i32
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let v173 : BitVec 32 := Scalar.addi v172 c0_i32_125
  let v175 : BitVec 32 := Scalar.addi v174 v173
  let v296 : Index := Scalar.indexCast v175
  let c1_172 : Index := 1#32
  let c0_173 : Index := 0#32
  let c0_174 : Index := 0#32
  ![v296.toNat, 1, 0, 0]
def k0_off24 (i : grid0.Coords) (k0_t2 : Fin k0_t2_loop.trips) (c0_i32_125 : BitVec 32) : Fin 4 → Nat :=
  let arg1 : BitVec 32 := BitVec.ofNat 32 (i 1).val
  let c64_i32 : BitVec 32 := 64#32
  let v174 : BitVec 32 := Scalar.muli arg1 c64_i32
  let c0_i32_76 : BitVec 32 := 0#32
  let c1_i32 : BitVec 32 := 1#32
  let arg21 : BitVec 32 := Scf.iv c0_i32_76 c1_i32 k0_t2
  let c16_i32 : BitVec 32 := 16#32
  let v172 : BitVec 32 := Scalar.muli arg21 c16_i32
  let v173 : BitVec 32 := Scalar.addi v172 c0_i32_125
  let v175 : BitVec 32 := Scalar.addi v174 v173
  let v304 : Index := Scalar.indexCast v175
  let c2_175 : Index := 2#32
  let c0_176 : Index := 0#32
  let c0_177 : Index := 0#32
  ![v304.toNat, 2, 0, 0]
def k0_mult10 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_178 : BitVec 32 := 16#32
  let v312 : BitVec 32 := Scalar.muli arg21 c16_i32_178
  let c1_i32_179 : BitVec 32 := 1#32
  let v313 : BitVec 32 := Scalar.addi v312 c1_i32_179
  let c8_i32_219 : BitVec 32 := 8#32
  let v412 : BitVec 32 := Scalar.muli v313 c8_i32_219
  v412
def k0_off25 (i : grid0.Coords) (k0_t2 : Fin k0_t2_loop.trips) (c0_i32_239 : BitVec 32) (c0_i32_238 : BitVec 32) : Fin 2 → Nat :=
  let arg1 : BitVec 32 := BitVec.ofNat 32 (i 1).val
  let c32_i32 : BitVec 32 := 32#32
  let v455 : BitVec 32 := Scalar.muli arg1 c32_i32
  let c0_i32_76 : BitVec 32 := 0#32
  let c1_i32 : BitVec 32 := 1#32
  let arg21 : BitVec 32 := Scf.iv c0_i32_76 c1_i32 k0_t2
  let c8_i32_237 : BitVec 32 := 8#32
  let v456 : BitVec 32 := Scalar.muli arg21 c8_i32_237
  let v457 : BitVec 32 := Scalar.addi v455 v456
  let v458 : BitVec 32 := Scalar.addi v457 c0_i32_238
  let v459 : BitVec 32 := Scalar.addi c0_i32_239 v458
  let v460 : Index := Scalar.indexCast v459
  let c0_240 : Index := 0#32
  ![v460.toNat, 0]
def k0_mult11 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_261 : BitVec 32 := 16#32
  let v498 : BitVec 32 := Scalar.muli arg21 c16_i32_261
  let c2_i32_262 : BitVec 32 := 2#32
  let v499 : BitVec 32 := Scalar.addi v498 c2_i32_262
  let c8_i32_302 : BitVec 32 := 8#32
  let v598 : BitVec 32 := Scalar.muli v499 c8_i32_302
  v598
def k0_mult12 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_320 : BitVec 32 := 16#32
  let v638 : BitVec 32 := Scalar.muli arg21 c16_i32_320
  let c3_i32 : BitVec 32 := 3#32
  let v639 : BitVec 32 := Scalar.addi v638 c3_i32
  let c8_i32_360 : BitVec 32 := 8#32
  let v738 : BitVec 32 := Scalar.muli v639 c8_i32_360
  v738
def k0_mult13 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_405 : BitVec 32 := 16#32
  let v824 : BitVec 32 := Scalar.muli arg21 c16_i32_405
  let c4_i32_406 : BitVec 32 := 4#32
  let v825 : BitVec 32 := Scalar.addi v824 c4_i32_406
  let c8_i32_446 : BitVec 32 := 8#32
  let v924 : BitVec 32 := Scalar.muli v825 c8_i32_446
  v924
def k0_mult14 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_464 : BitVec 32 := 16#32
  let v964 : BitVec 32 := Scalar.muli arg21 c16_i32_464
  let c5_i32 : BitVec 32 := 5#32
  let v965 : BitVec 32 := Scalar.addi v964 c5_i32
  let c8_i32_504 : BitVec 32 := 8#32
  let v1064 : BitVec 32 := Scalar.muli v965 c8_i32_504
  v1064
def k0_mult15 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_549 : BitVec 32 := 16#32
  let v1150 : BitVec 32 := Scalar.muli arg21 c16_i32_549
  let c6_i32 : BitVec 32 := 6#32
  let v1151 : BitVec 32 := Scalar.addi v1150 c6_i32
  let c8_i32_589 : BitVec 32 := 8#32
  let v1250 : BitVec 32 := Scalar.muli v1151 c8_i32_589
  v1250
def k0_mult16 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_607 : BitVec 32 := 16#32
  let v1290 : BitVec 32 := Scalar.muli arg21 c16_i32_607
  let c7_i32 : BitVec 32 := 7#32
  let v1291 : BitVec 32 := Scalar.addi v1290 c7_i32
  let c8_i32_647 : BitVec 32 := 8#32
  let v1390 : BitVec 32 := Scalar.muli v1291 c8_i32_647
  v1390
def k0_mult17 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_692 : BitVec 32 := 16#32
  let v1476 : BitVec 32 := Scalar.muli arg21 c16_i32_692
  let c8_i32_693 : BitVec 32 := 8#32
  let v1477 : BitVec 32 := Scalar.addi v1476 c8_i32_693
  let c8_i32_733 : BitVec 32 := 8#32
  let v1576 : BitVec 32 := Scalar.muli v1477 c8_i32_733
  v1576
def k0_mult18 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_751 : BitVec 32 := 16#32
  let v1616 : BitVec 32 := Scalar.muli arg21 c16_i32_751
  let c9_i32 : BitVec 32 := 9#32
  let v1617 : BitVec 32 := Scalar.addi v1616 c9_i32
  let c8_i32_791 : BitVec 32 := 8#32
  let v1716 : BitVec 32 := Scalar.muli v1617 c8_i32_791
  v1716
def k0_mult19 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_836 : BitVec 32 := 16#32
  let v1802 : BitVec 32 := Scalar.muli arg21 c16_i32_836
  let c10_i32 : BitVec 32 := 10#32
  let v1803 : BitVec 32 := Scalar.addi v1802 c10_i32
  let c8_i32_876 : BitVec 32 := 8#32
  let v1902 : BitVec 32 := Scalar.muli v1803 c8_i32_876
  v1902
def k0_mult20 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_894 : BitVec 32 := 16#32
  let v1942 : BitVec 32 := Scalar.muli arg21 c16_i32_894
  let c11_i32 : BitVec 32 := 11#32
  let v1943 : BitVec 32 := Scalar.addi v1942 c11_i32
  let c8_i32_934 : BitVec 32 := 8#32
  let v2042 : BitVec 32 := Scalar.muli v1943 c8_i32_934
  v2042
def k0_mult21 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_979 : BitVec 32 := 16#32
  let v2128 : BitVec 32 := Scalar.muli arg21 c16_i32_979
  let c12_i32 : BitVec 32 := 12#32
  let v2129 : BitVec 32 := Scalar.addi v2128 c12_i32
  let c8_i32_1019 : BitVec 32 := 8#32
  let v2228 : BitVec 32 := Scalar.muli v2129 c8_i32_1019
  v2228
def k0_mult22 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_1037 : BitVec 32 := 16#32
  let v2268 : BitVec 32 := Scalar.muli arg21 c16_i32_1037
  let c13_i32 : BitVec 32 := 13#32
  let v2269 : BitVec 32 := Scalar.addi v2268 c13_i32
  let c8_i32_1077 : BitVec 32 := 8#32
  let v2368 : BitVec 32 := Scalar.muli v2269 c8_i32_1077
  v2368
def k0_mult23 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_1122 : BitVec 32 := 16#32
  let v2454 : BitVec 32 := Scalar.muli arg21 c16_i32_1122
  let c14_i32 : BitVec 32 := 14#32
  let v2455 : BitVec 32 := Scalar.addi v2454 c14_i32
  let c8_i32_1162 : BitVec 32 := 8#32
  let v2554 : BitVec 32 := Scalar.muli v2455 c8_i32_1162
  v2554
def k0_mult24 (k0_t2 : Fin k0_t2_loop.trips) : BitVec 32 :=
  let c0_i32_76 : BitVec 32 := 0#32
  let c1_i32 : BitVec 32 := 1#32
  let arg21 : BitVec 32 := Scf.iv c0_i32_76 c1_i32 k0_t2
  let c16_i32_1180 : BitVec 32 := 16#32
  let v2594 : BitVec 32 := Scalar.muli arg21 c16_i32_1180
  let c15_i32 : BitVec 32 := 15#32
  let v2595 : BitVec 32 := Scalar.addi v2594 c15_i32
  let c8_i32_1220 : BitVec 32 := 8#32
  let v2694 : BitVec 32 := Scalar.muli v2595 c8_i32_1220
  v2694
def k0_cond3 (i : grid0.Coords) : BitVec 1 :=
  let arg1 : BitVec 32 := BitVec.ofNat 32 (i 1).val
  let c2_i32 : BitVec 32 := 2#32
  let v89 : BitVec 1 := Scalar.cmpi .eq arg1 c2_i32
  let v90 : BitVec 32 := Scalar.extui v89
  let c0_i32_78 : BitVec 32 := 0#32
  let v91 : BitVec 1 := Scalar.cmpi .ne v90 c0_i32_78
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S288x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S288x512 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S288x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S3x1x12288 : Shape := ⟨3, ![3, 1, 12288]⟩
abbrev S4x9216x1536 : Shape := ⟨3, ![4, 9216, 1536]⟩
abbrev S9216x384 : Shape := ⟨2, ![9216, 384]⟩
abbrev S3x1x3072x4 : Shape := ⟨4, ![3, 1, 3072, 4]⟩
abbrev S16 : Shape := ⟨1, ![16]⟩
abbrev S16x1 : Shape := ⟨2, ![16, 1]⟩
abbrev S4 : Shape := ⟨1, ![4]⟩
abbrev S1x4 : Shape := ⟨2, ![1, 4]⟩
abbrev S16x4 : Shape := ⟨2, ![16, 4]⟩
abbrev S_ : Shape := ⟨0, ![]⟩
abbrev S3x1x3072x16 : Shape := ⟨4, ![3, 1, 3072, 16]⟩
abbrev S3x1x3072x1 : Shape := ⟨4, ![3, 1, 3072, 1]⟩
abbrev S1x1x1x16 : Shape := ⟨4, ![1, 1, 1, 16]⟩
abbrev S3x1x96x32x16 : Shape := ⟨5, ![3, 1, 96, 32, 16]⟩
abbrev S3x1x96 : Shape := ⟨3, ![3, 1, 96]⟩
abbrev S3x1x96x1x1 : Shape := ⟨5, ![3, 1, 96, 1, 1]⟩
abbrev S3x1x1536x2x16 : Shape := ⟨5, ![3, 1, 1536, 2, 16]⟩
abbrev S3x1x1536x1x16 : Shape := ⟨5, ![3, 1, 1536, 1, 16]⟩
abbrev S3x1x1536x16 : Shape := ⟨4, ![3, 1, 1536, 16]⟩
abbrev S1536 : Shape := ⟨1, ![1536]⟩
abbrev S4x9216x1536x1 : Shape := ⟨4, ![4, 9216, 1536, 1]⟩
abbrev S4x9216x1536x2 : Shape := ⟨4, ![4, 9216, 1536, 2]⟩
abbrev S3x1x4x9216x1536 : Shape := ⟨5, ![3, 1, 4, 9216, 1536]⟩
abbrev S3x1x4x9216x384x4 : Shape := ⟨6, ![3, 1, 4, 9216, 384, 4]⟩
abbrev S3x1x4x9216x384 : Shape := ⟨5, ![3, 1, 4, 9216, 384]⟩
abbrev S4x1x1 : Shape := ⟨3, ![4, 1, 1]⟩
abbrev S1x1x4x1x1 : Shape := ⟨5, ![1, 1, 4, 1, 1]⟩
abbrev S3x1x9216x384 : Shape := ⟨4, ![3, 1, 9216, 384]⟩
abbrev S3x1x3072 : Shape := ⟨3, ![3, 1, 3072]⟩
abbrev S3x1x384x8 : Shape := ⟨4, ![3, 1, 384, 8]⟩
abbrev S3x1x384 : Shape := ⟨3, ![3, 1, 384]⟩
abbrev S3x1x1x384 : Shape := ⟨4, ![3, 1, 1, 384]⟩
abbrev S1x1x9216x384 : Shape := ⟨4, ![1, 1, 9216, 384]⟩
abbrev S3x1x96x4 : Shape := ⟨4, ![3, 1, 96, 4]⟩
abbrev S3x1x9216 : Shape := ⟨3, ![3, 1, 9216]⟩

abbrev nBuf : Space → Nat
  | .hbm => 172
  | .vmem => 0
  | .smem => 0
  | _ => 0

abbrev hbmTy0_0 (i : Nat) : BufTy := match i % 128 with
  | 0 => ⟨S3x1x12288, .bf16⟩
  | 1 => ⟨S4x9216x1536, .i8⟩
  | 2 => ⟨S9216x384, .f32⟩
  | 3 => ⟨S9216x384, .f32⟩
  | 4 => ⟨S3x1x12288, .f32⟩
  | 5 => ⟨S3x1x3072x4, .f32⟩
  | 6 => ⟨S16, .i32⟩
  | 7 => ⟨S16x1, .i32⟩
  | 8 => ⟨S4, .i32⟩
  | 9 => ⟨S1x4, .i32⟩
  | 10 => ⟨S16x4, .i32⟩
  | 11 => ⟨S16x4, .i32⟩
  | 12 => ⟨S16x4, .i32⟩
  | 13 => ⟨S_, .i32⟩
  | 14 => ⟨S16x4, .i32⟩
  | 15 => ⟨S16x4, .i32⟩
  | 16 => ⟨S16x4, .f32⟩
  | 17 => ⟨S_, .f32⟩
  | 18 => ⟨S3x1x3072x16, .f32⟩
  | 19 => ⟨S16x1, .f32⟩
  | 20 => ⟨S16, .f32⟩
  | 21 => ⟨S3x1x3072x1, .f32⟩
  | 22 => ⟨S1x1x1x16, .f32⟩
  | 23 => ⟨S3x1x3072x16, .f32⟩
  | 24 => ⟨S3x1x3072x16, .f32⟩
  | 25 => ⟨S3x1x3072x16, .f32⟩
  | 26 => ⟨S3x1x3072x16, .f32⟩
  | 27 => ⟨S16x1, .f32⟩
  | 28 => ⟨S16, .f32⟩
  | 29 => ⟨S3x1x3072x1, .f32⟩
  | 30 => ⟨S1x1x1x16, .f32⟩
  | 31 => ⟨S3x1x3072x16, .f32⟩
  | 32 => ⟨S3x1x3072x16, .f32⟩
  | 33 => ⟨S3x1x3072x16, .f32⟩
  | 34 => ⟨S3x1x3072x16, .f32⟩
  | 35 => ⟨S16x1, .f32⟩
  | 36 => ⟨S16, .f32⟩
  | 37 => ⟨S3x1x3072x1, .f32⟩
  | 38 => ⟨S1x1x1x16, .f32⟩
  | 39 => ⟨S3x1x3072x16, .f32⟩
  | 40 => ⟨S3x1x3072x16, .f32⟩
  | 41 => ⟨S3x1x3072x16, .f32⟩
  | 42 => ⟨S3x1x3072x16, .f32⟩
  | 43 => ⟨S16x1, .f32⟩
  | 44 => ⟨S16, .f32⟩
  | 45 => ⟨S3x1x3072x1, .f32⟩
  | 46 => ⟨S1x1x1x16, .f32⟩
  | 47 => ⟨S3x1x3072x16, .f32⟩
  | 48 => ⟨S3x1x3072x16, .f32⟩
  | 49 => ⟨S3x1x3072x16, .f32⟩
  | 50 => ⟨S3x1x3072x16, .f32⟩
  | 51 => ⟨S3x1x96x32x16, .f32⟩
  | 52 => ⟨S3x1x96x32x16, .f32⟩
  | 53 => ⟨S_, .f32⟩
  | 54 => ⟨S3x1x96, .f32⟩
  | 55 => ⟨S_, .f32⟩
  | 56 => ⟨S3x1x96, .f32⟩
  | 57 => ⟨S3x1x96, .i1⟩
  | 58 => ⟨S_, .f32⟩
  | 59 => ⟨S3x1x96, .f32⟩
  | 60 => ⟨S3x1x96, .f32⟩
  | 61 => ⟨S_, .f32⟩
  | 62 => ⟨S_, .f32⟩
  | 63 => ⟨S3x1x96, .f32⟩
  | 64 => ⟨S3x1x96, .f32⟩
  | 65 => ⟨S3x1x96x1x1, .f32⟩
  | 66 => ⟨S3x1x96x32x16, .f32⟩
  | 67 => ⟨S3x1x96x32x16, .f32⟩
  | 68 => ⟨S3x1x96x32x16, .f32⟩
  | 69 => ⟨S_, .i32⟩
  | 70 => ⟨S_, .i32⟩
  | 71 => ⟨S_, .f32⟩
  | 72 => ⟨S3x1x96x32x16, .f32⟩
  | 73 => ⟨S3x1x96x32x16, .f32⟩
  | 74 => ⟨S_, .f32⟩
  | 75 => ⟨S3x1x96x32x16, .f32⟩
  | 76 => ⟨S3x1x96x32x16, .f32⟩
  | 77 => ⟨S3x1x96x32x16, .i32⟩
  | 78 => ⟨S3x1x96x32x16, .i8⟩
  | 79 => ⟨S3x1x3072x16, .i8⟩
  | 80 => ⟨S3x1x1536x2x16, .i8⟩
  | 81 => ⟨S3x1x1536x1x16, .i8⟩
  | 82 => ⟨S3x1x1536x16, .i8⟩
  | 83 => ⟨S3x1x1536x1x16, .i8⟩
  | 84 => ⟨S3x1x1536x16, .i8⟩
  | 85 => ⟨S4x9216x1536, .i32⟩
  | 86 => ⟨S_, .i32⟩
  | 87 => ⟨S4x9216x1536, .i32⟩
  | 88 => ⟨S4x9216x1536, .i32⟩
  | 89 => ⟨S_, .i32⟩
  | 90 => ⟨S4x9216x1536, .i32⟩
  | 91 => ⟨S4x9216x1536, .i32⟩
  | 92 => ⟨S1536, .i32⟩
  | 93 => ⟨S_, .i32⟩
  | 94 => ⟨S1536, .i32⟩
  | 95 => ⟨S1536, .i1⟩
  | 96 => ⟨S_, .i32⟩
  | 97 => ⟨S1536, .i32⟩
  | 98 => ⟨S1536, .i32⟩
  | 99 => ⟨S1536, .i32⟩
  | 100 => ⟨S_, .i32⟩
  | 101 => ⟨S4x9216x1536, .i32⟩
  | 102 => ⟨S4x9216x1536, .i1⟩
  | 103 => ⟨S_, .i32⟩
  | 104 => ⟨S4x9216x1536, .i32⟩
  | 105 => ⟨S4x9216x1536, .i32⟩
  | 106 => ⟨S4x9216x1536, .i32⟩
  | 107 => ⟨S4x9216x1536, .i32⟩
  | 108 => ⟨S4x9216x1536x1, .i32⟩
  | 109 => ⟨S4x9216x1536x1, .i32⟩
  | 110 => ⟨S4x9216x1536x2, .i32⟩
  | 111 => ⟨S3x1x4x9216x1536, .i8⟩
  | 112 => ⟨S_, .i32⟩
  | 113 => ⟨S1536, .i32⟩
  | 114 => ⟨S1536, .i1⟩
  | 115 => ⟨S_, .i32⟩
  | 116 => ⟨S1536, .i32⟩
  | 117 => ⟨S1536, .i32⟩
  | 118 => ⟨S1536, .i32⟩
  | 119 => ⟨S_, .i32⟩
  | 120 => ⟨S4x9216x1536, .i32⟩
  | 121 => ⟨S4x9216x1536, .i1⟩
  | 122 => ⟨S_, .i32⟩
  | 123 => ⟨S4x9216x1536, .i32⟩
  | 124 => ⟨S4x9216x1536, .i32⟩
  | 125 => ⟨S4x9216x1536, .i32⟩
  | 126 => ⟨S4x9216x1536, .i32⟩
  | 127 => ⟨S4x9216x1536x1, .i32⟩
  | _ => ⟨S3x1x12288, .bf16⟩

abbrev hbmTy0_1 (i : Nat) : BufTy := match i % 128 with
  | 0 => ⟨S4x9216x1536x1, .i32⟩
  | 1 => ⟨S4x9216x1536x2, .i32⟩
  | 2 => ⟨S3x1x4x9216x1536, .i8⟩
  | 3 => ⟨S3x1x4x9216x1536, .i32⟩
  | 4 => ⟨S3x1x4x9216x1536, .i32⟩
  | 5 => ⟨S3x1x4x9216x1536, .i32⟩
  | 6 => ⟨S3x1x4x9216x384x4, .i32⟩
  | 7 => ⟨S_, .i32⟩
  | 8 => ⟨S3x1x4x9216x384, .i32⟩
  | 9 => ⟨S4, .i32⟩
  | 10 => ⟨S_, .i32⟩
  | 11 => ⟨S4, .i32⟩
  | 12 => ⟨S4, .i32⟩
  | 13 => ⟨S4x1x1, .i32⟩
  | 14 => ⟨S1x1x4x1x1, .i32⟩
  | 15 => ⟨S3x1x4x9216x384, .i32⟩
  | 16 => ⟨S3x1x4x9216x384, .i32⟩
  | 17 => ⟨S_, .i32⟩
  | 18 => ⟨S3x1x9216x384, .i32⟩
  | 19 => ⟨S3x1x3072x1, .i8⟩
  | 20 => ⟨S3x1x3072, .i8⟩
  | 21 => ⟨S3x1x3072, .i32⟩
  | 22 => ⟨S3x1x384x8, .i32⟩
  | 23 => ⟨S_, .i32⟩
  | 24 => ⟨S3x1x384, .i32⟩
  | 25 => ⟨S3x1x9216x384, .f32⟩
  | 26 => ⟨S3x1x384, .f32⟩
  | 27 => ⟨S3x1x1x384, .f32⟩
  | 28 => ⟨S1x1x9216x384, .f32⟩
  | 29 => ⟨S3x1x9216x384, .f32⟩
  | 30 => ⟨S3x1x9216x384, .f32⟩
  | 31 => ⟨S3x1x9216x384, .f32⟩
  | 32 => ⟨S3x1x9216x384, .f32⟩
  | 33 => ⟨S3x1x96x4, .f32⟩
  | 34 => ⟨S3x1x384, .f32⟩
  | 35 => ⟨S3x1x1x384, .f32⟩
  | 36 => ⟨S1x1x9216x384, .f32⟩
  | 37 => ⟨S3x1x9216x384, .f32⟩
  | 38 => ⟨S3x1x9216x384, .f32⟩
  | 39 => ⟨S3x1x9216x384, .f32⟩
  | 40 => ⟨S3x1x9216x384, .f32⟩
  | 41 => ⟨S_, .f32⟩
  | 42 => ⟨S3x1x9216, .f32⟩
  | 43 => ⟨S3x1x9216, .bf16⟩
  | _ => ⟨S3x1x12288, .bf16⟩

abbrev hbmTy (i : Nat) : BufTy := match i / 128 with
  | 0 => hbmTy0_0 i
  | 1 => hbmTy0_1 i
  | _ => ⟨S3x1x12288, .bf16⟩

abbrev bufTy : (tb : Table) → Fin (tcTables nBuf tb) → BufTy
  | .hbm, ⟨i, _⟩ => hbmTy i
  | _, _ => ⟨S3x1x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_cst_3 : Ref sig .tc := ⟨.hbm, 61, rfl⟩
abbrev main_call0_v0 : Ref sig .tc := ⟨.hbm, 62, rfl⟩
abbrev main_call0_v1 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_4 : Ref sig .tc := ⟨.hbm, 69, rfl⟩
abbrev main_c_5 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_6 : Ref sig .tc := ⟨.hbm, 86, rfl⟩
abbrev main_v67 : Ref sig .tc := ⟨.hbm, 87, rfl⟩
abbrev main_v68 : Ref sig .tc := ⟨.hbm, 88, rfl⟩
abbrev main_c_7 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_8 : Ref sig .tc := ⟨.hbm, 93, rfl⟩
abbrev main_v72 : Ref sig .tc := ⟨.hbm, 94, rfl⟩
abbrev main_v73 : Ref sig .tc := ⟨.hbm, 95, rfl⟩
abbrev main_c_9 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_10 : Ref sig .tc := ⟨.hbm, 100, rfl⟩
abbrev main_v77 : Ref sig .tc := ⟨.hbm, 101, rfl⟩
abbrev main_v78 : Ref sig .tc := ⟨.hbm, 102, rfl⟩
abbrev main_c_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_12 : Ref sig .tc := ⟨.hbm, 112, rfl⟩
abbrev main_v87 : Ref sig .tc := ⟨.hbm, 113, rfl⟩
abbrev main_v88 : Ref sig .tc := ⟨.hbm, 114, rfl⟩
abbrev main_c_13 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_14 : Ref sig .tc := ⟨.hbm, 119, rfl⟩
abbrev main_v92 : Ref sig .tc := ⟨.hbm, 120, rfl⟩
abbrev main_v93 : Ref sig .tc := ⟨.hbm, 121, rfl⟩
abbrev main_c_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_16 : Ref sig .tc := ⟨.hbm, 135, rfl⟩
abbrev main_v106 : Ref sig .tc := ⟨.hbm, 136, rfl⟩
abbrev main_v107 : Ref sig .tc := ⟨.hbm, 137, rfl⟩
abbrev main_c_17 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_18 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_19 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_20 : Ref sig .tc := ⟨.hbm, 169, rfl⟩
abbrev main_v136 : Ref sig .tc := ⟨.hbm, 170, rfl⟩
abbrev main_v137 : Ref sig .tc := ⟨.hbm, 171, rfl⟩

abbrev nD : Nat := 1
abbrev τ : Topo := Topo.v7x

variable {F : FTy → Type} [FloatOps F]
-- ==== Proof.K.Loops.lean ====
module

public import proofs.«01_k».proof.Proof.Gen.Kernel.Skeleton
public import Idealize.ShloMosaic.Lib.Exec
public import Idealize.ShloMosaic.Lib.Tactic
public import Idealize.ShloMosaic.Lib.Pipeline.Kit

/-! The two counted loops of the kernel body, each by an invariant of its own.

The first loop (the tables of left-hand sides and zero points, 96 trips) writes pieces which do not depend on what the
two buffers held.  The second loop (four trips over the weight words of a point) fills its own transposed copy of the
words in every trip, so what a trip adds to the accumulator does not depend on what that copy held before: the
invariant says only that the copy is owned, and the accumulator follows the recursion `acc2`. -/

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-! ## The second loop -/

/-- Invariants of the second loop. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1)

/-- One trip's resources. -/
abbrev Trip_k0_t2 (c : Dev nD) (arg7 : Memref sig .tc .vmem S4x1024x512 .i8) (arg12 : Memref sig .tc .vmem S288x128 .f32) (arg13 : Memref sig .tc .vmem S192x32x1024 .bf16) (arg15 : Memref sig .tc .vmem S192x3x8x128 .f32) (arg17 : Memref sig .tc .vmem S2x512x128 .f32) (arg18 : Memref sig .tc .vmem S2x512x128 .f32) (arg19 : Memref sig .tc .vmem S4x128x256 .i32) (arg20 : Memref sig .tc .vmem S3x8x256 .f32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (f_arg19 : BufTy.Contents (Elt F) arg19.view.ty) (f_arg20 : BufTy.Contents (Elt F) arg20.view.ty) : sProp 𝕄G :=
  iprop((arg7.view.loc (c : Thread nD τ) ↦[arg7.view.set]{fullShare} X_arg7) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} f_arg19) ∗ (arg20.view.loc (c : Thread nD τ) ↦[arg20.view.set]{fullShare} f_arg20))

/-- One trip: the pieces it writes into the accumulator, a function of what the accumulator held. -/
def trip2 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (k : Fin k0_t2_loop.trips) :
    { L_arg20 : (BufTy.Contents (Elt F) arg20.view.ty → List (View.Piece (Elt F) S3x8x256 .f32)) // ∀ (E : Set ℕ) (f_arg19 : BufTy.Contents (Elt F) arg19.view.ty) (f_arg20 : BufTy.Contents (Elt F) arg20.view.ty),
      Trip_k0_t2 (F := F) c arg7 arg12 arg13 arg15 arg17 arg18 arg19 arg20 X_arg7 X_arg12 X_arg13 X_arg15 X_arg17 X_arg18 f_arg19 f_arg20
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 k PUnit.unit)
          (fun _ => iprop(∃ g_arg19, Trip_k0_t2 (F := F) c arg7 arg12 arg13 arg15 arg17 arg18 arg19 arg20 X_arg7 X_arg12 X_arg13 X_arg15 X_arg17 X_arg18 g_arg19 (arg20.view.writes (Elt F) f_arg20 (L_arg20 f_arg20)))) } := by
  have hk : k.val < 4 := Nat.lt_of_lt_of_le k.isLt k0_t2_abs.2.1
  refine ⟨?_, fun E f_arg19 f_arg20 => ?run⟩
  case run =>
    unfold k0_t2_body
    iintro ⟨HR_arg7, HR_arg12, HR_arg13, HR_arg15, HR_arg17, HR_arg18, HW_arg19, HW_arg20⟩
    sl_exec
    sl_step
    iexists _
    sl_close

/-- What the accumulator holds before trip `k`, from what it held when the loop began. -/
def acc2 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G : BufTy.Contents (Elt F) arg20.view.ty) : ℕ → BufTy.Contents (Elt F) arg20.view.ty
  | 0 => G
  | k + 1 => if h : k < k0_t2_loop.trips then
      arg20.view.writes (Elt F) (acc2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k) ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 ⟨k, h⟩).1 (acc2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k))
    else acc2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k

theorem acc2_succ (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G : BufTy.Contents (Elt F) arg20.view.ty) (k : Fin k0_t2_loop.trips) :
    acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G (k.val + 1)
      = arg20.view.writes (Elt F) (acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k.val) ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 k).1 (acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k.val)) := by
  rw [acc2.eq_2]; exact dif_pos k.isLt

/-- The invariant of the second loop before trip `k`. -/
abbrev inv2 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G : BufTy.Contents (Elt F) arg20.view.ty) (k : ℕ) (_u : PUnit) : sProp 𝕄G :=
  iprop((arg7.view.loc (c : Thread nD τ) ↦[arg7.view.set]{fullShare} X_arg7) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg17.view.loc (c : Thread nD τ) ↦[arg17.view.set]{fullShare} X_arg17) ∗ (arg18.view.loc (c : Thread nD τ) ↦[arg18.view.set]{fullShare} X_arg18) ∗ (∃ f, (arg19.view.loc (c : Thread nD τ) ↦[arg19.view.set]{fullShare} f)) ∗ (∃ f, (arg20.view.loc (c : Thread nD τ) ↦[arg20.view.set]{fullShare} f) ∗ ⌜f = acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k⌝))

set_option warn.classDefReducibility false in
/-- The second loop by its invariant. -/
@[sl_loop] def loop2 (𝒱 : Variants) (c : Dev nD) (bd : Option 𝒱.V) (E : Set ℕ) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G_arg20 : BufTy.Contents (Elt F) arg20.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 where
  inv := inv2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G_arg20
  step k acc := by
    iintro ⟨HR_arg7, HR_arg12, HR_arg13, HR_arg15, HR_arg17, HR_arg18, ⟨%f_arg19, HW_arg19⟩, ⟨%f_arg20, HW_arg20, %h_arg20⟩⟩
    iapply (wp_wand_r Idealize.ShloMosaic.frame (wpE (defs₀ (F := F)) 𝒱 (c : Thread nD τ) bd) E)
    isplitl [HR_arg7 HR_arg12 HR_arg13 HR_arg15 HR_arg17 HR_arg18 HW_arg19 HW_arg20]
    · iapply ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 k).2 E f_arg19 f_arg20)
      isplitl [HR_arg7]; · iexact HR_arg7
      isplitl [HR_arg12]; · iexact HR_arg12
      isplitl [HR_arg13]; · iexact HR_arg13
      isplitl [HR_arg15]; · iexact HR_arg15
      isplitl [HR_arg17]; · iexact HR_arg17
      isplitl [HR_arg18]; · iexact HR_arg18
      isplitl [HW_arg19]; · iexact HW_arg19
      iexact HW_arg20
    · iintro %_ ⟨%g, HR_arg7, HR_arg12, HR_arg13, HR_arg15, HR_arg17, HR_arg18, HW_arg19, HW_arg20⟩
      isplitl [HR_arg7]; · iexact HR_arg7
      isplitl [HR_arg12]; · iexact HR_arg12
      isplitl [HR_arg13]; · iexact HR_arg13
      isplitl [HR_arg15]; · iexact HR_arg15
      isplitl [HR_arg17]; · iexact HR_arg17
      isplitl [HR_arg18]; · iexact HR_arg18
      rw [acc2_succ]
      isplitl [HW_arg19]; · iexists _; iexact HW_arg19
      iexists _; isplitl [HW_arg20]; · iexact HW_arg20
      ipureintro; rw [h_arg20]

/-! ## The first loop -/

/-- Invariants of the first loop. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198)

/-- One trip's resources. -/
abbrev Trip_k0_t1 (c : Dev nD) (arg14 : Memref sig .tc .vmem S2x288x1024 .f32) (arg16 : Memref sig .tc .vmem S2x2x288x128 .f32) (arg13 : Memref sig .tc .vmem S192x32x1024 .bf16) (arg15 : Memref sig .tc .vmem S192x3x8x128 .f32) (X_arg14 : BufTy.Contents (Elt F) arg14.view.ty) (X_arg16 : BufTy.Contents (Elt F) arg16.view.ty) (f_arg13 : BufTy.Contents (Elt F) arg13.view.ty) (f_arg15 : BufTy.Contents (Elt F) arg15.view.ty) : sProp 𝕄G :=
  iprop((arg14.view.loc (c : Thread nD τ) ↦[arg14.view.set]{fullShare} X_arg14) ∗ (arg16.view.loc (c : Thread nD τ) ↦[arg16.view.set]{fullShare} X_arg16) ∗ (arg13.view.loc (c : Thread nD τ) ↦[arg13.view.set]{fullShare} f_arg13) ∗ (arg15.view.loc (c : Thread nD τ) ↦[arg15.view.set]{fullShare} f_arg15))

/-- One trip: the pieces it writes, of the inputs alone. -/
def trip1 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (k : Fin k0_t1_loop.trips) :
    Σ' (L_arg13 : List (View.Piece (Elt F) S192x32x1024 .bf16)) , { L_arg15 : List (View.Piece (Elt F) S192x3x8x128 .f32) // ∀ (E : Set ℕ) (f_arg13 : BufTy.Contents (Elt F) arg13.view.ty) (f_arg15 : BufTy.Contents (Elt F) arg15.view.ty),
      Trip_k0_t1 (F := F) c arg14 arg16 arg13 arg15 X_arg14 X_arg16 f_arg13 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 k PUnit.unit)
          (fun _ => Trip_k0_t1 (F := F) c arg14 arg16 arg13 arg15 X_arg14 X_arg16 (arg13.view.writes (Elt F) f_arg13 L_arg13) (arg15.view.writes (Elt F) f_arg15 L_arg15)) } := by
  have hk : k.val < 96 := Nat.lt_of_lt_of_le k.isLt k0_t1_abs.2.1
  refine ⟨?_, ?_, fun E f_arg13 f_arg15 => ?run⟩
  case run =>
    unfold k0_t1_body
    iintro ⟨HR_arg14, HR_arg16, HW_arg13, HW_arg15⟩
    sl_exec
    sl_step
    sl_close

/-- What buffer 13 holds before trip `k`, from what it held when the loop began. -/
def tab13 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) : ℕ → BufTy.Contents (Elt F) arg13.view.ty
  | 0 => G
  | k + 1 => if h : k < k0_t1_loop.trips then
      arg13.view.writes (Elt F) (tab13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 ⟨k, h⟩).1
    else tab13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k

theorem tab13_succ (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) (k : Fin k0_t1_loop.trips) :
    tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (k.val + 1)
      = arg13.view.writes (Elt F) (tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k.val) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).1 := by
  rw [tab13.eq_2]; exact dif_pos k.isLt

/-- What buffer 15 holds before trip `k`, from what it held when the loop began. -/
def tab15 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) : ℕ → BufTy.Contents (Elt F) arg15.view.ty
  | 0 => G
  | k + 1 => if h : k < k0_t1_loop.trips then
      arg15.view.writes (Elt F) (tab15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 ⟨k, h⟩).2.1
    else tab15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k

theorem tab15_succ (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) (k : Fin k0_t1_loop.trips) :
    tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (k.val + 1)
      = arg15.view.writes (Elt F) (tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k.val) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.1 := by
  rw [tab15.eq_2]; exact dif_pos k.isLt

/-- The invariant of the first loop before trip `k`. -/
abbrev inv1 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G_arg13 : BufTy.Contents (Elt F) arg13.view.ty) (G_arg15 : BufTy.Contents (Elt F) arg15.view.ty) (k : ℕ) (_u : PUnit) : sProp 𝕄G :=
  iprop((arg14.view.loc (c : Thread nD τ) ↦[arg14.view.set]{fullShare} X_arg14) ∗ (arg16.view.loc (c : Thread nD τ) ↦[arg16.view.set]{fullShare} X_arg16) ∗ (∃ f, (arg13.view.loc (c : Thread nD τ) ↦[arg13.view.set]{fullShare} f) ∗ ⌜f = tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G_arg13 k⌝) ∗ (∃ f, (arg15.view.loc (c : Thread nD τ) ↦[arg15.view.set]{fullShare} f) ∗ ⌜f = tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G_arg15 k⌝))

set_option warn.classDefReducibility false in
/-- The first loop by its invariant. -/
@[sl_loop] def loop1 (𝒱 : Variants) (c : Dev nD) (bd : Option 𝒱.V) (E : Set ℕ) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G_arg13 : BufTy.Contents (Elt F) arg13.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 where
  inv := inv1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G_arg13 G_arg15
  step k acc := by
    iintro ⟨HR_arg14, HR_arg16, ⟨%f_arg13, HW_arg13, %h_arg13⟩, ⟨%f_arg15, HW_arg15, %h_arg15⟩⟩
    iapply (wp_wand_r Idealize.ShloMosaic.frame (wpE (defs₀ (F := F)) 𝒱 (c : Thread nD τ) bd) E)
    isplitl [HR_arg14 HR_arg16 HW_arg13 HW_arg15]
    · iapply ((trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.2 E f_arg13 f_arg15)
      isplitl [HR_arg14]; · iexact HR_arg14
      isplitl [HR_arg16]; · iexact HR_arg16
      isplitl [HW_arg13]; · iexact HW_arg13
      iexact HW_arg15
    · iintro %_ ⟨HR_arg14, HR_arg16, HW_arg13, HW_arg15⟩
      isplitl [HR_arg14]; · iexact HR_arg14
      isplitl [HR_arg16]; · iexact HR_arg16
      rw [tab13_succ, tab15_succ]
      isplitl [HW_arg13]
      · iexists _; isplitl [HW_arg13]; · iexact HW_arg13
        ipureintro; rw [h_arg13]
      iexists _; isplitl [HW_arg15]; · iexact HW_arg15
      ipureintro; rw [h_arg15]

end Cert.Kernel.Gen

end
-- ==== Proof.K.Runs.lean ====
module

public import proofs.«01_k».proof.Proof.Gen.Kernel.Frame
public import proofs.«01_k».proof.Proof.K.Loops
public import Idealize.ShloMosaic.Lib.Pipeline.FrameBody
public import Idealize.ShloMosaic.Lib.Pipeline.FrameSuffix
public import Idealize.ShloMosaic.Lib.WordCmp

/-! What the runs of the body share: its branch conditions over the grid, where the output windows are idle, and the
buffers it is handed. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 3 % 9 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 27 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_1 : ∀ t : Fin cfg0.N, cond0_1 (grid0.coords t) ↔ t.val % 3 = 0 :=
  (fun t => by
    have ht : t.val < 27 := Nat.lt_of_lt_of_eq t.isLt N_0
    have e0 : (grid0.coords t 0).val = t.val / 3 % 9 := Pipeline.Grid.coords_val t 0 (by decide) rfl
    have e1 : (grid0.coords t 1).val = t.val / 1 % 3 := Pipeline.Grid.coords_val t 1 (by decide) rfl
    simp only [cond0_1, e0, e1]
    word_cmp
   : ∀ t : Fin grid0.N, cond0_1 (grid0.coords t) ↔ t.val % 3 = 0)

/-- The condition of the body's `scf.if` 2 (`k0_h3`), from the grid coordinates (the skeleton's scalar
    chain substituted). -/
abbrev cond0_2 (i : grid0.Coords) : Prop := k0_cond3 i = 1#1
/-- It holds at the points ≡ 2 (mod 3) — by arithmetic of the point. -/
theorem hcond0_2 : ∀ t : Fin cfg0.N, cond0_2 (grid0.coords t) ↔ t.val % 3 = 2 :=
  (fun t => by
    have ht : t.val < 27 := Nat.lt_of_lt_of_eq t.isLt N_0
    have e0 : (grid0.coords t 0).val = t.val / 3 % 9 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Output 9 is filled at the first point only. -/
theorem liveAt0_9_A : ∀ t : Fin cfg0.N, cond0_0 (grid0.coords t) → cfg0.idle 9 (grid0.coords t) = false := by decide +kernel
/-- At every other point it is idle. -/
theorem idleAt0_9 : ∀ t : Fin cfg0.N, ¬cond0_0 (grid0.coords t) → cfg0.idle 9 (grid0.coords t) = true := by decide +kernel
/-- Output 10 is filled at the first point only. -/
theorem liveAt0_10_A : ∀ t : Fin cfg0.N, cond0_0 (grid0.coords t) → cfg0.idle 10 (grid0.coords t) = false := by decide +kernel
/-- At every other point it is idle. -/
theorem idleAt0_10 : ∀ t : Fin cfg0.N, ¬cond0_0 (grid0.coords t) → cfg0.idle 10 (grid0.coords t) = true := by decide +kernel
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel
/-- At the points of case D the printed configuration (`Cfg.idle`) calls output 8 idle: the case stores nothing into it. -/
theorem idleAt0_8_D : ∀ t : Fin cfg0.N, ¬cond0_0 (grid0.coords t) → cond0_1 (grid0.coords t) → ¬cond0_2 (grid0.coords t) → cfg0.idle 8 (grid0.coords t) = true := by decide +kernel
/-- At the points of case D the pipeline does not write output 8's block back. -/
theorem noFlush0_8_D : ∀ t : Fin cfg0.N, ¬cond0_0 (grid0.coords t) → cond0_1 (grid0.coords t) → ¬cond0_2 (grid0.coords t) → (cfg0.win 8).flush t = false := by decide +kernel

/-! ## The kernel body on any staging memrefs: a subtype the run finds -/

/-- One staging buffer of output window 8, through which its contents are stated (`View.read_writes_of_cover`: the
    choice does not matter). -/
abbrev VO0_8 : View sig .tc .vmem S1x3x4x256 .f32 := (Memref.whole cc0_stg8_0 : Memref sig .tc .vmem S1x3x4x256 .f32).view
/-- One staging buffer of output window 9, through which its contents are stated (`View.read_writes_of_cover`: the
    choice does not matter). -/
abbrev VO0_9 : View sig .tc .vmem S288x512 .i8 := (Memref.whole cc0_stg9_0 : Memref sig .tc .vmem S288x512 .i8).view
/-- One staging buffer of output window 10, through which its contents are stated (`View.read_writes_of_cover`: the
    choice does not matter). -/
abbrev VO0_10 : View sig .tc .vmem S288x128 .f32 := (Memref.whole cc0_stg10_0 : Memref sig .tc .vmem S288x128 .f32).view
/-- Each window's current staging memref at point `t`, spelled as the pipeline passes it (`bodyAt0`), and its wholeness. -/
abbrev ms0_0 (t : Fin cfg0.N) : Memref sig .tc .vmem S288x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x4x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S288x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S288x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S192x32x1024 .bf16 := Memref.whole cc0_scratch0
abbrev scM0_1 : Memref sig .tc .vmem S2x288x1024 .f32 := Memref.whole cc0_scratch1
abbrev scM0_2 : Memref sig .tc .vmem S192x3x8x128 .f32 := Memref.whole cc0_scratch2
abbrev scM0_3 : Memref sig .tc .vmem S2x2x288x128 .f32 := Memref.whole cc0_scratch3
abbrev scM0_4 : Memref sig .tc .vmem S2x512x128 .f32 := Memref.whole cc0_scratch4
abbrev scM0_5 : Memref sig .tc .vmem S2x512x128 .f32 := Memref.whole cc0_scratch5
abbrev scM0_6 : Memref sig .tc .vmem S4x128x256 .i32 := Memref.whole cc0_scratch6
abbrev scM0_7 : Memref sig .tc .vmem S3x8x256 .f32 := Memref.whole cc0_scratch7
/-- The scratch `arg13` the kernel carries between points, as a view: what it holds is stated through it. -/
abbrev VS0_0 : View sig .tc .vmem S192x32x1024 .bf16 := scM0_0.view
/-- The scratch `arg15` the kernel carries between points, as a view: what it holds is stated through it. -/
abbrev VS0_2 : View sig .tc .vmem S192x3x8x128 .f32 := scM0_2.view
/-- The scratch `arg20` the kernel carries between points, as a view: what it holds is stated through it. -/
abbrev VS0_7 : View sig .tc .vmem S3x8x256 .f32 := scM0_7.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.K.Cover.lean ====
module

public import proofs.«01_k».proof.Proof.K.Runs

/-! The strided stores which transpose a block of scales fill their buffer, and so do the stores of the prologue. -/

@[expose] public section

set_option maxRecDepth 16384

noncomputable section

namespace Cert.Kernel.Gen

open Idealize.ShloMosaic Idealize.ShloMosaic.TcCoe

variable {F : FTy → Type} [FloatOps F]

/-- An index at a multiple of the stride from the offset lies in a strided rectangle. -/
theorem mem_rect {s : Shape} (r : Rect s) (y : s.Idx) (x : r.shape.Idx)
    (h : ∀ a, (y a).val = r.off a + r.stride a * (x a).val) : y ∈ r.set := by
  rw [← Rect.map_emb_univ]
  exact Finset.mem_map.2 ⟨x, Finset.mem_univ _, funext fun a => Fin.ext (h a).symm⟩

/-- Contents written over by pieces which cover the buffer do not depend on what it held. -/
theorem writes_covered {s : Shape} {e : EltTy} (M : Memref sig .tc .vmem s e) (h : M.IsWhole)
    (f : M.view.ty.Contents (Elt F)) (L : List (View.Piece (Elt F) s e)) (hc : ∀ y, ∃ p ∈ L, y ∈ p.1.set) :
    M.view.writes (Elt F) f L = h.unread (View.canon L) :=
  h.eq_unread (View.read_writes_eq_canon M.view f L hc)

/-- The list has a piece for every fourth row from row `b` of half `a`, for every `a` and `b`. -/
def Rows (L : List (View.Piece (Elt F) S2x512x128 .f32)) : Prop :=
  ∀ a < 2, ∀ b < 4, ∃ p ∈ L, p.1.off = ![a, b, 0] ∧ p.1.size = ![1, 128, 128] ∧ p.1.stride = ![1, 4, 1]

theorem Rows.cover {L : List (View.Piece (Elt F) S2x512x128 .f32)} (h : Rows L) (y : S2x512x128.Idx) :
    ∃ p ∈ L, y ∈ p.1.set := by
  have h0 : (y 0).val < 2 := (y 0).isLt
  have h1 : (y 1).val < 512 := (y 1).isLt
  have h2 : (y 2).val < 128 := (y 2).isLt
  obtain ⟨⟨⟨⟨off, size, stride, inb⟩, sp⟩, w⟩, hp, ho, hs, ht⟩ := h (y 0).val h0 ((y 1).val % 4) (by omega)
  dsimp only at ho hs ht
  subst ho hs ht
  refine ⟨_, hp, mem_rect _ y (fun a => ⟨(![0, (y 1).val / 4, (y 2).val] : Fin 3 → ℕ) a, ?_⟩) ?_⟩
  · fin_cases a
    · exact Nat.zero_lt_one
    · show (y 1).val / 4 < 128
      omega
    · exact h2
  · intro a
    fin_cases a
    · show (y 0).val = (y 0).val + 1 * 0
      omega
    · show (y 1).val = (y 1).val % 4 + 4 * ((y 1).val / 4)
      omega
    · show (y 2).val = 0 + 1 * (y 2).val
      omega

theorem rows_eight {i13 p13 w13 i12 p12 w12 i11 p11 w11 i10 p10 w10 i03 p03 w03 i02 p02 w02 i01 p01 w01 i00 p00 w00} : Rows (F := F) [
    ⟨⟨⟨![1, 3, 0], S1x128x128.size, ![1, 4, 1], i13⟩, p13⟩, w13⟩,
    ⟨⟨⟨![1, 2, 0], S1x128x128.size, ![1, 4, 1], i12⟩, p12⟩, w12⟩,
    ⟨⟨⟨![1, 1, 0], S1x128x128.size, ![1, 4, 1], i11⟩, p11⟩, w11⟩,
    ⟨⟨⟨![1, 0, 0], S1x128x128.size, ![1, 4, 1], i10⟩, p10⟩, w10⟩,
    ⟨⟨⟨![0, 3, 0], S1x128x128.size, ![1, 4, 1], i03⟩, p03⟩, w03⟩,
    ⟨⟨⟨![0, 2, 0], S1x128x128.size, ![1, 4, 1], i02⟩, p02⟩, w02⟩,
    ⟨⟨⟨![0, 1, 0], S1x128x128.size, ![1, 4, 1], i01⟩, p01⟩, w01⟩,
    ⟨⟨⟨![0, 0, 0], S1x128x128.size, ![1, 4, 1], i00⟩, p00⟩, w00⟩] := fun a ha b hb =>
  match a, ha, b, hb with
  | 0, _, 0, _ => ⟨_, .tail _ (.tail _ (.tail _ (.tail _ (.tail _ (.tail _ (.tail _ (.head _))))))), rfl, rfl, rfl⟩
  | 0, _, 1, _ => ⟨_, .tail _ (.tail _ (.tail _ (.tail _ (.tail _ (.tail _ (.head _)))))), rfl, rfl, rfl⟩
  | 0, _, 2, _ => ⟨_, .tail _ (.tail _ (.tail _ (.tail _ (.tail _ (.head _))))), rfl, rfl, rfl⟩
  | 0, _, 3, _ => ⟨_, .tail _ (.tail _ (.tail _ (.tail _ (.head _)))), rfl, rfl, rfl⟩
  | 1, _, 0, _ => ⟨_, .tail _ (.tail _ (.tail _ (.head _))), rfl, rfl, rfl⟩
  | 1, _, 1, _ => ⟨_, .tail _ (.tail _ (.head _)), rfl, rfl, rfl⟩
  | 1, _, 2, _ => ⟨_, .tail _ (.head _), rfl, rfl, rfl⟩
  | 1, _, 3, _ => ⟨_, .head _, rfl, rfl, rfl⟩
  | 0, _, b + 4, h => absurd h (by omega)
  | 1, _, b + 4, h => absurd h (by omega)
  | a + 2, h, _, _ => absurd h (by omega)

theorem writes_rows (M : Memref sig .tc .vmem S2x512x128 .f32) (h : M.IsWhole)
    (f : M.view.ty.Contents (Elt F)) (L : List (View.Piece (Elt F) S2x512x128 .f32)) (hc : Rows L) :
    M.view.writes (Elt F) f L = h.unread (View.canon L) :=
  writes_covered M h f L hc.cover

/-- Three blocks, one for each token, fill the result's block. -/
theorem cover_tokens {i2 w2 i1 w1 i0 w0} (y : S1x3x4x256.Idx) :
    ∃ p ∈ ([⟨Rect.unit ![0, 2, 0, 0] ![1, 1, 4, 256] i2, w2⟩, ⟨Rect.unit ![0, 1, 0, 0] ![1, 1, 4, 256] i1, w1⟩,
      ⟨Rect.unit ![0, 0, 0, 0] ![1, 1, 4, 256] i0, w0⟩] : List (View.Piece (Elt F) S1x3x4x256 .f32)), y ∈ p.1.set := by
  have h0 : (y 0).val < 1 := (y 0).isLt
  have h1 : (y 1).val < 3 := (y 1).isLt
  have key : ∀ (t : ℕ) (i : ∀ a, (![0, t, 0, 0] : Fin 4 → ℕ) a + (![1, 1, 4, 256] : Fin 4 → ℕ) a ≤ S1x3x4x256.size a),
      (y 1).val = t → y ∈ (Rect.unit ![0, t, 0, 0] ![1, 1, 4, 256] i).set := fun t i ht => by
    refine mem_rect _ y (fun a => ⟨(![0, 0, (y 2).val, (y 3).val] : Fin 4 → ℕ) a, ?_⟩) ?_
    · fin_cases a
      · exact Nat.zero_lt_one
      · exact Nat.zero_lt_one
      · exact (y 2).isLt
      · exact (y 3).isLt
    · intro a
      fin_cases a
      · show (y 0).val = 0 + 1 * 0
        omega
      · show (y 1).val = t + 1 * 0
        omega
      · show (y 2).val = 0 + 1 * (y 2).val
        omega
      · show (y 3).val = 0 + 1 * (y 3).val
        omega
  obtain h | h | h : (y 1).val = 0 ∨ (y 1).val = 1 ∨ (y 1).val = 2 := by omega
  · exact ⟨_, .tail _ (.tail _ (.head _)), key 0 i0 h⟩
  · exact ⟨_, .tail _ (.head _), key 1 i1 h⟩
  · exact ⟨_, .head _, key 2 i2 h⟩

end Cert.Kernel.Gen

end
-- ==== Proof.K.Tables.lean ====
module

public import proofs.«01_k».proof.Proof.K.Cover

/-! The first loop fills the two tables it writes. -/

@[expose] public section

set_option maxRecDepth 16384

noncomputable section

namespace Cert.Kernel.Gen

open Idealize.ShloMosaic Idealize.ShloMosaic.TcCoe

variable {F : FTy → Type} [FloatOps F]

/-- The pieces of the first `k` trips, the last trip's first. -/
def pile {α : Type} {n : ℕ} (L : Fin n → List α) : ℕ → List α
  | 0 => []
  | k + 1 => if h : k < n then L ⟨k, h⟩ ++ pile L k else pile L k

theorem mem_pile {α : Type} {n : ℕ} (L : Fin n → List α) (k : Fin n) {p : α} (hp : p ∈ L k) (m : ℕ) (hm : k.val < m) :
    p ∈ pile L m := by
  induction m with
  | zero => exact absurd hm (Nat.not_lt_zero _)
  | succ m ih =>
    rw [pile]
    split
    · rcases Nat.lt_succ_iff_lt_or_eq.1 hm with h | h
      · exact List.mem_append_right _ (ih h)
      · subst h; exact List.mem_append_left _ hp
    · exact ih (by have := k.isLt; omega)

theorem trips1 : Scf.trips k0_t1_loop.lb k0_t1_loop.ub k0_t1_loop.st = 96 := by decide +kernel

theorem trips1' : k0_t1_loop.trips = 96 := by decide +kernel

/-- The contents of the table after `k` trips are its first ones written over by the pieces of those trips. -/
theorem tab13_eq (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) (k : ℕ) :
    tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k
      = arg13.view.writes (Elt F) G (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).1) k) := by
  induction k with
  | zero => rfl
  | succ k ih =>
    rw [tab13.eq_2, pile]
    by_cases h : k < k0_t1_loop.trips
    · rw [dif_pos h, dif_pos h, View.writes_append, ih]
    · rw [dif_neg h, dif_neg h, ih]

/-- The contents of the table after `k` trips are its first ones written over by the pieces of those trips. -/
theorem tab15_eq (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) (k : ℕ) :
    tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k
      = arg15.view.writes (Elt F) G (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.1) k) := by
  induction k with
  | zero => rfl
  | succ k ih =>
    rw [tab15.eq_2, pile]
    by_cases h : k < k0_t1_loop.trips
    · rw [dif_pos h, dif_pos h, View.writes_append, ih]
    · rw [dif_neg h, dif_neg h, ih]

theorem off7 : ∀ (k : Fin k0_t1_loop.trips), k0_off7 k 0#32 = ![2 * k.val, 0, 0] ∧ k0_off7 k 1#32 = ![2 * k.val + 1, 0, 0] := by
  decide +kernel

theorem off456 : ∀ (k : Fin k0_t1_loop.trips),
    (k0_off4 k 0#32 = ![2 * k.val, 0, 0, 0] ∧ k0_off4 k 1#32 = ![2 * k.val + 1, 0, 0, 0]) ∧
    (k0_off5 k 0#32 = ![2 * k.val, 1, 0, 0] ∧ k0_off5 k 1#32 = ![2 * k.val + 1, 1, 0, 0]) ∧
    (k0_off6 k 0#32 = ![2 * k.val, 2, 0, 0] ∧ k0_off6 k 1#32 = ![2 * k.val + 1, 2, 0, 0]) := by
  decide +kernel

/-- A list with a piece for each of the two slabs of every trip fills the first table. -/
theorem slabs13 (L : Fin k0_t1_loop.trips → List (View.Piece (Elt F) S192x32x1024 .bf16))
    (h : ∀ k, ∀ o < 2, ∃ p ∈ L k, p.1.off = ![2 * k.val + o, 0, 0] ∧ p.1.size = ![1, 32, 1024] ∧ p.1.stride = fun _ => 1)
    (y : S192x32x1024.Idx) : ∃ p ∈ pile L 96, y ∈ p.1.set := by
  have h0 : (y 0).val < 192 := (y 0).isLt
  have ht := trips1'
  obtain ⟨⟨⟨⟨off, size, stride, inb⟩, sp⟩, w⟩, hp, ho, hs, ht⟩ :=
    h ⟨(y 0).val / 2, by omega⟩ ((y 0).val % 2) (by omega)
  dsimp only at ho hs ht
  subst ho hs ht
  refine ⟨_, mem_pile L _ hp 96 (show (y 0).val / 2 < 96 by omega),
    mem_rect _ y (fun a => ⟨(![0, (y 1).val, (y 2).val] : Fin 3 → ℕ) a, ?_⟩) ?_⟩
  · fin_cases a
    · exact Nat.zero_lt_one
    · exact (y 1).isLt
    · exact (y 2).isLt
  · intro a
    fin_cases a
    · show (y 0).val = 2 * ((y 0).val / 2) + (y 0).val % 2 + 1 * 0
      omega
    · show (y 1).val = 0 + 1 * (y 1).val
      omega
    · show (y 2).val = 0 + 1 * (y 2).val
      omega

/-- A list with a piece for each of the six slabs of every trip fills the second table. -/
theorem slabs15 (L : Fin k0_t1_loop.trips → List (View.Piece (Elt F) S192x3x8x128 .f32))
    (h : ∀ k, ∀ o < 2, ∀ t < 3, ∃ p ∈ L k, p.1.off = ![2 * k.val + o, t, 0, 0] ∧ p.1.size = ![1, 1, 8, 128] ∧ p.1.stride = fun _ => 1)
    (y : S192x3x8x128.Idx) : ∃ p ∈ pile L 96, y ∈ p.1.set := by
  have h0 : (y 0).val < 192 := (y 0).isLt
  have ht := trips1'
  obtain ⟨⟨⟨⟨off, size, stride, inb⟩, sp⟩, w⟩, hp, ho, hs, ht⟩ :=
    h ⟨(y 0).val / 2, by omega⟩ ((y 0).val % 2) (by omega) (y 1).val (y 1).isLt
  dsimp only at ho hs ht
  subst ho hs ht
  refine ⟨_, mem_pile L _ hp 96 (show (y 0).val / 2 < 96 by omega),
    mem_rect _ y (fun a => ⟨(![0, 0, (y 2).val, (y 3).val] : Fin 4 → ℕ) a, ?_⟩) ?_⟩
  · fin_cases a
    · exact Nat.zero_lt_one
    · exact Nat.zero_lt_one
    · exact (y 2).isLt
    · exact (y 3).isLt
  · intro a
    fin_cases a
    · show (y 0).val = 2 * ((y 0).val / 2) + (y 0).val % 2 + 1 * 0
      omega
    · show (y 1).val = (y 1).val + 1 * 0
      omega
    · show (y 2).val = 0 + 1 * (y 2).val
      omega
    · show (y 3).val = 0 + 1 * (y 3).val
      omega

/-- After the last trip the first table does not depend on what it held. -/
theorem tab13_full (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) :
    tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (Scf.trips k0_t1_loop.lb k0_t1_loop.ub k0_t1_loop.st)
      = harg13.unread (View.canon (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).1) 96)) := by
  rw [tab13_eq, trips1]
  refine writes_covered arg13 harg13 G _ (slabs13 _ fun k o ho => ?_)
  match o, ho with
  | 0, _ => exact ⟨_, .tail _ (.head _), (off7 k).1, rfl, rfl⟩
  | 1, _ => exact ⟨_, .head _, (off7 k).2, rfl, rfl⟩
  | o + 2, h => exact absurd h (by omega)

/-- After the last trip the second table does not depend on what it held. -/
theorem tab15_full (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) :
    tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (Scf.trips k0_t1_loop.lb k0_t1_loop.ub k0_t1_loop.st)
      = harg15.unread (View.canon (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.1) 96)) := by
  rw [tab15_eq, trips1]
  refine writes_covered arg15 harg15 G _ (slabs15 _ fun k o ho t ht => ?_)
  match o, ho, t, ht with
  | 0, _, 0, _ => exact ⟨_, .tail _ (.tail _ (.tail _ (.tail _ (.tail _ (.head _))))), (off456 k).1.1, rfl, rfl⟩
  | 0, _, 1, _ => exact ⟨_, .tail _ (.tail _ (.tail _ (.tail _ (.head _)))), (off456 k).2.1.1, rfl, rfl⟩
  | 0, _, 2, _ => exact ⟨_, .tail _ (.tail _ (.tail _ (.head _))), (off456 k).2.2.1, rfl, rfl⟩
  | 1, _, 0, _ => exact ⟨_, .tail _ (.tail _ (.head _)), (off456 k).1.2, rfl, rfl⟩
  | 1, _, 1, _ => exact ⟨_, .tail _ (.head _), (off456 k).2.1.2, rfl, rfl⟩
  | 1, _, 2, _ => exact ⟨_, .head _, (off456 k).2.2.2, rfl, rfl⟩
  | o + 2, h, _, _ => exact absurd h (by omega)
  | 0, _, t + 3, h => exact absurd h (by omega)
  | 1, _, t + 3, h => exact absurd h (by omega)

end Cert.Kernel.Gen

end
-- ==== Proof.K.RunA.lean ====
module

public import proofs.«01_k».proof.Proof.K.Tables

/-! The run of the body at the first point: the prologue, then a trip over the first block of words. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_A (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : cond0_0 i) (hc1 : cond0_1 i) (hc2 : ¬cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) :
    Σ' (v9 : Vec F S288x512 .i8), Σ' (v10 : Vec F S288x128 .f32), Σ' (vlhs : Vec F S192x32x1024 .bf16), Σ' (vzp : Vec F S192x3x8x128 .f32), { vacc : Vec F S3x8x256 .f32 //
      ∀ (E : Set ℕ) (d8 : Vec F S1x3x4x256 .f32) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare v9 ∗ owns (c : Thread nD τ) arg12 fullShare v10 ∗ owns (c : Thread nD τ) arg13 fullShare vlhs ∗ (∃ d, owns (c : Thread nD τ) arg14 fullShare d) ∗ owns (c : Thread nD τ) arg15 fullShare vzp ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E d8 K => ?run⟩
  case run =>
    simp only [cc0_tmac_linear_eq_skeleton]; unfold cc0_tmac_linear_skel
    simp only [k0_part74_eq_skeleton, k0_part75_eq_skeleton, k0_part76_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      rfl
    isplitl [H12]
    · iexists _; isplitr; swap; · iexact H12
      ipureintro
      rfl
    isplitl [H13]
    · iexists _; isplitr; swap; · iexact H13
      ipureintro
      rw [tab13_full]
    isplitl [H14]
    · iexists _, _; isplitr; swap; · iexact H14
      ipureintro; rfl
    isplitl [H15]
    · iexists _; isplitr; swap; · iexact H15
      ipureintro
      rw [tab15_full]
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [tab13_full, tab15_full, writes_rows arg17 harg17 f17, writes_rows arg18 harg18 f18]
    all_goals exact rows_eight

end Cert.Kernel.Gen

end
-- ==== Proof.K.RunB.lean ====
module

public import proofs.«01_k».proof.Proof.K.Cover

/-! The run of the body at a point which neither starts nor ends a block of the result. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_B (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : ¬cond0_0 i) (hc1 : ¬cond0_1 i) (hc2 : ¬cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) (xo10 : Vec F S288x128 .f32) (xs0 : Vec F S192x32x1024 .bf16) (xs2 : Vec F S192x3x8x128 .f32) (xs7 : Vec F S3x8x256 .f32) :
    { vacc : Vec F S3x8x256 .f32 //
      ∀ (E : Set ℕ) (d8 : Vec F S1x3x4x256 .f32) (d9 : Vec F S288x512 .i8) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E d8 d9 K => ?run⟩
  case run =>
    simp only [cc0_tmac_linear_eq_skeleton]; unfold cc0_tmac_linear_skel
    simp only [k0_part74_eq_skeleton, k0_part75_eq_skeleton, k0_part76_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg20.eq_unread hf20
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [writes_rows arg17 harg17 f17, writes_rows arg18 harg18 f18]
    all_goals exact rows_eight

end Cert.Kernel.Gen

end
-- ==== Proof.K.RunC.lean ====
module

public import proofs.«01_k».proof.Proof.K.Cover

/-! The run of the body at a point which ends a block of the result. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_C (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : ¬cond0_0 i) (hc1 : ¬cond0_1 i) (hc2 : cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) (xo10 : Vec F S288x128 .f32) (xs0 : Vec F S192x32x1024 .bf16) (xs2 : Vec F S192x3x8x128 .f32) (xs7 : Vec F S3x8x256 .f32) :
    Σ' (v8 : Vec F S1x3x4x256 .f32), { vacc : Vec F S3x8x256 .f32 //
      ∀ (E : Set ℕ) (d9 : Vec F S288x512 .i8) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare v8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E d9 K => ?run⟩
  case run =>
    simp only [cc0_tmac_linear_eq_skeleton]; unfold cc0_tmac_linear_skel
    simp only [k0_part74_eq_skeleton, k0_part75_eq_skeleton, k0_part76_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg15.eq_unread hf15; obtain rfl := harg20.eq_unread hf20
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      rw [View.read_writes_eq_canon arg10.view f10 _ cover_tokens]
      delta kernelRun0_C.sl.v108
      delta kernelRun0_C.sl.v100
      delta kernelRun0_C.sl.v92
      rw [writes_rows arg17 harg17 f17, writes_rows arg18 harg18 f18]
      all_goals exact rows_eight
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [writes_rows arg17 harg17 f17, writes_rows arg18 harg18 f18]
    all_goals exact rows_eight

end Cert.Kernel.Gen

end
-- ==== Proof.K.RunD.lean ====
module

public import proofs.«01_k».proof.Proof.K.Cover

/-! The run of the body at a point, after the first, which starts a block of the result. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_D (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : ¬cond0_0 i) (hc1 : cond0_1 i) (hc2 : ¬cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) (xo10 : Vec F S288x128 .f32) (xs0 : Vec F S192x32x1024 .bf16) (xs2 : Vec F S192x3x8x128 .f32) :
    { vacc : Vec F S3x8x256 .f32 //
      ∀ (E : Set ℕ) (d8 : Vec F S1x3x4x256 .f32) (d9 : Vec F S288x512 .i8) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E d8 d9 K => ?run⟩
  case run =>
    simp only [cc0_tmac_linear_eq_skeleton]; unfold cc0_tmac_linear_skel
    simp only [k0_part74_eq_skeleton, k0_part75_eq_skeleton, k0_part76_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [writes_rows arg17 harg17 f17, writes_rows arg18 harg18 f18]
    all_goals exact rows_eight

end Cert.Kernel.Gen

end
-- ==== Proof.K.Frame.lean ====
module

public import proofs.«01_k».proof.Proof.K.RunA
public import proofs.«01_k».proof.Proof.K.RunB
public import proofs.«01_k».proof.Proof.K.RunC
public import proofs.«01_k».proof.Proof.K.RunD
public import Idealize.ShloMosaic.Lib.Claim

/-! What the kernel leaves in its buffers point by point, the obligation of the body, and the frame. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point. -/
def t0 : Fin cfg0.N := ⟨0, by rw [show cfg0.N = 27 from N_0]; exact Nat.zero_lt_succ _⟩

/-- The run at a point of case A, on the point's buffers and blocks. -/
def runA (c : Dev nD) (t : Fin cfg0.N) (h0 : t.val % 27 = 0) (h1 : t.val % 3 = 0) (h2 : ¬t.val % 3 = 2) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)

/-- The run at the first point. -/
def run0 (c : Dev nD) := runA m c t0 rfl rfl (by decide)

/-- The codes, as the first point leaves them. -/
def codes0 (c : Dev nD) : Vec F S288x512 .i8 := (run0 m c).1
/-- The scales of the groups, as the first point leaves them. -/
def lut0 (c : Dev nD) : Vec F S288x128 .f32 := (run0 m c).2.1
/-- The table of left operands, as the first point leaves it. -/
def lhs0 (c : Dev nD) : Vec F S192x32x1024 .bf16 := (run0 m c).2.2.1
/-- The table of zero point sums, as the first point leaves it. -/
def zp0 (c : Dev nD) : Vec F S192x3x8x128 .f32 := (run0 m c).2.2.2.1

/-- The run at a point of case B, on the point's buffers and blocks. -/
def runB (c : Dev nD) (t : Fin cfg0.N) (h0 : ¬t.val % 27 = 0) (h1 : ¬t.val % 3 = 0) (h2 : ¬t.val % 3 = 2) (acc : Vec F S3x8x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (lut0 m c) (lhs0 m c) (zp0 m c) acc

/-- The run at a point of case C, on the point's buffers and blocks. -/
def runC (c : Dev nD) (t : Fin cfg0.N) (h0 : ¬t.val % 27 = 0) (h1 : ¬t.val % 3 = 0) (h2 : t.val % 3 = 2) (acc : Vec F S3x8x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (lut0 m c) (lhs0 m c) (zp0 m c) acc

/-- The run at a point of case D, on the point's buffers and blocks. -/
def runD (c : Dev nD) (t : Fin cfg0.N) (h0 : ¬t.val % 27 = 0) (h1 : t.val % 3 = 0) (h2 : ¬t.val % 3 = 2) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (lut0 m c) (lhs0 m c) (zp0 m c)

/-- What the accumulator holds after point `n`. -/
def accAt (c : Dev nD) : ℕ → Vec F S3x8x256 .f32
  | 0 => (run0 m c).2.2.2.2.1
  | n + 1 =>
    if hn : n + 1 < cfg0.N then
      if h0 : (n + 1) % 27 = 0 then accAt c n
      else if h1 : (n + 1) % 3 = 0 then (runD m c ⟨n + 1, hn⟩ h0 h1 (by show ¬(n + 1) % 3 = 2; omega)).1
      else if h2 : (n + 1) % 3 = 2 then (runC m c ⟨n + 1, hn⟩ h0 h1 h2 (accAt c n)).2.1
      else (runB m c ⟨n + 1, hn⟩ h0 h1 h2 (accAt c n)).1
    else accAt c n

/-- What the result's buffer holds after point `t`, where it is filled. -/
def yAt (c : Dev nD) (t : Fin cfg0.N) : Vec F S1x3x4x256 .f32 :=
  if h2 : t.val % 3 = 2 then
    (runC m c t (by have := t.isLt; omega) (by omega) h2 (accAt m c (t.val - 1))).1
  else VO0_8.read (Elt F) VO0_8.junk

theorem accAt_A (c : Dev nD) (t : Fin cfg0.N) (h0 : t.val % 27 = 0) (h1 : t.val % 3 = 0) (h2 : ¬t.val % 3 = 2) :
    accAt m c t.val = (runA m c t h0 h1 h2).2.2.2.2.1 := by
  have hN : t.val < 27 := lt_of_lt_of_eq t.isLt (show cfg0.N = 27 from N_0)
  obtain rfl : t = t0 := Fin.ext (show t.val = 0 by omega)
  rfl

theorem accAt_B (c : Dev nD) (t : Fin cfg0.N) (h0 : ¬t.val % 27 = 0) (h1 : ¬t.val % 3 = 0) (h2 : ¬t.val % 3 = 2) :
    accAt m c t.val = (runB m c t h0 h1 h2 (accAt m c (t.val - 1))).1 := by
  obtain ⟨n, hn⟩ := t
  cases n with
  | zero => exact absurd (Nat.zero_mod _) h0
  | succ n => exact (dif_pos hn).trans ((dif_neg h0).trans ((dif_neg h1).trans (dif_neg h2)))

theorem accAt_C (c : Dev nD) (t : Fin cfg0.N) (h0 : ¬t.val % 27 = 0) (h1 : ¬t.val % 3 = 0) (h2 : t.val % 3 = 2) :
    accAt m c t.val = (runC m c t h0 h1 h2 (accAt m c (t.val - 1))).2.1 := by
  obtain ⟨n, hn⟩ := t
  cases n with
  | zero => exact absurd (Nat.zero_mod _) h0
  | succ n => exact (dif_pos hn).trans ((dif_neg h0).trans ((dif_neg h1).trans (dif_pos h2)))

theorem accAt_D (c : Dev nD) (t : Fin cfg0.N) (h0 : ¬t.val % 27 = 0) (h1 : t.val % 3 = 0) (h2 : ¬t.val % 3 = 2) :
    accAt m c t.val = (runD m c t h0 h1 h2).1 := by
  obtain ⟨n, hn⟩ := t
  cases n with
  | zero => exact absurd (Nat.zero_mod _) h0
  | succ n => exact (dif_pos hn).trans ((dif_neg h0).trans (dif_pos h1))

theorem yAt_C (c : Dev nD) (t : Fin cfg0.N) (h0 : ¬t.val % 27 = 0) (h1 : ¬t.val % 3 = 0) (h2 : t.val % 3 = 2) :
    yAt m c t = (runC m c t h0 h1 h2 (accAt m c (t.val - 1))).1 := dif_pos h2

/-- The invariant before position `n`: before the first point every buffer of the kernel's own holds anything;
    afterwards the two tables and the accumulator hold what the points before left there. -/
def PhiS (c : Dev nD) : (n : ℕ) → n ≤ cfg0.N → sProp 𝕄
  | 0, _ => Pipeline.ΦA spec0 c
  | n + 1, hn => iprop(iprop(owns (c : Thread nD τ) scM0_0 fullShare (lhs0 m c) ∗ (∃ d, owns (c : Thread nD τ) scM0_1 fullShare d) ∗ owns (c : Thread nD τ) scM0_2 fullShare (zp0 m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (accAt m c n)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (lhs0 m c) ∗ (∃ d, owns (c : Thread nD τ) scM0_1 fullShare d) ∗ owns (c : Thread nD τ) scM0_2 fullShare (zp0 m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (accAt m c n)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (lhs0 m c) ∗ (∃ d, owns (c : Thread nD τ) scM0_1 fullShare d) ∗ owns (c : Thread nD τ) scM0_2 fullShare (zp0 m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (accAt m c (n - 1))) ∗ (∃ r, prngReg c r)) := by
  cases n with
  | zero => exact absurd rfl hz
  | succ n => rfl

/-! ## The pipeline's proof data -/

/-- The proof data of the pipeline on core `c`: the arrays as the region finds them; after the body each input's buffer
    at its block and the results' at what the points left there; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t
    | ⟨9, _⟩ => codes0 m c
    | ⟨10, _⟩ => lut0 m c
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yAt m c t := by dsimp only [dats]
theorem after0_9 (c : Dev nD) (t : Fin cfg0.N) : (dats m 0 c).after 9 t = codes0 m c := by dsimp only [dats]
theorem after0_10 (c : Dev nD) (t : Fin cfg0.N) : (dats m 0 c).after 10 t = lut0 m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- After the first point the buffer of output 9 holds what the first point left. -/
theorem before0_9 (c : Dev nD) : ∀ (n : ℕ) (hn : n < cfg0.N), n ≠ 0 → ∀ d, (dats m 0 c).before 9 ⟨n, hn⟩ d = codes0 m c := by
  intro n
  induction n with
  | zero => intro _ h; exact absurd rfl h
  | succ n ih =>
    intro hn _ d
    have hN : n + 1 < 27 := lt_of_lt_of_eq hn (show cfg0.N = 27 from N_0)
    have hn' : n < cfg0.N := Nat.lt_of_succ_lt hn
    rw [Dat.before_of_pos _ 9 ⟨n + 1, hn⟩ (Nat.succ_ne_zero n) ((cfg0.win 9).fetch_out rfl _)]
    have hfl : (cfg0.win 9).flush ⟨n, hn'⟩ = false :=
      Bool.eq_false_iff.mpr fun h => by have := (flush0_9 _).mp h; dsimp only at this; omega
    refine (if_neg (by rw [show (⟨(⟨n + 1, hn⟩ : Fin cfg0.N).val - 1, Nat.lt_of_le_of_lt (Nat.sub_le _ _) hn⟩ : Fin cfg0.N) = ⟨n, hn'⟩ from rfl, hfl]; exact Bool.false_ne_true)).trans ?_
    show (dats m 0 c).left 9 ⟨n, hn'⟩ d = _
    by_cases hz : n = 0
    · subst hz
      unfold Dat.left
      rw [liveAt0_9_A ⟨0, hn'⟩ ((hcond0_0 _).mpr rfl)]
      show (dats m 0 c).kept 9 _ d = _
      unfold Dat.kept
      rw [Pipeline.fill_of_clip_none 9 _ (fun _ => rfl) d ((dats m 0 c).after 9 _), Window.fill_cut]
      exact after0_9 m c _
    · unfold Dat.left
      rw [idleAt0_9 ⟨n, hn'⟩ (fun h => by have := (hcond0_0 _).mp h; dsimp only at this; omega)]
      exact ih hn' hz d

theorem before0_9' (c : Dev nD) (t : Fin cfg0.N) (h0 : ¬t.val % 27 = 0) (d) : (dats m 0 c).before 9 t d = codes0 m c :=
  before0_9 m c t.val t.isLt (fun h => h0 (by rw [h])) d

/-- Handing the buffer back as found is what the pipeline asks at such a point, written back there or not. -/
theorem keep0_9 (c : Dev nD) (t : Fin cfg0.N) (h0 : ¬t.val % 27 = 0) :
    (owns (c : Thread nD τ) (ms0_9 t) fullShare (codes0 m c) : sProp 𝕄) ⊢ (dats m 0 c).leavesExact 9 t := by
  have hi := idleAt0_9 t (fun h => h0 ((hcond0_0 t).mp h))
  by_cases hf : (cfg0.win 9).flush t = false
  · rw [Dat.leavesExact_idle (dats m 0 c) 9 t hi hf]
    iintro H
    iexists codes0 m c
    rw [before0_9' m c t h0]
    iexact H
  · rw [show (dats m 0 c).leavesExact 9 t = owns (c : Thread nD τ) (ms0_9 t) fullShare ((dats m 0 c).after 9 t) from by
      unfold Dat.leavesExact; rw [hi, Bool.of_not_eq_false hf], after0_9]

/-- After the first point the buffer of output 10 holds what the first point left. -/
theorem before0_10 (c : Dev nD) : ∀ (n : ℕ) (hn : n < cfg0.N), n ≠ 0 → ∀ d, (dats m 0 c).before 10 ⟨n, hn⟩ d = lut0 m c := by
  intro n
  induction n with
  | zero => intro _ h; exact absurd rfl h
  | succ n ih =>
    intro hn _ d
    have hN : n + 1 < 27 := lt_of_lt_of_eq hn (show cfg0.N = 27 from N_0)
    have hn' : n < cfg0.N := Nat.lt_of_succ_lt hn
    rw [Dat.before_of_pos _ 10 ⟨n + 1, hn⟩ (Nat.succ_ne_zero n) ((cfg0.win 10).fetch_out rfl _)]
    have hfl : (cfg0.win 10).flush ⟨n, hn'⟩ = false :=
      Bool.eq_false_iff.mpr fun h => by have := (flush0_10 _).mp h; dsimp only at this; omega
    refine (if_neg (by rw [show (⟨(⟨n + 1, hn⟩ : Fin cfg0.N).val - 1, Nat.lt_of_le_of_lt (Nat.sub_le _ _) hn⟩ : Fin cfg0.N) = ⟨n, hn'⟩ from rfl, hfl]; exact Bool.false_ne_true)).trans ?_
    show (dats m 0 c).left 10 ⟨n, hn'⟩ d = _
    by_cases hz : n = 0
    · subst hz
      unfold Dat.left
      rw [liveAt0_10_A ⟨0, hn'⟩ ((hcond0_0 _).mpr rfl)]
      show (dats m 0 c).kept 10 _ d = _
      unfold Dat.kept
      rw [Pipeline.fill_of_clip_none 10 _ (fun _ => rfl) d ((dats m 0 c).after 10 _), Window.fill_cut]
      exact after0_10 m c _
    · unfold Dat.left
      rw [idleAt0_10 ⟨n, hn'⟩ (fun h => by have := (hcond0_0 _).mp h; dsimp only at this; omega)]
      exact ih hn' hz d

theorem before0_10' (c : Dev nD) (t : Fin cfg0.N) (h0 : ¬t.val % 27 = 0) (d) : (dats m 0 c).before 10 t d = lut0 m c :=
  before0_10 m c t.val t.isLt (fun h => h0 (by rw [h])) d

/-- Handing the buffer back as found is what the pipeline asks at such a point, written back there or not. -/
theorem keep0_10 (c : Dev nD) (t : Fin cfg0.N) (h0 : ¬t.val % 27 = 0) :
    (owns (c : Thread nD τ) (ms0_10 t) fullShare (lut0 m c) : sProp 𝕄) ⊢ (dats m 0 c).leavesExact 10 t := by
  have hi := idleAt0_10 t (fun h => h0 ((hcond0_0 t).mp h))
  by_cases hf : (cfg0.win 10).flush t = false
  · rw [Dat.leavesExact_idle (dats m 0 c) 10 t hi hf]
    iintro H
    iexists lut0 m c
    rw [before0_10' m c t h0]
    iexact H
  · rw [show (dats m 0 c).leavesExact 10 t = owns (c : Thread nD τ) (ms0_10 t) fullShare ((dats m 0 c).after 10 t) from by
      unfold Dat.leavesExact; rw [hi, Bool.of_not_eq_false hf], after0_10]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point: the inputs' buffers hold their blocks, the carried ones what the point before left; the run of
    the point's case applies, and what it leaves is what the invariant and the results' buffers are to hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 27 := lt_of_lt_of_eq t.isLt (show cfg0.N = 27 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val % 27 = 0
  · have h1 : t.val % 3 = 0 := by omega
    have h2 : ¬t.val % 3 = 2 := by omega
    rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
    rw [show (dats m 0 c).leavesExact 9 t = owns (c : Thread nD τ) (ms0_9 t) fullShare ((dats m 0 c).after 9 t) from by
      unfold Dat.leavesExact; rw [liveAt0_9_A t ((hcond0_0 t).mpr h0)], after0_9]
    rw [show (dats m 0 c).leavesExact 10 t = owns (c : Thread nD τ) (ms0_10 t) fullShare ((dats m 0 c).after 10 t) from by
      unfold Dat.leavesExact; rw [liveAt0_10_A t ((hcond0_0 t).mpr h0)], after0_10]
    obtain rfl : t = t0 := Fin.ext (show t.val = 0 by omega)
    rw [PhiS_castSucc m c t0, PhiS_zero m c t0.val _ (show t0.val = 0 from rfl), PhiA0_eq]
    rw [accAt_A m c t0 h0 h1 h2]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA m c t0 h0 h1 h2).2.2.2.2.2 Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iexact H10
  · by_cases h1 : t.val % 3 = 0
    · have h2 : ¬t.val % 3 = 2 := by omega
      rw [Dat.leavesExact_idle (dats m 0 c) 8 t (idleAt0_8_D t (fun h => h0 ((hcond0_0 t).mp h)) ((hcond0_1 t).mpr h1) (fun h => h2 ((hcond0_2 t).mp h))) (noFlush0_8_D t (fun h => h0 ((hcond0_0 t).mp h)) ((hcond0_1 t).mpr h1) (fun h => h2 ((hcond0_2 t).mp h)))]
      rw [PhiS_castSucc m c t, PhiS_pos m c _ _ (fun h => h0 (by rw [h]))]
      simp only [before0_9' m c t h0, before0_10' m c t h0]
      rw [accAt_D m c t h0 h1 h2]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runD m c t h0 h1 h2).2 Set.univ _ (codes0 m c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexists _; iexact HS7
      iintro ⟨H0, H1, H2, H3, H4, H5, H6, H7, H8, H9, H10, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iapply (keep0_9 m c t h0); iexact H9
      iapply (keep0_10 m c t h0); iexact H10
    · by_cases h2 : t.val % 3 = 2
      · rw [show (dats m 0 c).leavesExact 8 t = owns (c : Thread nD τ) (ms0_8 t) fullShare ((dats m 0 c).after 8 t) from by
          unfold Dat.leavesExact; rw [liveAt0_8_C t (fun h => h0 ((hcond0_0 t).mp h)) (fun h => h1 ((hcond0_1 t).mp h)) ((hcond0_2 t).mpr h2)], after0_8, yAt_C m c t h0 h1 h2]
        rw [PhiS_castSucc m c t, PhiS_pos m c _ _ (fun h => h0 (by rw [h]))]
        simp only [before0_9' m c t h0, before0_10' m c t h0]
        rw [accAt_C m c t h0 h1 h2]
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runC m c t h0 h1 h2 (accAt m c (t.val - 1))).2.2 Set.univ (codes0 m c) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iapply (keep0_9 m c t h0); iexact H9
        iapply (keep0_10 m c t h0); iexact H10
      · rw [Dat.leavesExact_idle (dats m 0 c) 8 t (idleAt0_8_B t (fun h => h0 ((hcond0_0 t).mp h)) (fun h => h1 ((hcond0_1 t).mp h)) (fun h => h2 ((hcond0_2 t).mp h))) (noFlush0_8_B t (fun h => h0 ((hcond0_0 t).mp h)) (fun h => h1 ((hcond0_1 t).mp h)) (fun h => h2 ((hcond0_2 t).mp h)))]
        rw [PhiS_castSucc m c t, PhiS_pos m c _ _ (fun h => h0 (by rw [h]))]
        simp only [before0_9' m c t h0, before0_10' m c t h0]
        rw [accAt_B m c t h0 h1 h2]
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runB m c t h0 h1 h2 (accAt m c (t.val - 1))).2 Set.univ _ (codes0 m c) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iapply (keep0_9 m c t h0); iexact H9
        iapply (keep0_10 m c t h0); iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexists _; iexact HS2
    isplitl [HS3]
    · iexact HS3
    isplitl [HS4]
    · iexact HS4
    isplitl [HS5]
    · iexact HS5
    isplitl [HS6]
    · iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the kernel terminates, its arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KI.Loops.lean ====
module

public import proofs.«01_k».proof.Proof.Gen.KernelIdeal.Skeleton
public import Idealize.ShloMosaic.Lib.Exec
public import Idealize.ShloMosaic.Lib.Tactic
public import Idealize.ShloMosaic.Lib.Pipeline.Kit

/-! The two counted loops of the kernel body, each by an invariant of its own.

The first loop (the tables of left-hand sides and zero points, 96 trips) writes pieces which do not depend on what the
two buffers held.  The second loop (four trips over the weight words of a point) fills its own transposed copy of the
words in every trip, so what a trip adds to the accumulator does not depend on what that copy held before: the
invariant says only that the copy is owned, and the accumulator follows the recursion `acc2`. -/

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-! ## The second loop -/

/-- Invariants of the second loop. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1)

/-- One trip's resources. -/
abbrev Trip_k0_t2 (c : Dev nD) (arg7 : Memref sig .tc .vmem S4x1024x512 .i8) (arg12 : Memref sig .tc .vmem S288x128 .f32) (arg13 : Memref sig .tc .vmem S192x32x1024 .bf16) (arg15 : Memref sig .tc .vmem S192x3x8x128 .f32) (arg17 : Memref sig .tc .vmem S2x512x128 .f32) (arg18 : Memref sig .tc .vmem S2x512x128 .f32) (arg19 : Memref sig .tc .vmem S4x128x256 .i32) (arg20 : Memref sig .tc .vmem S3x8x256 .f32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (f_arg19 : BufTy.Contents (Elt F) arg19.view.ty) (f_arg20 : BufTy.Contents (Elt F) arg20.view.ty) : sProp 𝕄G :=
  iprop((arg7.view.loc (c : Thread nD τ) ↦[arg7.view.set]{fullShare} X_arg7) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} f_arg19) ∗ (arg20.view.loc (c : Thread nD τ) ↦[arg20.view.set]{fullShare} f_arg20))

/-- One trip: the pieces it writes into the accumulator, a function of what the accumulator held. -/
def trip2 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (k : Fin k0_t2_loop.trips) :
    { L_arg20 : (BufTy.Contents (Elt F) arg20.view.ty → List (View.Piece (Elt F) S3x8x256 .f32)) // ∀ (E : Set ℕ) (f_arg19 : BufTy.Contents (Elt F) arg19.view.ty) (f_arg20 : BufTy.Contents (Elt F) arg20.view.ty),
      Trip_k0_t2 (F := F) c arg7 arg12 arg13 arg15 arg17 arg18 arg19 arg20 X_arg7 X_arg12 X_arg13 X_arg15 X_arg17 X_arg18 f_arg19 f_arg20
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 k PUnit.unit)
          (fun _ => iprop(∃ g_arg19, Trip_k0_t2 (F := F) c arg7 arg12 arg13 arg15 arg17 arg18 arg19 arg20 X_arg7 X_arg12 X_arg13 X_arg15 X_arg17 X_arg18 g_arg19 (arg20.view.writes (Elt F) f_arg20 (L_arg20 f_arg20)))) } := by
  have hk : k.val < 4 := Nat.lt_of_lt_of_le k.isLt k0_t2_abs.2.1
  refine ⟨?_, fun E f_arg19 f_arg20 => ?run⟩
  case run =>
    unfold k0_t2_body
    iintro ⟨HR_arg7, HR_arg12, HR_arg13, HR_arg15, HR_arg17, HR_arg18, HW_arg19, HW_arg20⟩
    sl_exec
    sl_step
    iexists _
    sl_close

/-- What the accumulator holds before trip `k`, from what it held when the loop began. -/
def acc2 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G : BufTy.Contents (Elt F) arg20.view.ty) : ℕ → BufTy.Contents (Elt F) arg20.view.ty
  | 0 => G
  | k + 1 => if h : k < k0_t2_loop.trips then
      arg20.view.writes (Elt F) (acc2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k) ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 ⟨k, h⟩).1 (acc2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k))
    else acc2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k

theorem acc2_succ (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G : BufTy.Contents (Elt F) arg20.view.ty) (k : Fin k0_t2_loop.trips) :
    acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G (k.val + 1)
      = arg20.view.writes (Elt F) (acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k.val) ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 k).1 (acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k.val)) := by
  rw [acc2.eq_2]; exact dif_pos k.isLt

/-- The invariant of the second loop before trip `k`. -/
abbrev inv2 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G : BufTy.Contents (Elt F) arg20.view.ty) (k : ℕ) (_u : PUnit) : sProp 𝕄G :=
  iprop((arg7.view.loc (c : Thread nD τ) ↦[arg7.view.set]{fullShare} X_arg7) ∗ (arg12.view.loc (c : Thread nD τ) ↦[arg12.view.set]{fullShare} X_arg12) ∗ (arg13.view.loc (c : Thread nD τ) ↦[arg13.view.set]{fullShare} X_arg13) ∗ (arg15.view.loc (c : Thread nD τ) ↦[arg15.view.set]{fullShare} X_arg15) ∗ (arg17.view.loc (c : Thread nD τ) ↦[arg17.view.set]{fullShare} X_arg17) ∗ (arg18.view.loc (c : Thread nD τ) ↦[arg18.view.set]{fullShare} X_arg18) ∗ (∃ f, (arg19.view.loc (c : Thread nD τ) ↦[arg19.view.set]{fullShare} f)) ∗ (∃ f, (arg20.view.loc (c : Thread nD τ) ↦[arg20.view.set]{fullShare} f) ∗ ⌜f = acc2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G k⌝))

set_option warn.classDefReducibility false in
/-- The second loop by its invariant. -/
@[sl_loop] def loop2 (𝒱 : Variants) (c : Dev nD) (bd : Option 𝒱.V) (E : Set ℕ) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (G_arg20 : BufTy.Contents (Elt F) arg20.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 where
  inv := inv2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 G_arg20
  step k acc := by
    iintro ⟨HR_arg7, HR_arg12, HR_arg13, HR_arg15, HR_arg17, HR_arg18, ⟨%f_arg19, HW_arg19⟩, ⟨%f_arg20, HW_arg20, %h_arg20⟩⟩
    iapply (wp_wand_r Idealize.ShloMosaic.frame (wpE (defs₀ (F := F)) 𝒱 (c : Thread nD τ) bd) E)
    isplitl [HR_arg7 HR_arg12 HR_arg13 HR_arg15 HR_arg17 HR_arg18 HW_arg19 HW_arg20]
    · iapply ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 k).2 E f_arg19 f_arg20)
      isplitl [HR_arg7]; · iexact HR_arg7
      isplitl [HR_arg12]; · iexact HR_arg12
      isplitl [HR_arg13]; · iexact HR_arg13
      isplitl [HR_arg15]; · iexact HR_arg15
      isplitl [HR_arg17]; · iexact HR_arg17
      isplitl [HR_arg18]; · iexact HR_arg18
      isplitl [HW_arg19]; · iexact HW_arg19
      iexact HW_arg20
    · iintro %_ ⟨%g, HR_arg7, HR_arg12, HR_arg13, HR_arg15, HR_arg17, HR_arg18, HW_arg19, HW_arg20⟩
      isplitl [HR_arg7]; · iexact HR_arg7
      isplitl [HR_arg12]; · iexact HR_arg12
      isplitl [HR_arg13]; · iexact HR_arg13
      isplitl [HR_arg15]; · iexact HR_arg15
      isplitl [HR_arg17]; · iexact HR_arg17
      isplitl [HR_arg18]; · iexact HR_arg18
      rw [acc2_succ]
      isplitl [HW_arg19]; · iexists _; iexact HW_arg19
      iexists _; isplitl [HW_arg20]; · iexact HW_arg20
      ipureintro; rw [h_arg20]

/-! ## The first loop -/

/-- Invariants of the first loop. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198)

/-- One trip's resources. -/
abbrev Trip_k0_t1 (c : Dev nD) (arg14 : Memref sig .tc .vmem S2x288x1024 .f32) (arg16 : Memref sig .tc .vmem S2x2x288x128 .f32) (arg13 : Memref sig .tc .vmem S192x32x1024 .bf16) (arg15 : Memref sig .tc .vmem S192x3x8x128 .f32) (X_arg14 : BufTy.Contents (Elt F) arg14.view.ty) (X_arg16 : BufTy.Contents (Elt F) arg16.view.ty) (f_arg13 : BufTy.Contents (Elt F) arg13.view.ty) (f_arg15 : BufTy.Contents (Elt F) arg15.view.ty) : sProp 𝕄G :=
  iprop((arg14.view.loc (c : Thread nD τ) ↦[arg14.view.set]{fullShare} X_arg14) ∗ (arg16.view.loc (c : Thread nD τ) ↦[arg16.view.set]{fullShare} X_arg16) ∗ (arg13.view.loc (c : Thread nD τ) ↦[arg13.view.set]{fullShare} f_arg13) ∗ (arg15.view.loc (c : Thread nD τ) ↦[arg15.view.set]{fullShare} f_arg15))

/-- One trip: the pieces it writes, of the inputs alone. -/
def trip1 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (k : Fin k0_t1_loop.trips) :
    Σ' (L_arg13 : List (View.Piece (Elt F) S192x32x1024 .bf16)) , { L_arg15 : List (View.Piece (Elt F) S192x3x8x128 .f32) // ∀ (E : Set ℕ) (f_arg13 : BufTy.Contents (Elt F) arg13.view.ty) (f_arg15 : BufTy.Contents (Elt F) arg15.view.ty),
      Trip_k0_t1 (F := F) c arg14 arg16 arg13 arg15 X_arg14 X_arg16 f_arg13 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 k PUnit.unit)
          (fun _ => Trip_k0_t1 (F := F) c arg14 arg16 arg13 arg15 X_arg14 X_arg16 (arg13.view.writes (Elt F) f_arg13 L_arg13) (arg15.view.writes (Elt F) f_arg15 L_arg15)) } := by
  have hk : k.val < 96 := Nat.lt_of_lt_of_le k.isLt k0_t1_abs.2.1
  refine ⟨?_, ?_, fun E f_arg13 f_arg15 => ?run⟩
  case run =>
    unfold k0_t1_body
    iintro ⟨HR_arg14, HR_arg16, HW_arg13, HW_arg15⟩
    sl_exec
    sl_step
    sl_close

/-- What buffer 13 holds before trip `k`, from what it held when the loop began. -/
def tab13 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) : ℕ → BufTy.Contents (Elt F) arg13.view.ty
  | 0 => G
  | k + 1 => if h : k < k0_t1_loop.trips then
      arg13.view.writes (Elt F) (tab13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 ⟨k, h⟩).1
    else tab13 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k

theorem tab13_succ (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) (k : Fin k0_t1_loop.trips) :
    tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (k.val + 1)
      = arg13.view.writes (Elt F) (tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k.val) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).1 := by
  rw [tab13.eq_2]; exact dif_pos k.isLt

/-- What buffer 15 holds before trip `k`, from what it held when the loop began. -/
def tab15 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) : ℕ → BufTy.Contents (Elt F) arg15.view.ty
  | 0 => G
  | k + 1 => if h : k < k0_t1_loop.trips then
      arg15.view.writes (Elt F) (tab15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 ⟨k, h⟩).2.1
    else tab15 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k

theorem tab15_succ (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) (k : Fin k0_t1_loop.trips) :
    tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (k.val + 1)
      = arg15.view.writes (Elt F) (tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k.val) (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.1 := by
  rw [tab15.eq_2]; exact dif_pos k.isLt

/-- The invariant of the first loop before trip `k`. -/
abbrev inv1 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G_arg13 : BufTy.Contents (Elt F) arg13.view.ty) (G_arg15 : BufTy.Contents (Elt F) arg15.view.ty) (k : ℕ) (_u : PUnit) : sProp 𝕄G :=
  iprop((arg14.view.loc (c : Thread nD τ) ↦[arg14.view.set]{fullShare} X_arg14) ∗ (arg16.view.loc (c : Thread nD τ) ↦[arg16.view.set]{fullShare} X_arg16) ∗ (∃ f, (arg13.view.loc (c : Thread nD τ) ↦[arg13.view.set]{fullShare} f) ∗ ⌜f = tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G_arg13 k⌝) ∗ (∃ f, (arg15.view.loc (c : Thread nD τ) ↦[arg15.view.set]{fullShare} f) ∗ ⌜f = tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G_arg15 k⌝))

set_option warn.classDefReducibility false in
/-- The first loop by its invariant. -/
@[sl_loop] def loop1 (𝒱 : Variants) (c : Dev nD) (bd : Option 𝒱.V) (E : Set ℕ) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G_arg13 : BufTy.Contents (Elt F) arg13.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 where
  inv := inv1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G_arg13 G_arg15
  step k acc := by
    iintro ⟨HR_arg14, HR_arg16, ⟨%f_arg13, HW_arg13, %h_arg13⟩, ⟨%f_arg15, HW_arg15, %h_arg15⟩⟩
    iapply (wp_wand_r Idealize.ShloMosaic.frame (wpE (defs₀ (F := F)) 𝒱 (c : Thread nD τ) bd) E)
    isplitl [HR_arg14 HR_arg16 HW_arg13 HW_arg15]
    · iapply ((trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.2 E f_arg13 f_arg15)
      isplitl [HR_arg14]; · iexact HR_arg14
      isplitl [HR_arg16]; · iexact HR_arg16
      isplitl [HW_arg13]; · iexact HW_arg13
      iexact HW_arg15
    · iintro %_ ⟨HR_arg14, HR_arg16, HW_arg13, HW_arg15⟩
      isplitl [HR_arg14]; · iexact HR_arg14
      isplitl [HR_arg16]; · iexact HR_arg16
      rw [tab13_succ, tab15_succ]
      isplitl [HW_arg13]
      · iexists _; isplitl [HW_arg13]; · iexact HW_arg13
        ipureintro; rw [h_arg13]
      iexists _; isplitl [HW_arg15]; · iexact HW_arg15
      ipureintro; rw [h_arg15]

end Cert.KernelIdeal.Gen

end
-- ==== Proof.KI.Runs.lean ====
module

public import proofs.«01_k».proof.Proof.Gen.KernelIdeal.Frame
public import proofs.«01_k».proof.Proof.KI.Loops
public import Idealize.ShloMosaic.Lib.Pipeline.FrameBody
public import Idealize.ShloMosaic.Lib.Pipeline.FrameSuffix
public import Idealize.ShloMosaic.Lib.WordCmp

/-! What the runs of the body share: its branch conditions over the grid, where the output windows are idle, and the
buffers it is handed. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 3 % 9 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 27 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_1 : ∀ t : Fin cfg0.N, cond0_1 (grid0.coords t) ↔ t.val % 3 = 0 :=
  (fun t => by
    have ht : t.val < 27 := Nat.lt_of_lt_of_eq t.isLt N_0
    have e0 : (grid0.coords t 0).val = t.val / 3 % 9 := Pipeline.Grid.coords_val t 0 (by decide) rfl
    have e1 : (grid0.coords t 1).val = t.val / 1 % 3 := Pipeline.Grid.coords_val t 1 (by decide) rfl
    simp only [cond0_1, e0, e1]
    word_cmp
   : ∀ t : Fin grid0.N, cond0_1 (grid0.coords t) ↔ t.val % 3 = 0)

/-- The condition of the body's `scf.if` 2 (`k0_h3`), from the grid coordinates (the skeleton's scalar
    chain substituted). -/
abbrev cond0_2 (i : grid0.Coords) : Prop := k0_cond3 i = 1#1
/-- It holds at the points ≡ 2 (mod 3) — by arithmetic of the point. -/
theorem hcond0_2 : ∀ t : Fin cfg0.N, cond0_2 (grid0.coords t) ↔ t.val % 3 = 2 :=
  (fun t => by
    have ht : t.val < 27 := Nat.lt_of_lt_of_eq t.isLt N_0
    have e0 : (grid0.coords t 0).val = t.val / 3 % 9 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Output 9 is filled at the first point only. -/
theorem liveAt0_9_A : ∀ t : Fin cfg0.N, cond0_0 (grid0.coords t) → cfg0.idle 9 (grid0.coords t) = false := by decide +kernel
/-- At every other point it is idle. -/
theorem idleAt0_9 : ∀ t : Fin cfg0.N, ¬cond0_0 (grid0.coords t) → cfg0.idle 9 (grid0.coords t) = true := by decide +kernel
/-- Output 10 is filled at the first point only. -/
theorem liveAt0_10_A : ∀ t : Fin cfg0.N, cond0_0 (grid0.coords t) → cfg0.idle 10 (grid0.coords t) = false := by decide +kernel
/-- At every other point it is idle. -/
theorem idleAt0_10 : ∀ t : Fin cfg0.N, ¬cond0_0 (grid0.coords t) → cfg0.idle 10 (grid0.coords t) = true := by decide +kernel
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel
/-- At the points of case D the printed configuration (`Cfg.idle`) calls output 8 idle: the case stores nothing into it. -/
theorem idleAt0_8_D : ∀ t : Fin cfg0.N, ¬cond0_0 (grid0.coords t) → cond0_1 (grid0.coords t) → ¬cond0_2 (grid0.coords t) → cfg0.idle 8 (grid0.coords t) = true := by decide +kernel
/-- At the points of case D the pipeline does not write output 8's block back. -/
theorem noFlush0_8_D : ∀ t : Fin cfg0.N, ¬cond0_0 (grid0.coords t) → cond0_1 (grid0.coords t) → ¬cond0_2 (grid0.coords t) → (cfg0.win 8).flush t = false := by decide +kernel

/-! ## The kernel body on any staging memrefs: a subtype the run finds -/

/-- One staging buffer of output window 8, through which its contents are stated (`View.read_writes_of_cover`: the
    choice does not matter). -/
abbrev VO0_8 : View sig .tc .vmem S1x3x4x256 .f32 := (Memref.whole cc0_stg8_0 : Memref sig .tc .vmem S1x3x4x256 .f32).view
/-- One staging buffer of output window 9, through which its contents are stated (`View.read_writes_of_cover`: the
    choice does not matter). -/
abbrev VO0_9 : View sig .tc .vmem S288x512 .i8 := (Memref.whole cc0_stg9_0 : Memref sig .tc .vmem S288x512 .i8).view
/-- One staging buffer of output window 10, through which its contents are stated (`View.read_writes_of_cover`: the
    choice does not matter). -/
abbrev VO0_10 : View sig .tc .vmem S288x128 .f32 := (Memref.whole cc0_stg10_0 : Memref sig .tc .vmem S288x128 .f32).view
/-- Each window's current staging memref at point `t`, spelled as the pipeline passes it (`bodyAt0`), and its wholeness. -/
abbrev ms0_0 (t : Fin cfg0.N) : Memref sig .tc .vmem S288x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1024x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x4x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S288x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S288x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S192x32x1024 .bf16 := Memref.whole cc0_scratch0
abbrev scM0_1 : Memref sig .tc .vmem S2x288x1024 .f32 := Memref.whole cc0_scratch1
abbrev scM0_2 : Memref sig .tc .vmem S192x3x8x128 .f32 := Memref.whole cc0_scratch2
abbrev scM0_3 : Memref sig .tc .vmem S2x2x288x128 .f32 := Memref.whole cc0_scratch3
abbrev scM0_4 : Memref sig .tc .vmem S2x512x128 .f32 := Memref.whole cc0_scratch4
abbrev scM0_5 : Memref sig .tc .vmem S2x512x128 .f32 := Memref.whole cc0_scratch5
abbrev scM0_6 : Memref sig .tc .vmem S4x128x256 .i32 := Memref.whole cc0_scratch6
abbrev scM0_7 : Memref sig .tc .vmem S3x8x256 .f32 := Memref.whole cc0_scratch7
/-- The scratch `arg13` the kernel carries between points, as a view: what it holds is stated through it. -/
abbrev VS0_0 : View sig .tc .vmem S192x32x1024 .bf16 := scM0_0.view
/-- The scratch `arg15` the kernel carries between points, as a view: what it holds is stated through it. -/
abbrev VS0_2 : View sig .tc .vmem S192x3x8x128 .f32 := scM0_2.view
/-- The scratch `arg20` the kernel carries between points, as a view: what it holds is stated through it. -/
abbrev VS0_7 : View sig .tc .vmem S3x8x256 .f32 := scM0_7.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.KI.Cover.lean ====
module

public import proofs.«01_k».proof.Proof.KI.Runs

/-! The strided stores which transpose a block of scales fill their buffer, and so do the stores of the prologue. -/

@[expose] public section

set_option maxRecDepth 16384

noncomputable section

namespace Cert.KernelIdeal.Gen

open Idealize.ShloMosaic Idealize.ShloMosaic.TcCoe

variable {F : FTy → Type} [FloatOps F]

/-- An index at a multiple of the stride from the offset lies in a strided rectangle. -/
theorem mem_rect {s : Shape} (r : Rect s) (y : s.Idx) (x : r.shape.Idx)
    (h : ∀ a, (y a).val = r.off a + r.stride a * (x a).val) : y ∈ r.set := by
  rw [← Rect.map_emb_univ]
  exact Finset.mem_map.2 ⟨x, Finset.mem_univ _, funext fun a => Fin.ext (h a).symm⟩

/-- Contents written over by pieces which cover the buffer do not depend on what it held. -/
theorem writes_covered {s : Shape} {e : EltTy} (M : Memref sig .tc .vmem s e) (h : M.IsWhole)
    (f : M.view.ty.Contents (Elt F)) (L : List (View.Piece (Elt F) s e)) (hc : ∀ y, ∃ p ∈ L, y ∈ p.1.set) :
    M.view.writes (Elt F) f L = h.unread (View.canon L) :=
  h.eq_unread (View.read_writes_eq_canon M.view f L hc)

/-- The list has a piece for every fourth row from row `b` of half `a`, for every `a` and `b`. -/
def Rows (L : List (View.Piece (Elt F) S2x512x128 .f32)) : Prop :=
  ∀ a < 2, ∀ b < 4, ∃ p ∈ L, p.1.off = ![a, b, 0] ∧ p.1.size = ![1, 128, 128] ∧ p.1.stride = ![1, 4, 1]

theorem Rows.cover {L : List (View.Piece (Elt F) S2x512x128 .f32)} (h : Rows L) (y : S2x512x128.Idx) :
    ∃ p ∈ L, y ∈ p.1.set := by
  have h0 : (y 0).val < 2 := (y 0).isLt
  have h1 : (y 1).val < 512 := (y 1).isLt
  have h2 : (y 2).val < 128 := (y 2).isLt
  obtain ⟨⟨⟨⟨off, size, stride, inb⟩, sp⟩, w⟩, hp, ho, hs, ht⟩ := h (y 0).val h0 ((y 1).val % 4) (by omega)
  dsimp only at ho hs ht
  subst ho hs ht
  refine ⟨_, hp, mem_rect _ y (fun a => ⟨(![0, (y 1).val / 4, (y 2).val] : Fin 3 → ℕ) a, ?_⟩) ?_⟩
  · fin_cases a
    · exact Nat.zero_lt_one
    · show (y 1).val / 4 < 128
      omega
    · exact h2
  · intro a
    fin_cases a
    · show (y 0).val = (y 0).val + 1 * 0
      omega
    · show (y 1).val = (y 1).val % 4 + 4 * ((y 1).val / 4)
      omega
    · show (y 2).val = 0 + 1 * (y 2).val
      omega

theorem rows_eight {i13 p13 w13 i12 p12 w12 i11 p11 w11 i10 p10 w10 i03 p03 w03 i02 p02 w02 i01 p01 w01 i00 p00 w00} : Rows (F := F) [
    ⟨⟨⟨![1, 3, 0], S1x128x128.size, ![1, 4, 1], i13⟩, p13⟩, w13⟩,
    ⟨⟨⟨![1, 2, 0], S1x128x128.size, ![1, 4, 1], i12⟩, p12⟩, w12⟩,
    ⟨⟨⟨![1, 1, 0], S1x128x128.size, ![1, 4, 1], i11⟩, p11⟩, w11⟩,
    ⟨⟨⟨![1, 0, 0], S1x128x128.size, ![1, 4, 1], i10⟩, p10⟩, w10⟩,
    ⟨⟨⟨![0, 3, 0], S1x128x128.size, ![1, 4, 1], i03⟩, p03⟩, w03⟩,
    ⟨⟨⟨![0, 2, 0], S1x128x128.size, ![1, 4, 1], i02⟩, p02⟩, w02⟩,
    ⟨⟨⟨![0, 1, 0], S1x128x128.size, ![1, 4, 1], i01⟩, p01⟩, w01⟩,
    ⟨⟨⟨![0, 0, 0], S1x128x128.size, ![1, 4, 1], i00⟩, p00⟩, w00⟩] := fun a ha b hb =>
  match a, ha, b, hb with
  | 0, _, 0, _ => ⟨_, .tail _ (.tail _ (.tail _ (.tail _ (.tail _ (.tail _ (.tail _ (.head _))))))), rfl, rfl, rfl⟩
  | 0, _, 1, _ => ⟨_, .tail _ (.tail _ (.tail _ (.tail _ (.tail _ (.tail _ (.head _)))))), rfl, rfl, rfl⟩
  | 0, _, 2, _ => ⟨_, .tail _ (.tail _ (.tail _ (.tail _ (.tail _ (.head _))))), rfl, rfl, rfl⟩
  | 0, _, 3, _ => ⟨_, .tail _ (.tail _ (.tail _ (.tail _ (.head _)))), rfl, rfl, rfl⟩
  | 1, _, 0, _ => ⟨_, .tail _ (.tail _ (.tail _ (.head _))), rfl, rfl, rfl⟩
  | 1, _, 1, _ => ⟨_, .tail _ (.tail _ (.head _)), rfl, rfl, rfl⟩
  | 1, _, 2, _ => ⟨_, .tail _ (.head _), rfl, rfl, rfl⟩
  | 1, _, 3, _ => ⟨_, .head _, rfl, rfl, rfl⟩
  | 0, _, b + 4, h => absurd h (by omega)
  | 1, _, b + 4, h => absurd h (by omega)
  | a + 2, h, _, _ => absurd h (by omega)

theorem writes_rows (M : Memref sig .tc .vmem S2x512x128 .f32) (h : M.IsWhole)
    (f : M.view.ty.Contents (Elt F)) (L : List (View.Piece (Elt F) S2x512x128 .f32)) (hc : Rows L) :
    M.view.writes (Elt F) f L = h.unread (View.canon L) :=
  writes_covered M h f L hc.cover

/-- Three blocks, one for each token, fill the result's block. -/
theorem cover_tokens {i2 w2 i1 w1 i0 w0} (y : S1x3x4x256.Idx) :
    ∃ p ∈ ([⟨Rect.unit ![0, 2, 0, 0] ![1, 1, 4, 256] i2, w2⟩, ⟨Rect.unit ![0, 1, 0, 0] ![1, 1, 4, 256] i1, w1⟩,
      ⟨Rect.unit ![0, 0, 0, 0] ![1, 1, 4, 256] i0, w0⟩] : List (View.Piece (Elt F) S1x3x4x256 .f32)), y ∈ p.1.set := by
  have h0 : (y 0).val < 1 := (y 0).isLt
  have h1 : (y 1).val < 3 := (y 1).isLt
  have key : ∀ (t : ℕ) (i : ∀ a, (![0, t, 0, 0] : Fin 4 → ℕ) a + (![1, 1, 4, 256] : Fin 4 → ℕ) a ≤ S1x3x4x256.size a),
      (y 1).val = t → y ∈ (Rect.unit ![0, t, 0, 0] ![1, 1, 4, 256] i).set := fun t i ht => by
    refine mem_rect _ y (fun a => ⟨(![0, 0, (y 2).val, (y 3).val] : Fin 4 → ℕ) a, ?_⟩) ?_
    · fin_cases a
      · exact Nat.zero_lt_one
      · exact Nat.zero_lt_one
      · exact (y 2).isLt
      · exact (y 3).isLt
    · intro a
      fin_cases a
      · show (y 0).val = 0 + 1 * 0
        omega
      · show (y 1).val = t + 1 * 0
        omega
      · show (y 2).val = 0 + 1 * (y 2).val
        omega
      · show (y 3).val = 0 + 1 * (y 3).val
        omega
  obtain h | h | h : (y 1).val = 0 ∨ (y 1).val = 1 ∨ (y 1).val = 2 := by omega
  · exact ⟨_, .tail _ (.tail _ (.head _)), key 0 i0 h⟩
  · exact ⟨_, .tail _ (.head _), key 1 i1 h⟩
  · exact ⟨_, .head _, key 2 i2 h⟩

end Cert.KernelIdeal.Gen

end
-- ==== Proof.KI.Tables.lean ====
module

public import proofs.«01_k».proof.Proof.KI.Cover

/-! The first loop fills the two tables it writes. -/

@[expose] public section

set_option maxRecDepth 16384

noncomputable section

namespace Cert.KernelIdeal.Gen

open Idealize.ShloMosaic Idealize.ShloMosaic.TcCoe

variable {F : FTy → Type} [FloatOps F]

/-- The pieces of the first `k` trips, the last trip's first. -/
def pile {α : Type} {n : ℕ} (L : Fin n → List α) : ℕ → List α
  | 0 => []
  | k + 1 => if h : k < n then L ⟨k, h⟩ ++ pile L k else pile L k

theorem mem_pile {α : Type} {n : ℕ} (L : Fin n → List α) (k : Fin n) {p : α} (hp : p ∈ L k) (m : ℕ) (hm : k.val < m) :
    p ∈ pile L m := by
  induction m with
  | zero => exact absurd hm (Nat.not_lt_zero _)
  | succ m ih =>
    rw [pile]
    split
    · rcases Nat.lt_succ_iff_lt_or_eq.1 hm with h | h
      · exact List.mem_append_right _ (ih h)
      · subst h; exact List.mem_append_left _ hp
    · exact ih (by have := k.isLt; omega)

theorem trips1 : Scf.trips k0_t1_loop.lb k0_t1_loop.ub k0_t1_loop.st = 96 := by decide +kernel

theorem trips1' : k0_t1_loop.trips = 96 := by decide +kernel

/-- The contents of the table after `k` trips are its first ones written over by the pieces of those trips. -/
theorem tab13_eq (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) (k : ℕ) :
    tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k
      = arg13.view.writes (Elt F) G (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).1) k) := by
  induction k with
  | zero => rfl
  | succ k ih =>
    rw [tab13.eq_2, pile]
    by_cases h : k < k0_t1_loop.trips
    · rw [dif_pos h, dif_pos h, View.writes_append, ih]
    · rw [dif_neg h, dif_neg h, ih]

/-- The contents of the table after `k` trips are its first ones written over by the pieces of those trips. -/
theorem tab15_eq (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) (k : ℕ) :
    tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G k
      = arg15.view.writes (Elt F) G (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.1) k) := by
  induction k with
  | zero => rfl
  | succ k ih =>
    rw [tab15.eq_2, pile]
    by_cases h : k < k0_t1_loop.trips
    · rw [dif_pos h, dif_pos h, View.writes_append, ih]
    · rw [dif_neg h, dif_neg h, ih]

theorem off7 : ∀ (k : Fin k0_t1_loop.trips), k0_off7 k 0#32 = ![2 * k.val, 0, 0] ∧ k0_off7 k 1#32 = ![2 * k.val + 1, 0, 0] := by
  decide +kernel

theorem off456 : ∀ (k : Fin k0_t1_loop.trips),
    (k0_off4 k 0#32 = ![2 * k.val, 0, 0, 0] ∧ k0_off4 k 1#32 = ![2 * k.val + 1, 0, 0, 0]) ∧
    (k0_off5 k 0#32 = ![2 * k.val, 1, 0, 0] ∧ k0_off5 k 1#32 = ![2 * k.val + 1, 1, 0, 0]) ∧
    (k0_off6 k 0#32 = ![2 * k.val, 2, 0, 0] ∧ k0_off6 k 1#32 = ![2 * k.val + 1, 2, 0, 0]) := by
  decide +kernel

/-- A list with a piece for each of the two slabs of every trip fills the first table. -/
theorem slabs13 (L : Fin k0_t1_loop.trips → List (View.Piece (Elt F) S192x32x1024 .bf16))
    (h : ∀ k, ∀ o < 2, ∃ p ∈ L k, p.1.off = ![2 * k.val + o, 0, 0] ∧ p.1.size = ![1, 32, 1024] ∧ p.1.stride = fun _ => 1)
    (y : S192x32x1024.Idx) : ∃ p ∈ pile L 96, y ∈ p.1.set := by
  have h0 : (y 0).val < 192 := (y 0).isLt
  have ht := trips1'
  obtain ⟨⟨⟨⟨off, size, stride, inb⟩, sp⟩, w⟩, hp, ho, hs, ht⟩ :=
    h ⟨(y 0).val / 2, by omega⟩ ((y 0).val % 2) (by omega)
  dsimp only at ho hs ht
  subst ho hs ht
  refine ⟨_, mem_pile L _ hp 96 (show (y 0).val / 2 < 96 by omega),
    mem_rect _ y (fun a => ⟨(![0, (y 1).val, (y 2).val] : Fin 3 → ℕ) a, ?_⟩) ?_⟩
  · fin_cases a
    · exact Nat.zero_lt_one
    · exact (y 1).isLt
    · exact (y 2).isLt
  · intro a
    fin_cases a
    · show (y 0).val = 2 * ((y 0).val / 2) + (y 0).val % 2 + 1 * 0
      omega
    · show (y 1).val = 0 + 1 * (y 1).val
      omega
    · show (y 2).val = 0 + 1 * (y 2).val
      omega

/-- A list with a piece for each of the six slabs of every trip fills the second table. -/
theorem slabs15 (L : Fin k0_t1_loop.trips → List (View.Piece (Elt F) S192x3x8x128 .f32))
    (h : ∀ k, ∀ o < 2, ∀ t < 3, ∃ p ∈ L k, p.1.off = ![2 * k.val + o, t, 0, 0] ∧ p.1.size = ![1, 1, 8, 128] ∧ p.1.stride = fun _ => 1)
    (y : S192x3x8x128.Idx) : ∃ p ∈ pile L 96, y ∈ p.1.set := by
  have h0 : (y 0).val < 192 := (y 0).isLt
  have ht := trips1'
  obtain ⟨⟨⟨⟨off, size, stride, inb⟩, sp⟩, w⟩, hp, ho, hs, ht⟩ :=
    h ⟨(y 0).val / 2, by omega⟩ ((y 0).val % 2) (by omega) (y 1).val (y 1).isLt
  dsimp only at ho hs ht
  subst ho hs ht
  refine ⟨_, mem_pile L _ hp 96 (show (y 0).val / 2 < 96 by omega),
    mem_rect _ y (fun a => ⟨(![0, 0, (y 2).val, (y 3).val] : Fin 4 → ℕ) a, ?_⟩) ?_⟩
  · fin_cases a
    · exact Nat.zero_lt_one
    · exact Nat.zero_lt_one
    · exact (y 2).isLt
    · exact (y 3).isLt
  · intro a
    fin_cases a
    · show (y 0).val = 2 * ((y 0).val / 2) + (y 0).val % 2 + 1 * 0
      omega
    · show (y 1).val = (y 1).val + 1 * 0
      omega
    · show (y 2).val = 0 + 1 * (y 2).val
      omega
    · show (y 3).val = 0 + 1 * (y 3).val
      omega

/-- After the last trip the first table does not depend on what it held. -/
theorem tab13_full (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg13.view.ty) :
    tab13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (Scf.trips k0_t1_loop.lb k0_t1_loop.ub k0_t1_loop.st)
      = harg13.unread (View.canon (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).1) 96)) := by
  rw [tab13_eq, trips1]
  refine writes_covered arg13 harg13 G _ (slabs13 _ fun k o ho => ?_)
  match o, ho with
  | 0, _ => exact ⟨_, .tail _ (.head _), (off7 k).1, rfl, rfl⟩
  | 1, _ => exact ⟨_, .head _, (off7 k).2, rfl, rfl⟩
  | o + 2, h => exact absurd h (by omega)

/-- After the last trip the second table does not depend on what it held. -/
theorem tab15_full (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (k0_h1 : k0_cond1 i = 1#1) (v197 : IVec S8x128 32) (v198 : Vec F S8x1024 .f32) (X_arg14 : BufTy.Contents (Elt F) arg14.view.ty) (X_arg16 : BufTy.Contents (Elt F) arg16.view.ty) (G : BufTy.Contents (Elt F) arg15.view.ty) :
    tab15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 G (Scf.trips k0_t1_loop.lb k0_t1_loop.ub k0_t1_loop.st)
      = harg15.unread (View.canon (pile (fun k : Fin k0_t1_loop.trips => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X_arg14 X_arg16 k).2.1) 96)) := by
  rw [tab15_eq, trips1]
  refine writes_covered arg15 harg15 G _ (slabs15 _ fun k o ho t ht => ?_)
  match o, ho, t, ht with
  | 0, _, 0, _ => exact ⟨_, .tail _ (.tail _ (.tail _ (.tail _ (.tail _ (.head _))))), (off456 k).1.1, rfl, rfl⟩
  | 0, _, 1, _ => exact ⟨_, .tail _ (.tail _ (.tail _ (.tail _ (.head _)))), (off456 k).2.1.1, rfl, rfl⟩
  | 0, _, 2, _ => exact ⟨_, .tail _ (.tail _ (.tail _ (.head _))), (off456 k).2.2.1, rfl, rfl⟩
  | 1, _, 0, _ => exact ⟨_, .tail _ (.tail _ (.head _)), (off456 k).1.2, rfl, rfl⟩
  | 1, _, 1, _ => exact ⟨_, .tail _ (.head _), (off456 k).2.1.2, rfl, rfl⟩
  | 1, _, 2, _ => exact ⟨_, .head _, (off456 k).2.2.2, rfl, rfl⟩
  | o + 2, h, _, _ => exact absurd h (by omega)
  | 0, _, t + 3, h => exact absurd h (by omega)
  | 1, _, t + 3, h => exact absurd h (by omega)

end Cert.KernelIdeal.Gen

end
-- ==== Proof.KI.RunA.lean ====
module

public import proofs.«01_k».proof.Proof.KI.Tables

/-! The run of the body at the first point: the prologue, then a trip over the first block of words. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_A (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : cond0_0 i) (hc1 : cond0_1 i) (hc2 : ¬cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) :
    Σ' (v9 : Vec F S288x512 .i8), Σ' (v10 : Vec F S288x128 .f32), Σ' (vlhs : Vec F S192x32x1024 .bf16), Σ' (vzp : Vec F S192x3x8x128 .f32), { vacc : Vec F S3x8x256 .f32 //
      ∀ (E : Set ℕ) (d8 : Vec F S1x3x4x256 .f32) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare v9 ∗ owns (c : Thread nD τ) arg12 fullShare v10 ∗ owns (c : Thread nD τ) arg13 fullShare vlhs ∗ (∃ d, owns (c : Thread nD τ) arg14 fullShare d) ∗ owns (c : Thread nD τ) arg15 fullShare vzp ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E d8 K => ?run⟩
  case run =>
    simp only [cc0_tmac_linear_eq_skeleton]; unfold cc0_tmac_linear_skel
    simp only [k0_part74_eq_skeleton, k0_part75_eq_skeleton, k0_part76_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      rfl
    isplitl [H12]
    · iexists _; isplitr; swap; · iexact H12
      ipureintro
      rfl
    isplitl [H13]
    · iexists _; isplitr; swap; · iexact H13
      ipureintro
      rw [tab13_full]
    isplitl [H14]
    · iexists _, _; isplitr; swap; · iexact H14
      ipureintro; rfl
    isplitl [H15]
    · iexists _; isplitr; swap; · iexact H15
      ipureintro
      rw [tab15_full]
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [tab13_full, tab15_full, writes_rows arg17 harg17 f17, writes_rows arg18 harg18 f18]
    all_goals exact rows_eight

end Cert.KernelIdeal.Gen

end
-- ==== Proof.KI.RunB.lean ====
module

public import proofs.«01_k».proof.Proof.KI.Cover

/-! The run of the body at a point which neither starts nor ends a block of the result. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_B (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : ¬cond0_0 i) (hc1 : ¬cond0_1 i) (hc2 : ¬cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) (xo10 : Vec F S288x128 .f32) (xs0 : Vec F S192x32x1024 .bf16) (xs2 : Vec F S192x3x8x128 .f32) (xs7 : Vec F S3x8x256 .f32) :
    { vacc : Vec F S3x8x256 .f32 //
      ∀ (E : Set ℕ) (d8 : Vec F S1x3x4x256 .f32) (d9 : Vec F S288x512 .i8) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E d8 d9 K => ?run⟩
  case run =>
    simp only [cc0_tmac_linear_eq_skeleton]; unfold cc0_tmac_linear_skel
    simp only [k0_part74_eq_skeleton, k0_part75_eq_skeleton, k0_part76_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg20.eq_unread hf20
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [writes_rows arg17 harg17 f17, writes_rows arg18 harg18 f18]
    all_goals exact rows_eight

end Cert.KernelIdeal.Gen

end
-- ==== Proof.KI.RunC.lean ====
module

public import proofs.«01_k».proof.Proof.KI.Cover

/-! The run of the body at a point which ends a block of the result. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_C (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : ¬cond0_0 i) (hc1 : ¬cond0_1 i) (hc2 : cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) (xo10 : Vec F S288x128 .f32) (xs0 : Vec F S192x32x1024 .bf16) (xs2 : Vec F S192x3x8x128 .f32) (xs7 : Vec F S3x8x256 .f32) :
    Σ' (v8 : Vec F S1x3x4x256 .f32), { vacc : Vec F S3x8x256 .f32 //
      ∀ (E : Set ℕ) (d9 : Vec F S288x512 .i8) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare v8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E d9 K => ?run⟩
  case run =>
    simp only [cc0_tmac_linear_eq_skeleton]; unfold cc0_tmac_linear_skel
    simp only [k0_part74_eq_skeleton, k0_part75_eq_skeleton, k0_part76_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg15.eq_unread hf15; obtain rfl := harg20.eq_unread hf20
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro
      rw [View.read_writes_eq_canon arg10.view f10 _ cover_tokens]
      delta kernelRun0_C.sl.v108
      delta kernelRun0_C.sl.v100
      delta kernelRun0_C.sl.v92
      rw [writes_rows arg17 harg17 f17, writes_rows arg18 harg18 f18]
      all_goals exact rows_eight
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [writes_rows arg17 harg17 f17, writes_rows arg18 harg18 f18]
    all_goals exact rows_eight

end Cert.KernelIdeal.Gen

end
-- ==== Proof.KI.RunD.lean ====
module

public import proofs.«01_k».proof.Proof.KI.Cover

/-! The run of the body at a point, after the first, which starts a block of the result. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the buffers it fills, with the proof that it runs to the continuation holding them. -/
noncomputable def kernelRun0_D (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (hc0 : ¬cond0_0 i) (hc1 : cond0_1 i) (hc2 : ¬cond0_2 i)
    (x0 : Vec F S288x128 .bf16) (x1 : Vec F S4x128x512 .bf16) (x2 : Vec F S2x128x1024 .bf16) (x3 : Vec F S2x128x128 .bf16) (x4 : Vec F S8x1024 .f32) (x5 : Vec F S4x1024x512 .i8) (x6 : Vec F S1024x128 .f32) (x7 : Vec F S1024x128 .f32) (xo10 : Vec F S288x128 .f32) (xs0 : Vec F S192x32x1024 .bf16) (xs2 : Vec F S192x3x8x128 .f32) :
    { vacc : Vec F S3x8x256 .f32 //
      ∀ (E : Set ℕ) (d8 : Vec F S1x3x4x256 .f32) (d9 : Vec F S288x512 .i8) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare d9 ∗ owns (c : Thread nD τ) arg12 fullShare xo10 ∗ owns (c : Thread nD τ) arg13 fullShare xs0 ∗ (∃ d, owns (c : Thread nD τ) arg14 fullShare d) ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare vacc) -∗ K ⟨⟩))
          ⊢ wp frame (wpE (defs₀ (F := F)) Variants.none c none) E (cc0_tmac_linear i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E d8 d9 K => ?run⟩
  case run =>
    simp only [cc0_tmac_linear_eq_skeleton]; unfold cc0_tmac_linear_skel
    simp only [k0_part74_eq_skeleton, k0_part75_eq_skeleton, k0_part76_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15
    sl_exec (disch := first | sl_exact hc0 | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; · ipureintro; exact harg15.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    rw [writes_rows arg17 harg17 f17, writes_rows arg18 harg18 f18]
    all_goals exact rows_eight

end Cert.KernelIdeal.Gen

end
-- ==== Proof.KI.Frame.lean ====
module

public import proofs.«01_k».proof.Proof.KI.RunA
public import proofs.«01_k».proof.Proof.KI.RunB
public import proofs.«01_k».proof.Proof.KI.RunC
public import proofs.«01_k».proof.Proof.KI.RunD
public import Idealize.ShloMosaic.Lib.Claim

/-! What the kernel leaves in its buffers point by point, the obligation of the body, and the frame. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point. -/
def t0 : Fin cfg0.N := ⟨0, by rw [show cfg0.N = 27 from N_0]; exact Nat.zero_lt_succ _⟩

/-- The run at a point of case A, on the point's buffers and blocks. -/
def runA (c : Dev nD) (t : Fin cfg0.N) (h0 : t.val % 27 = 0) (h1 : t.val % 3 = 0) (h2 : ¬t.val % 3 = 2) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)

/-- The run at the first point. -/
def run0 (c : Dev nD) := runA m c t0 rfl rfl (by decide)

/-- The codes, as the first point leaves them. -/
def codes0 (c : Dev nD) : Vec F S288x512 .i8 := (run0 m c).1
/-- The scales of the groups, as the first point leaves them. -/
def lut0 (c : Dev nD) : Vec F S288x128 .f32 := (run0 m c).2.1
/-- The table of left operands, as the first point leaves it. -/
def lhs0 (c : Dev nD) : Vec F S192x32x1024 .bf16 := (run0 m c).2.2.1
/-- The table of zero point sums, as the first point leaves it. -/
def zp0 (c : Dev nD) : Vec F S192x3x8x128 .f32 := (run0 m c).2.2.2.1

/-- The run at a point of case B, on the point's buffers and blocks. -/
def runB (c : Dev nD) (t : Fin cfg0.N) (h0 : ¬t.val % 27 = 0) (h1 : ¬t.val % 3 = 0) (h2 : ¬t.val % 3 = 2) (acc : Vec F S3x8x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (lut0 m c) (lhs0 m c) (zp0 m c) acc

/-- The run at a point of case C, on the point's buffers and blocks. -/
def runC (c : Dev nD) (t : Fin cfg0.N) (h0 : ¬t.val % 27 = 0) (h1 : ¬t.val % 3 = 0) (h2 : t.val % 3 = 2) (acc : Vec F S3x8x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (lut0 m c) (lhs0 m c) (zp0 m c) acc

/-- The run at a point of case D, on the point's buffers and blocks. -/
def runD (c : Dev nD) (t : Fin cfg0.N) (h0 : ¬t.val % 27 = 0) (h1 : t.val % 3 = 0) (h2 : ¬t.val % 3 = 2) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (lut0 m c) (lhs0 m c) (zp0 m c)

/-- What the accumulator holds after point `n`. -/
def accAt (c : Dev nD) : ℕ → Vec F S3x8x256 .f32
  | 0 => (run0 m c).2.2.2.2.1
  | n + 1 =>
    if hn : n + 1 < cfg0.N then
      if h0 : (n + 1) % 27 = 0 then accAt c n
      else if h1 : (n + 1) % 3 = 0 then (runD m c ⟨n + 1, hn⟩ h0 h1 (by show ¬(n + 1) % 3 = 2; omega)).1
      else if h2 : (n + 1) % 3 = 2 then (runC m c ⟨n + 1, hn⟩ h0 h1 h2 (accAt c n)).2.1
      else (runB m c ⟨n + 1, hn⟩ h0 h1 h2 (accAt c n)).1
    else accAt c n

/-- What the result's buffer holds after point `t`, where it is filled. -/
def yAt (c : Dev nD) (t : Fin cfg0.N) : Vec F S1x3x4x256 .f32 :=
  if h2 : t.val % 3 = 2 then
    (runC m c t (by have := t.isLt; omega) (by omega) h2 (accAt m c (t.val - 1))).1
  else VO0_8.read (Elt F) VO0_8.junk

theorem accAt_A (c : Dev nD) (t : Fin cfg0.N) (h0 : t.val % 27 = 0) (h1 : t.val % 3 = 0) (h2 : ¬t.val % 3 = 2) :
    accAt m c t.val = (runA m c t h0 h1 h2).2.2.2.2.1 := by
  have hN : t.val < 27 := lt_of_lt_of_eq t.isLt (show cfg0.N = 27 from N_0)
  obtain rfl : t = t0 := Fin.ext (show t.val = 0 by omega)
  rfl

theorem accAt_B (c : Dev nD) (t : Fin cfg0.N) (h0 : ¬t.val % 27 = 0) (h1 : ¬t.val % 3 = 0) (h2 : ¬t.val % 3 = 2) :
    accAt m c t.val = (runB m c t h0 h1 h2 (accAt m c (t.val - 1))).1 := by
  obtain ⟨n, hn⟩ := t
  cases n with
  | zero => exact absurd (Nat.zero_mod _) h0
  | succ n => exact (dif_pos hn).trans ((dif_neg h0).trans ((dif_neg h1).trans (dif_neg h2)))

theorem accAt_C (c : Dev nD) (t : Fin cfg0.N) (h0 : ¬t.val % 27 = 0) (h1 : ¬t.val % 3 = 0) (h2 : t.val % 3 = 2) :
    accAt m c t.val = (runC m c t h0 h1 h2 (accAt m c (t.val - 1))).2.1 := by
  obtain ⟨n, hn⟩ := t
  cases n with
  | zero => exact absurd (Nat.zero_mod _) h0
  | succ n => exact (dif_pos hn).trans ((dif_neg h0).trans ((dif_neg h1).trans (dif_pos h2)))

theorem accAt_D (c : Dev nD) (t : Fin cfg0.N) (h0 : ¬t.val % 27 = 0) (h1 : t.val % 3 = 0) (h2 : ¬t.val % 3 = 2) :
    accAt m c t.val = (runD m c t h0 h1 h2).1 := by
  obtain ⟨n, hn⟩ := t
  cases n with
  | zero => exact absurd (Nat.zero_mod _) h0
  | succ n => exact (dif_pos hn).trans ((dif_neg h0).trans (dif_pos h1))

theorem yAt_C (c : Dev nD) (t : Fin cfg0.N) (h0 : ¬t.val % 27 = 0) (h1 : ¬t.val % 3 = 0) (h2 : t.val % 3 = 2) :
    yAt m c t = (runC m c t h0 h1 h2 (accAt m c (t.val - 1))).1 := dif_pos h2

/-- The invariant before position `n`: before the first point every buffer of the kernel's own holds anything;
    afterwards the two tables and the accumulator hold what the points before left there. -/
def PhiS (c : Dev nD) : (n : ℕ) → n ≤ cfg0.N → sProp 𝕄
  | 0, _ => Pipeline.ΦA spec0 c
  | n + 1, hn => iprop(iprop(owns (c : Thread nD τ) scM0_0 fullShare (lhs0 m c) ∗ (∃ d, owns (c : Thread nD τ) scM0_1 fullShare d) ∗ owns (c : Thread nD τ) scM0_2 fullShare (zp0 m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (accAt m c n)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (lhs0 m c) ∗ (∃ d, owns (c : Thread nD τ) scM0_1 fullShare d) ∗ owns (c : Thread nD τ) scM0_2 fullShare (zp0 m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (accAt m c n)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (lhs0 m c) ∗ (∃ d, owns (c : Thread nD τ) scM0_1 fullShare d) ∗ owns (c : Thread nD τ) scM0_2 fullShare (zp0 m c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare (accAt m c (n - 1))) ∗ (∃ r, prngReg c r)) := by
  cases n with
  | zero => exact absurd rfl hz
  | succ n => rfl

/-! ## The pipeline's proof data -/

/-- The proof data of the pipeline on core `c`: the arrays as the region finds them; after the body each input's buffer
    at its block and the results' at what the points left there; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t
    | ⟨9, _⟩ => codes0 m c
    | ⟨10, _⟩ => lut0 m c
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yAt m c t := by dsimp only [dats]
theorem after0_9 (c : Dev nD) (t : Fin cfg0.N) : (dats m 0 c).after 9 t = codes0 m c := by dsimp only [dats]
theorem after0_10 (c : Dev nD) (t : Fin cfg0.N) : (dats m 0 c).after 10 t = lut0 m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- After the first point the buffer of output 9 holds what the first point left. -/
theorem before0_9 (c : Dev nD) : ∀ (n : ℕ) (hn : n < cfg0.N), n ≠ 0 → ∀ d, (dats m 0 c).before 9 ⟨n, hn⟩ d = codes0 m c := by
  intro n
  induction n with
  | zero => intro _ h; exact absurd rfl h
  | succ n ih =>
    intro hn _ d
    have hN : n + 1 < 27 := lt_of_lt_of_eq hn (show cfg0.N = 27 from N_0)
    have hn' : n < cfg0.N := Nat.lt_of_succ_lt hn
    rw [Dat.before_of_pos _ 9 ⟨n + 1, hn⟩ (Nat.succ_ne_zero n) ((cfg0.win 9).fetch_out rfl _)]
    have hfl : (cfg0.win 9).flush ⟨n, hn'⟩ = false :=
      Bool.eq_false_iff.mpr fun h => by have := (flush0_9 _).mp h; dsimp only at this; omega
    refine (if_neg (by rw [show (⟨(⟨n + 1, hn⟩ : Fin cfg0.N).val - 1, Nat.lt_of_le_of_lt (Nat.sub_le _ _) hn⟩ : Fin cfg0.N) = ⟨n, hn'⟩ from rfl, hfl]; exact Bool.false_ne_true)).trans ?_
    show (dats m 0 c).left 9 ⟨n, hn'⟩ d = _
    by_cases hz : n = 0
    · subst hz
      unfold Dat.left
      rw [liveAt0_9_A ⟨0, hn'⟩ ((hcond0_0 _).mpr rfl)]
      show (dats m 0 c).kept 9 _ d = _
      unfold Dat.kept
      rw [Pipeline.fill_of_clip_none 9 _ (fun _ => rfl) d ((dats m 0 c).after 9 _), Window.fill_cut]
      exact after0_9 m c _
    · unfold Dat.left
      rw [idleAt0_9 ⟨n, hn'⟩ (fun h => by have := (hcond0_0 _).mp h; dsimp only at this; omega)]
      exact ih hn' hz d

theorem before0_9' (c : Dev nD) (t : Fin cfg0.N) (h0 : ¬t.val % 27 = 0) (d) : (dats m 0 c).before 9 t d = codes0 m c :=
  before0_9 m c t.val t.isLt (fun h => h0 (by rw [h])) d

/-- Handing the buffer back as found is what the pipeline asks at such a point, written back there or not. -/
theorem keep0_9 (c : Dev nD) (t : Fin cfg0.N) (h0 : ¬t.val % 27 = 0) :
    (owns (c : Thread nD τ) (ms0_9 t) fullShare (codes0 m c) : sProp 𝕄) ⊢ (dats m 0 c).leavesExact 9 t := by
  have hi := idleAt0_9 t (fun h => h0 ((hcond0_0 t).mp h))
  by_cases hf : (cfg0.win 9).flush t = false
  · rw [Dat.leavesExact_idle (dats m 0 c) 9 t hi hf]
    iintro H
    iexists codes0 m c
    rw [before0_9' m c t h0]
    iexact H
  · rw [show (dats m 0 c).leavesExact 9 t = owns (c : Thread nD τ) (ms0_9 t) fullShare ((dats m 0 c).after 9 t) from by
      unfold Dat.leavesExact; rw [hi, Bool.of_not_eq_false hf], after0_9]

/-- After the first point the buffer of output 10 holds what the first point left. -/
theorem before0_10 (c : Dev nD) : ∀ (n : ℕ) (hn : n < cfg0.N), n ≠ 0 → ∀ d, (dats m 0 c).before 10 ⟨n, hn⟩ d = lut0 m c := by
  intro n
  induction n with
  | zero => intro _ h; exact absurd rfl h
  | succ n ih =>
    intro hn _ d
    have hN : n + 1 < 27 := lt_of_lt_of_eq hn (show cfg0.N = 27 from N_0)
    have hn' : n < cfg0.N := Nat.lt_of_succ_lt hn
    rw [Dat.before_of_pos _ 10 ⟨n + 1, hn⟩ (Nat.succ_ne_zero n) ((cfg0.win 10).fetch_out rfl _)]
    have hfl : (cfg0.win 10).flush ⟨n, hn'⟩ = false :=
      Bool.eq_false_iff.mpr fun h => by have := (flush0_10 _).mp h; dsimp only at this; omega
    refine (if_neg (by rw [show (⟨(⟨n + 1, hn⟩ : Fin cfg0.N).val - 1, Nat.lt_of_le_of_lt (Nat.sub_le _ _) hn⟩ : Fin cfg0.N) = ⟨n, hn'⟩ from rfl, hfl]; exact Bool.false_ne_true)).trans ?_
    show (dats m 0 c).left 10 ⟨n, hn'⟩ d = _
    by_cases hz : n = 0
    · subst hz
      unfold Dat.left
      rw [liveAt0_10_A ⟨0, hn'⟩ ((hcond0_0 _).mpr rfl)]
      show (dats m 0 c).kept 10 _ d = _
      unfold Dat.kept
      rw [Pipeline.fill_of_clip_none 10 _ (fun _ => rfl) d ((dats m 0 c).after 10 _), Window.fill_cut]
      exact after0_10 m c _
    · unfold Dat.left
      rw [idleAt0_10 ⟨n, hn'⟩ (fun h => by have := (hcond0_0 _).mp h; dsimp only at this; omega)]
      exact ih hn' hz d

theorem before0_10' (c : Dev nD) (t : Fin cfg0.N) (h0 : ¬t.val % 27 = 0) (d) : (dats m 0 c).before 10 t d = lut0 m c :=
  before0_10 m c t.val t.isLt (fun h => h0 (by rw [h])) d

/-- Handing the buffer back as found is what the pipeline asks at such a point, written back there or not. -/
theorem keep0_10 (c : Dev nD) (t : Fin cfg0.N) (h0 : ¬t.val % 27 = 0) :
    (owns (c : Thread nD τ) (ms0_10 t) fullShare (lut0 m c) : sProp 𝕄) ⊢ (dats m 0 c).leavesExact 10 t := by
  have hi := idleAt0_10 t (fun h => h0 ((hcond0_0 t).mp h))
  by_cases hf : (cfg0.win 10).flush t = false
  · rw [Dat.leavesExact_idle (dats m 0 c) 10 t hi hf]
    iintro H
    iexists lut0 m c
    rw [before0_10' m c t h0]
    iexact H
  · rw [show (dats m 0 c).leavesExact 10 t = owns (c : Thread nD τ) (ms0_10 t) fullShare ((dats m 0 c).after 10 t) from by
      unfold Dat.leavesExact; rw [hi, Bool.of_not_eq_false hf], after0_10]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point: the inputs' buffers hold their blocks, the carried ones what the point before left; the run of
    the point's case applies, and what it leaves is what the invariant and the results' buffers are to hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 27 := lt_of_lt_of_eq t.isLt (show cfg0.N = 27 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val % 27 = 0
  · have h1 : t.val % 3 = 0 := by omega
    have h2 : ¬t.val % 3 = 2 := by omega
    rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
    rw [show (dats m 0 c).leavesExact 9 t = owns (c : Thread nD τ) (ms0_9 t) fullShare ((dats m 0 c).after 9 t) from by
      unfold Dat.leavesExact; rw [liveAt0_9_A t ((hcond0_0 t).mpr h0)], after0_9]
    rw [show (dats m 0 c).leavesExact 10 t = owns (c : Thread nD τ) (ms0_10 t) fullShare ((dats m 0 c).after 10 t) from by
      unfold Dat.leavesExact; rw [liveAt0_10_A t ((hcond0_0 t).mpr h0)], after0_10]
    obtain rfl : t = t0 := Fin.ext (show t.val = 0 by omega)
    rw [PhiS_castSucc m c t0, PhiS_zero m c t0.val _ (show t0.val = 0 from rfl), PhiA0_eq]
    rw [accAt_A m c t0 h0 h1 h2]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA m c t0 h0 h1 h2).2.2.2.2.2 Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iexact H10
  · by_cases h1 : t.val % 3 = 0
    · have h2 : ¬t.val % 3 = 2 := by omega
      rw [Dat.leavesExact_idle (dats m 0 c) 8 t (idleAt0_8_D t (fun h => h0 ((hcond0_0 t).mp h)) ((hcond0_1 t).mpr h1) (fun h => h2 ((hcond0_2 t).mp h))) (noFlush0_8_D t (fun h => h0 ((hcond0_0 t).mp h)) ((hcond0_1 t).mpr h1) (fun h => h2 ((hcond0_2 t).mp h)))]
      rw [PhiS_castSucc m c t, PhiS_pos m c _ _ (fun h => h0 (by rw [h]))]
      simp only [before0_9' m c t h0, before0_10' m c t h0]
      rw [accAt_D m c t h0 h1 h2]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runD m c t h0 h1 h2).2 Set.univ _ (codes0 m c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexists _; iexact HS7
      iintro ⟨H0, H1, H2, H3, H4, H5, H6, H7, H8, H9, H10, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iapply (keep0_9 m c t h0); iexact H9
      iapply (keep0_10 m c t h0); iexact H10
    · by_cases h2 : t.val % 3 = 2
      · rw [show (dats m 0 c).leavesExact 8 t = owns (c : Thread nD τ) (ms0_8 t) fullShare ((dats m 0 c).after 8 t) from by
          unfold Dat.leavesExact; rw [liveAt0_8_C t (fun h => h0 ((hcond0_0 t).mp h)) (fun h => h1 ((hcond0_1 t).mp h)) ((hcond0_2 t).mpr h2)], after0_8, yAt_C m c t h0 h1 h2]
        rw [PhiS_castSucc m c t, PhiS_pos m c _ _ (fun h => h0 (by rw [h]))]
        simp only [before0_9' m c t h0, before0_10' m c t h0]
        rw [accAt_C m c t h0 h1 h2]
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runC m c t h0 h1 h2 (accAt m c (t.val - 1))).2.2 Set.univ (codes0 m c) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iapply (keep0_9 m c t h0); iexact H9
        iapply (keep0_10 m c t h0); iexact H10
      · rw [Dat.leavesExact_idle (dats m 0 c) 8 t (idleAt0_8_B t (fun h => h0 ((hcond0_0 t).mp h)) (fun h => h1 ((hcond0_1 t).mp h)) (fun h => h2 ((hcond0_2 t).mp h))) (noFlush0_8_B t (fun h => h0 ((hcond0_0 t).mp h)) (fun h => h1 ((hcond0_1 t).mp h)) (fun h => h2 ((hcond0_2 t).mp h)))]
        rw [PhiS_castSucc m c t, PhiS_pos m c _ _ (fun h => h0 (by rw [h]))]
        simp only [before0_9' m c t h0, before0_10' m c t h0]
        rw [accAt_B m c t h0 h1 h2]
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((runB m c t h0 h1 h2 (accAt m c (t.val - 1))).2 Set.univ _ (codes0 m c) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iapply (keep0_9 m c t h0); iexact H9
        iapply (keep0_10 m c t h0); iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexists _; iexact HS2
    isplitl [HS3]
    · iexact HS3
    isplitl [HS4]
    · iexact HS4
    isplitl [HS5]
    · iexact HS5
    isplitl [HS6]
    · iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 27 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the kernel terminates, its arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.V.Spec.lean ====
module

public import Idealize.ShloMosaic.Lib.Pointwise
public import Idealize.ShloMosaic.Lib.ValueIdx

/-! The lookup tables as plain functions of the entries of `x`: the sums, the scales, the codes. -/

@[expose] public section

set_option maxRecDepth 16384

noncomputable section

namespace Cert.Val

open Idealize.ShloMosaic

/-- Bit `i` of `e` as a number. -/
def bit (e i : ℕ) : EReal := if e.testBit i then 1 else 0

/-- The entry of a table at the set `e` of its four inputs: the sum of the inputs in the set. -/
def tv (x : Fin 3 → Fin 12288 → EReal) (t : Fin 3) (q : Fin 3072) (e : Fin 16) : EReal :=
  bit e 0 * x t ⟨q * 4, by omega⟩ + bit e 1 * x t ⟨q * 4 + 1, by omega⟩ + bit e 2 * x t ⟨q * 4 + 2, by omega⟩ + bit e 3 * x t ⟨q * 4 + 3, by omega⟩

/-- The largest magnitude in a group of 32 tables. -/
def mv (x : Fin 3 → Fin 12288 → EReal) (t : Fin 3) (g : Fin 96) : EReal :=
  Finset.univ.sup fun qe : Fin 32 × Fin 16 => max (tv x t ⟨g * 32 + qe.1, by omega⟩ qe.2) (-tv x t ⟨g * 32 + qe.1, by omega⟩ qe.2)

/-- The scale of a group. -/
def sv (x : Fin 3 → Fin 12288 → EReal) (t : Fin 3) (g : Fin 96) : EReal :=
  if mv x t g = 0 then 1 else Ideal.div (mv x t g) (Ideal.ofBits .f32 1123942400#32)

/-- The code of an entry, as a number. -/
def cv (x : Fin 3 → Fin 12288 → EReal) (t : Fin 3) (q : Fin 3072) (e : Fin 16) : EReal :=
  min ((((127#32 : BitVec 32).toInt : ℝ) : EReal)) (max (((4294967169#32 : BitVec 32).toInt : ℝ) : EReal)
    (Ideal.liftRound Ideal.roundHalfEven (Ideal.div (tv x t q e) (sv x t ⟨q / 32, by omega⟩))))

/-- A clipped rounding is a whole number between -127 and 127. -/
theorem clip_int (y : EReal) : ∃ z : ℤ, -127 ≤ z ∧ z ≤ 127 ∧
    min ((((127#32 : BitVec 32).toInt : ℝ) : EReal)) (max (((4294967169#32 : BitVec 32).toInt : ℝ) : EReal) (Ideal.liftRound Ideal.roundHalfEven y)) = ((z : ℝ) : EReal) := by
  have h1 : (127#32 : BitVec 32).toInt = 127 := by decide
  have h2 : (4294967169#32 : BitVec 32).toInt = -127 := by decide
  rw [h1, h2]
  induction y using EReal.rec with
  | bot => exact ⟨-127, le_rfl, by norm_num, by simp; exact EReal.coe_le_coe_iff.2 (by norm_num : (-127 : ℝ) ≤ 127)⟩
  | top => exact ⟨127, by norm_num, le_rfl, by simp⟩
  | coe r =>
    refine ⟨min 127 (max (-127) (Ideal.roundHalfEven r)), by omega, by omega, ?_⟩
    rw [Ideal.liftRound_coe]
    push_cast
    rfl

theorem cv_int (x t q e) : ∃ z : ℤ, -127 ≤ z ∧ z ≤ 127 ∧ cv x t q e = ((z : ℝ) : EReal) := clip_int _

/-- The code as a whole number. -/
def ci (x : Fin 3 → Fin 12288 → EReal) (t : Fin 3) (q : Fin 3072) (e : Fin 16) : ℤ := (cv_int x t q e).choose

theorem ci_lo (x t q e) : -127 ≤ ci x t q e := (cv_int x t q e).choose_spec.1
theorem ci_hi (x t q e) : ci x t q e ≤ 127 := (cv_int x t q e).choose_spec.2.1
theorem cv_eq (x t q e) : cv x t q e = ((ci x t q e : ℝ) : EReal) := (cv_int x t q e).choose_spec.2.2

theorem fptosi_int (w : ℕ) (z : ℤ) (h : -(2 ^ (w - 1) : ℕ) ≤ z) (h' : z ≤ (2 ^ (w - 1) : ℕ) - 1) : Ideal.fptosi w ((z : ℝ) : EReal) = BitVec.ofInt w z := by
  unfold Ideal.fptosi
  congr 1
  show max _ (min _ (if (0 : ℝ) ≤ (z : ℝ) then ⌊(z : ℝ)⌋ else ⌈(z : ℝ)⌉)) = z
  simp only [Int.floor_intCast, Int.ceil_intCast, ite_self]
  rw [min_eq_right h', max_eq_right h]

theorem fptosi8 (x t q e) : Ideal.fptosi 8 (cv x t q e) = BitVec.ofInt 8 (ci x t q e) := by
  have h1 := ci_lo x t q e; have h2 := ci_hi x t q e
  rw [cv_eq, fptosi_int] <;> norm_num <;> omega

theorem fptosi32 (x t q e) : BitVec.setWidth 8 (Ideal.fptosi 32 (cv x t q e)) = BitVec.ofInt 8 (ci x t q e) := by
  have h1 := ci_lo x t q e; have h2 := ci_hi x t q e
  rw [cv_eq, fptosi_int]
  · apply BitVec.eq_of_toNat_eq
    simp only [BitVec.toNat_setWidth, BitVec.toNat_ofInt]
    omega
  · norm_num; omega
  · norm_num; omega

theorem lit_127 : Ideal.ofBits .f32 1123942400#32 = ((127 : ℝ) : EReal) := by
  simp [Ideal.ofBits, Ideal.ieee, -EReal.coe_mul]; norm_num

theorem lit_bot : Ideal.ofBits .f32 4286578688#32 = ⊥ := by
  simp [Ideal.ofBits, Ideal.ieee]

theorem mv_nonneg (x t g) : 0 ≤ mv x t g := by
  refine le_trans ?_ (Finset.le_sup (Finset.mem_univ ((0 : Fin 32), (0 : Fin 16))))
  simp [tv, bit]

theorem sv_pos (x t g) : 0 < sv x t g := by
  unfold sv
  split_ifs with h
  · exact zero_lt_one
  · have h0 : 0 < mv x t g := lt_of_le_of_ne (mv_nonneg x t g) (Ne.symm h)
    rw [lit_127, Ideal.div, if_neg (by norm_num)]
    rw [← EReal.coe_inv]
    exact EReal.mul_pos h0 (by exact_mod_cast (by norm_num : (0:ℝ) < (127:ℝ)⁻¹))

/-- The empty set's entry is zero, and so is its code. -/
theorem cv_zero (x t q) : cv x t q 0 = 0 := by
  have h : tv x t q 0 = 0 := by simp [tv, bit]
  unfold cv
  rw [h, Ideal.div, if_neg (sv_pos _ _ _).ne', zero_mul]
  have h1 : (127#32 : BitVec 32).toInt = 127 := by decide
  have h2 : (4294967169#32 : BitVec 32).toInt = -127 := by decide
  have h3 : Ideal.roundHalfEven 0 = 0 := by simp [Ideal.roundHalfEven]
  rw [h1, h2, ← EReal.coe_zero, Ideal.liftRound_coe, h3]
  norm_num

theorem ci_zero (x t q) : ci x t q 0 = 0 := by
  have h := cv_eq x t q 0
  rw [cv_zero] at h
  exact_mod_cast h.symm

theorem fold_eq_sup {ι κ : Type} [Fintype κ] (s : Finset ι) (f : ι → EReal) (G : κ → EReal)
    (h1 : ∀ i ∈ s, ∃ k, f i = G k) (h2 : ∀ k, ∃ i ∈ s, f i = G k) : Finset.fold max ⊥ f s = Finset.univ.sup G := by
  apply le_antisymm
  · refine (Finset.fold_max_le _).2 ⟨bot_le, fun i hi => ?_⟩
    obtain ⟨k, h⟩ := h1 i hi
    rw [h]
    exact Finset.le_sup (Finset.mem_univ k)
  · refine Finset.sup_le fun k _ => ?_
    obtain ⟨i, hi, h⟩ := h2 k
    exact (Finset.le_fold_max _).2 (.inr ⟨i, hi, h.ge⟩)

/-- The largest of a set of values that are the magnitudes of a group's entries, each of them. -/
theorem fold_eq_mv {ι : Type} (s : Finset ι) (f : ι → EReal) (x : Fin 3 → Fin 12288 → EReal) (t : Fin 3) (g : Fin 96)
    (h1 : ∀ i ∈ s, ∃ (k : Fin 32) (e : Fin 16), f i = max (tv x t ⟨g * 32 + k, by omega⟩ e) (-tv x t ⟨g * 32 + k, by omega⟩ e))
    (h2 : ∀ (k : Fin 32) (e : Fin 16), ∃ i ∈ s, f i = max (tv x t ⟨g * 32 + k, by omega⟩ e) (-tv x t ⟨g * 32 + k, by omega⟩ e)) :
    Finset.fold max (Ideal.ofBits .f32 4286578688#32) f s = mv x t g := by
  rw [lit_bot]
  exact fold_eq_sup s f _ (fun i hi => by obtain ⟨k, e, h⟩ := h1 i hi; exact ⟨(k, e), h⟩) fun qe => h2 qe.1 qe.2

theorem bit_word (e : Fin 16) (i : Fin 4) :
    IntOp.andi (IntOp.shrsi ArithUnit.host (BitVec.ofNat 32 e) (BitVec.ofNat 32 i)) 1#32 = if (e : ℕ).testBit i then 1#32 else 0#32 := by
  revert e i; decide +kernel

theorem sitofp_bit (e i : ℕ) : (FloatOps.sitofp .f32 (if e.testBit i then 1#32 else 0#32) : Ideal .f32) = bit e i := by
  unfold bit
  split_ifs
  · show ((((1#32 : BitVec 32).toInt : ℝ)) : EReal) = 1
    have : (1#32 : BitVec 32).toInt = 1 := by decide
    rw [this]; norm_num
  · show ((((0#32 : BitVec 32).toInt : ℝ)) : EReal) = 0
    have : (0#32 : BitVec 32).toInt = 0 := by decide
    rw [this]; norm_num

end Cert.Val
-- ==== Proof.V.Entry.lean ====
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.V.Spec

/-! What the constant tables hold, which the host code makes before the call. -/

@[expose] public section

set_option maxRecDepth 16384

noncomputable section

namespace Cert.KernelIdeal.Val

open Idealize.ShloMosaic Idealize.ShloMosaic.TcCoe Idealize.SL.Sem Cert.KernelIdeal Cert.KernelIdeal.Gen

theorem select_eq {α : Type} {n : ℕ} (a b : BitVec n) (u v : α) : Scalar.select (IntOp.cmpi .eq a b) u v = if a = b then u else v := by
  by_cases h : a = b
  · simp [Scalar.select, IntOp.cmpi, h]
  · have hb : (a == b) = false := by simpa using h
    simp [Scalar.select, IntOp.cmpi, h, hb]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The first position that lane `l` reads of a group of 128. -/
def src (l : ℕ) : ℕ := l / 256 * 64 + l % 8 * 8 + l / 128 % 2 * 4

theorem src_word (l : Fin 512) : IntOp.addi (IntOp.addi (IntOp.muli (IntOp.shrsi ArithUnit.host (BitVec.ofNat 32 l) 8#32) 64#32)
    (IntOp.muli (IntOp.andi (BitVec.ofNat 32 l) 7#32) 8#32)) (IntOp.muli (IntOp.andi (IntOp.shrsi ArithUnit.host (BitVec.ofNat 32 l) 7#32) 1#32) 4#32)
    = BitVec.ofNat 32 (src l) := by
  revert l; decide +kernel

theorem ent_word (l : Fin 512) : IntOp.andi (IntOp.shrsi ArithUnit.host (BitVec.ofNat 32 l) 3#32) 15#32 = BitVec.ofNat 32 ((⟨l / 8 % 16, Nat.mod_lt _ (by decide)⟩ : Fin 16) : ℕ) := by
  revert l; decide +kernel

theorem shr5_word (l : Fin 1024) : IntOp.shrsi ArithUnit.host (BitVec.ofNat 32 l) 5#32 = BitVec.ofNat 32 (l / 32) := by
  revert l; decide +kernel
theorem shr2_word (l : Fin 1024) : IntOp.andi (IntOp.shrsi ArithUnit.host (BitVec.ofNat 32 l) 2#32) 7#32 = BitVec.ofNat 32 (l / 4 % 8) := by
  revert l; decide +kernel
theorem shr4_word (l : Fin 1024) : IntOp.andi (IntOp.shrsi ArithUnit.host (BitVec.ofNat 32 l) 4#32) 1#32 = BitVec.ofNat 32 (l / 16 % 2) := by
  revert l; decide +kernel
theorem and3_word (l : Fin 1024) : IntOp.andi (BitVec.ofNat 32 l) 3#32 = BitVec.ofNat 32 (l % 4) := by
  revert l; decide +kernel
theorem shr3_word (l : Fin 128) : IntOp.shrsi ArithUnit.host (BitVec.ofNat 32 l) 3#32 = BitVec.ofNat 32 (l / 8) := by
  revert l; decide +kernel
theorem and7_word (l : Fin 128) : IntOp.andi (BitVec.ofNat 32 l) 7#32 = BitVec.ofNat 32 (l % 8) := by
  revert l; decide +kernel
theorem half_word (l : Fin 128) : IntOp.shrsi ArithUnit.host (BitVec.ofNat 32 (l % 8)) 2#32 = BitVec.ofNat 32 (l % 8 / 4) := by
  revert l; decide +kernel
theorem row_word (l : Fin 8) : IntOp.shrsi ArithUnit.host (BitVec.ofNat 32 l) 2#32 = BitVec.ofNat 32 (l / 4) := by
  revert l; decide +kernel
theorem rowm_word (l : Fin 8) : IntOp.andi (BitVec.ofNat 32 l) 3#32 = BitVec.ofNat 32 (l % 4) := by
  revert l; decide +kernel

/-- The sign with which the code of the set `e` enters the feature in place `f` of parity `par`: zero when `e` is not among the feature's sets. -/
def mo (par f e : ℕ) : ℤ :=
  if 15 * par ≤ f ∧ f < 15 * par + 15 ∧ e &&& (f - 15 * par + 1) = e then
    (if (((f - 15 * par + 1) ^^^ e).testBit 0 ^^ ((f - 15 * par + 1) ^^^ e).testBit 1) ^^ (((f - 15 * par + 1) ^^^ e).testBit 2 ^^ ((f - 15 * par + 1) ^^^ e).testBit 3) then -1 else 1)
  else 0

/-- The word of the set that place `f` of parity `par` stands for. -/
def subw (par : Fin 2) (f : Fin 32) : BitVec 32 := IntOp.addi (IntOp.subi (BitVec.ofNat 32 f) (IntOp.muli (15#32) (BitVec.ofNat 32 par))) 1#32

theorem mo_word (par : Fin 2) (f : Fin 32) (e : Fin 16) :
    (Scalar.select (IntOp.andi (IntOp.andi (IntOp.cmpi .sge (subw par f) 1#32) (IntOp.cmpi .sle (subw par f) 15#32))
          (IntOp.cmpi .eq (IntOp.andi (BitVec.ofNat 32 e) (subw par f)) (BitVec.ofNat 32 e)))
        (IntOp.subi (1#32) (IntOp.muli (2#32) (IntOp.andi (IntOp.xori
          (IntOp.xori (IntOp.xori (subw par f) (BitVec.ofNat 32 e)) (IntOp.shrsi ArithUnit.host (IntOp.xori (subw par f) (BitVec.ofNat 32 e)) 2#32))
          (IntOp.shrsi ArithUnit.host (IntOp.xori (IntOp.xori (subw par f) (BitVec.ofNat 32 e)) (IntOp.shrsi ArithUnit.host (IntOp.xori (subw par f) (BitVec.ofNat 32 e)) 2#32)) 1#32)) 1#32)))
        0#32).toInt = mo par f e := by
  revert par f e; decide +kernel

theorem lit_512 : Ideal.ofBits .f32 1140850688#32 = ((512 : ℝ) : EReal) := by
  simp [Ideal.ofBits, Ideal.ieee, -EReal.coe_mul]; norm_num

theorem select_sitofp (b : BitVec 1) (w : BitVec 32) :
    Scalar.select b ((FloatOps.sitofp .f32 w : Ideal .f32) * Ideal.ofBits .f32 1140850688#32) (0 : EReal) = ((((Scalar.select b w 0#32).toInt : ℝ) * 512 : ℝ) : EReal) := by
  rw [lit_512]
  have h0 : (0#32 : BitVec 32).toInt = 0 := by decide
  unfold Scalar.select
  split_ifs
  · rfl
  · rw [h0]; norm_num

theorem and_select (p q : BitVec 1) (u v : EReal) : Scalar.select (IntOp.andi p q) u v = Scalar.select p (Scalar.select q u v) v := by
  unfold Scalar.select
  rcases (by decide : ∀ b : BitVec 1, b = 0#1 ∨ b = 1#1) p with rfl | rfl <;> rcases (by decide : ∀ b : BitVec 1, b = 0#1 ∨ b = 1#1) q with rfl | rfl <;> simp [IntOp.andi]

variable (m : (ℓ : Loc nD τ sig) → Buf (Elt Ideal) ℓ) (c : Dev nD)

set_option maxHeartbeats 1600000 in
theorem V_x (r : Fin 288) (l : Fin 128) : V m c main_v142 (ix2 r l) = m ((c.tc : Thread nD τ).loc main_arg0) (ix3 ⟨r / 96, by omega⟩ 0 ⟨r % 96 * 128 + l, by omega⟩) := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp
  pointwise

set_option maxHeartbeats 1600000 in
theorem V_sel (i : Fin 4) (r : Fin 128) (l : Fin 512) : V m c main_v39 (ix3 i r l) = if (r : ℕ) = src l + i then Cert.Val.bit (l / 8 % 16) i else 0 := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp
  pointwise [id]
  rw [select_eq, src_word, ent_word, Cert.Val.bit_word, Cert.Val.sitofp_bit]
  have hs : src l < 128 := by unfold src; omega
  rw [show IntOp.addi (BitVec.ofNat 32 (src l)) (BitVec.ofNat 32 i) = BitVec.ofNat 32 (src l + i) from (BitVec.ofNat_add _ _).symm]
  exact if_congr (ofNat_inj (by omega) (by omega)) rfl rfl

set_option maxHeartbeats 1600000 in
theorem V_mob (i : Fin 2) (r : Fin 128) (l : Fin 1024) :
    V m c main_v98 (ix3 i r l) = if (r : ℕ) % 8 = l / 4 % 8 then (((mo i (l / 32) (r / 8) : ℝ) * 512 : ℝ) : EReal) else 0 := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp
  pointwise [id]
  rw [select_eq, and7_word, shr2_word, shr5_word, shr3_word]
  refine if_congr (ofNat_inj (by omega) (by omega)) ?_ rfl
  rw [select_sitofp]
  have h := mo_word i ⟨l / 32, by omega⟩ ⟨r / 8, by omega⟩
  simp only [subw] at h
  rw [h]

set_option maxHeartbeats 1600000 in
theorem V_zpm (i : Fin 2) (r : Fin 128) (l : Fin 128) : V m c main_v118 (ix3 i r l) = if (r : ℕ) / 8 = 15 then if (r : ℕ) % 8 / 4 = i then (1 : EReal) else 0 else 0 := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp
  pointwise [id]
  rw [and_select, select_eq, select_eq, and7_word, half_word, shr3_word]
  exact if_congr (ofNat_inj (by omega) (by omega)) (if_congr (ofNat_inj (by omega) (by omega)) rfl rfl) rfl

set_option maxHeartbeats 1600000 in
theorem V_mask (r : Fin 8) (l : Fin 1024) : V m c main_v141 (ix2 r l) = if (l : ℕ) / 16 % 2 = r / 4 then if (l : ℕ) % 4 = r % 4 then (1 : EReal) else 0 else 0 := by
  entry_read
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp
  pointwise [id]
  rw [and_select, select_eq, select_eq, shr4_word, row_word, and3_word, rowm_word]
  exact if_congr (ofNat_inj (by omega) (by omega)) (if_congr (ofNat_inj (by omega) (by omega)) rfl rfl) rfl

end Cert.KernelIdeal.Val
-- ==== Proof.V.Codes.lean ====
module

public import proofs.«01_k».proof.Proof.KI.Frame
public import proofs.«01_k».proof.Proof.V.Entry
public import Idealize.ShloMosaic.Lib.VecWindow

/-! The tables as the kernel's first point makes them. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

/-- The table that lane `l` of a row of group `g` belongs to. -/
def qd (g : Fin 96) (l : Fin 512) : Fin 3072 := ⟨g * 32 + (l / 256 * 16 + l % 8 * 2 + l / 128 % 2), by omega⟩

/-- The entry that lane `l` holds. -/
def en (l : Fin 512) : Fin 16 := ⟨l / 8 % 16, by omega⟩

/-- The token and the group of a row. -/
def tk (r : Fin 288) : Fin 3 := ⟨r / 96, by omega⟩
def gr (r : Fin 288) : Fin 96 := ⟨r % 96, by omega⟩

/-- Group, lane and entry cover all tables: the lane of an entry of a table. -/
def lane (k : Fin 32) (e : Fin 16) : Fin 512 := ⟨k / 16 * 256 + k % 2 * 128 + e * 8 + k % 16 / 2, by omega⟩

theorem lane_nat (k : Fin 32) (e : Fin 16) : (lane k e : ℕ) / 256 * 16 + (lane k e : ℕ) % 8 * 2 + (lane k e : ℕ) / 128 % 2 = k := by
  revert k e; decide +kernel

theorem qd_lane (g : Fin 96) (k : Fin 32) (e : Fin 16) : qd g (lane k e) = ⟨g * 32 + k, by omega⟩ := by
  apply Fin.ext
  show (g : ℕ) * 32 + _ = g * 32 + k
  rw [lane_nat]

theorem en_lane (k : Fin 32) (e : Fin 16) : en (lane k e) = e := by
  revert k e; decide +kernel

section
variable (x : FVec Ideal S288x128 .bf16) (s0 s1 s2 s3 : FVec Ideal S1x128x512 .bf16) (X : Fin 3 → Fin 12288 → EReal)
  (hx : ∀ r l, x (ix2 r l) = X (tk r) ⟨gr r * 128 + l, by omega⟩)
  (h0 : ∀ (r : Fin 128) (l : Fin 512), s0 (ix3 0 r l) = if (r : ℕ) = src l + 0 then bit (l / 8 % 16) 0 else 0)
  (h1 : ∀ (r : Fin 128) (l : Fin 512), s1 (ix3 0 r l) = if (r : ℕ) = src l + 1 then bit (l / 8 % 16) 1 else 0)
  (h2 : ∀ (r : Fin 128) (l : Fin 512), s2 (ix3 0 r l) = if (r : ℕ) = src l + 2 then bit (l / 8 % 16) 2 else 0)
  (h3 : ∀ (r : Fin 128) (l : Fin 512), s3 (ix3 0 r l) = if (r : ℕ) = src l + 3 then bit (l / 8 % 16) 3 else 0)
include hx h0 h1 h2 h3

omit h0 h1 h2 h3 in
/-- A product with a selecting matrix picks one entry of the row. -/
theorem pick (s : FVec Ideal S1x128x512 .bf16) (i : ℕ) (hi : i < 4)
    (h : ∀ (r : Fin 128) (l : Fin 512), s (ix3 0 r l) = if (r : ℕ) = src l + i then bit (l / 8 % 16) i else 0) (r : Fin 288) (l : Fin 512) :
    ∑ k : Fin 128, x (ix2 r k) * s (ix3 0 k l) = bit (en l) i * X (tk r) ⟨qd (gr r) l * 4 + i, by omega⟩ := by
  have hs : src l + i < 128 := by unfold src; omega
  rw [Finset.sum_eq_single (⟨src l + i, hs⟩ : Fin 128)]
  · rw [h, if_pos rfl, hx, mul_comm]
    congr 2
    apply Fin.ext; simp only [qd, src]; omega
  · intro b _ hb
    rw [h, if_neg (fun e => hb (Fin.ext e)), mul_zero]
  · intro hn; exact absurd (Finset.mem_univ _) hn

theorem pay23_apply (r : Fin 288) (l : Fin 512) : k0_pay23 (F := Ideal) x s0 s1 s2 s3 (ix2 r l) = tv X (tk r) (qd (gr r) l) (en l) := by
  pointwise [k0_pay23]
  rw [pick x X hx s0 0 (by omega) h0, pick x X hx s1 1 (by omega) h1, pick x X hx s2 2 (by omega) h2, pick x X hx s3 3 (by omega) h3]
  rfl

theorem pay24_apply (r : Fin 288) : k0_pay24 (F := Ideal) x s0 s1 s2 s3 (ix2 r 0) = sv X (tk r) (gr r) := by
  pointwise [k0_pay24]
  rw [fold_eq_mv Finset.univ _ X (tk r) (gr r) (fun l _ => ?_) (fun k e => ?_)]
  · rfl
  · refine ⟨⟨l / 256 * 16 + l % 8 * 2 + l / 128 % 2, by omega⟩, en l, ?_⟩
    rw [pay23_apply x s0 s1 s2 s3 X hx h0 h1 h2 h3]
    rfl
  · refine ⟨lane k e, Finset.mem_univ _, ?_⟩
    rw [pay23_apply x s0 s1 s2 s3 X hx h0 h1 h2 h3, qd_lane, en_lane]
    rfl

theorem pay25_apply (r : Fin 288) (l : Fin 512) : k0_pay25 (F := Ideal) x s0 s1 s2 s3 (ix2 r l) = cv X (tk r) (qd (gr r) l) (en l) := by
  pointwise [k0_pay25]
  rw [pay23_apply x s0 s1 s2 s3 X hx h0 h1 h2 h3, pay24_apply x s0 s1 s2 s3 X hx h0 h1 h2 h3]
  have : (⟨(qd (gr r) l : ℕ) / 32, by omega⟩ : Fin 96) = gr r := by
    apply Fin.ext; simp only [qd]; omega
  unfold cv
  rw [this]

theorem pay26_apply (r : Fin 288) (l : Fin 512) : k0_pay26 (F := Ideal) x s0 s1 s2 s3 (ix2 r l) = BitVec.ofInt 8 (ci X (tk r) (qd (gr r) l) (en l)) := by
  have h := pay25_apply x s0 s1 s2 s3 X hx h0 h1 h2 h3 r l
  rw [← fptosi8, ← h]
  rfl

theorem pay27_apply (r : Fin 288) (l : Fin 128) : k0_pay27 (F := Ideal) (k0_pay24 (F := Ideal) x s0 s1 s2 s3) (ix2 r l) = sv X (tk r) (gr r) := by
  pointwise [k0_pay27]
  rw [pay24_apply x s0 s1 s2 s3 X hx h0 h1 h2 h3]
end

variable (m : (ℓ : Loc nD τ sig) → Buf (Elt Ideal) ℓ) (c : Dev nD)

/-- Slab `i` of the selecting matrices. -/
def slab (i : Fin 4) : FVec Ideal S1x128x512 .bf16 := fun j => (iblk m c 1 t0 : Vec Ideal S4x128x512 .bf16) (ix3 i (j 1) (j 2))

theorem slab_read (i : Fin 4) (arg : Memref sig .tc .vmem S4x128x512 .bf16) (harg : arg.IsWhole) (inb) :
    View.readAt (Elt Ideal) arg.view (Rect.unit (s := S4x128x512) ![(i : ℕ), 0, 0] S1x128x512.size inb).toLoadRect (harg.unread (iblk m c 1 t0)) = slab m c i := by
  funext j
  rw [View.readAt_apply, harg.read_unread]
  unfold slab
  congr 1
  funext a
  apply Fin.ext
  fin_cases a <;> simp [Rect.unit]

theorem x_read (arg : Memref sig .tc .vmem S288x128 .bf16) (harg : arg.IsWhole) (inb) :
    View.readAt (Elt Ideal) arg.view (Rect.unit (s := S288x128) ![0, 0] S288x128.size inb).toLoadRect (harg.unread (iblk m c 0 t0)) = iblk m c 0 t0 := by
  funext j
  rw [View.readAt_apply, harg.read_unread]
  congr 1
  funext a
  apply Fin.ext
  fin_cases a <;> simp [Rect.unit]

theorem codes0_eq : codes0 m c = k0_pay26 (iblk m c 0 t0) (slab m c 0) (slab m c 1) (slab m c 2) (slab m c 3) := by
  unfold codes0 run0 runA kernelRun0_A
  dsimp only
  unfold kernelRun0_A.sl.H11_1
  rw [View.read_writes_full]
  unfold kernelRun0_A.sl.r_2
  congr 1
  · exact x_read m c _ _ _
  · exact slab_read m c 0 _ _ _
  · exact slab_read m c 1 _ _ _
  · exact slab_read m c 2 _ _ _
  · exact slab_read m c 3 _ _ _

theorem lut0_eq : lut0 m c = k0_pay27 (k0_pay24 (iblk m c 0 t0) (slab m c 0) (slab m c 1) (slab m c 2) (slab m c 3)) := by
  unfold lut0 run0 runA kernelRun0_A
  dsimp only
  unfold kernelRun0_A.sl.H12_1
  rw [View.read_writes_full]
  unfold kernelRun0_A.sl.r
  congr 2
  · exact x_read m c _ _ _
  · exact slab_read m c 0 _ _ _
  · exact slab_read m c 1 _ _ _
  · exact slab_read m c 2 _ _ _
  · exact slab_read m c 3 _ _ _

theorem idx : ∀ t : Fin cfg0.N, win0_0.index t = ![0, 0] ∧ win0_1.index t = ![0, 0, 0] ∧ win0_2.index t = ![0, 0, 0] ∧ win0_3.index t = ![0, 0, 0]
    ∧ win0_4.index t = ![0, 0] ∧ win0_9.index t = ![0, 0] ∧ win0_10.index t = ![0, 0] :=
  (by decide +kernel : ∀ t : Fin grid0.N, _)

theorem iblk_x (t : Fin cfg0.N) (r : Fin 288) (l : Fin 128) : iblk m c 0 t (ix2 r l) = V m c main_v142 (ix2 r l) := by
  blk_point [iblk, idx t]

theorem iblk_sel (t : Fin cfg0.N) (i : Fin 4) (r : Fin 128) (l : Fin 512) : iblk m c 1 t (ix3 i r l) = V m c main_v39 (ix3 i r l) := by
  blk_point [iblk, idx t]

theorem final9 : (dats m 0 c).arrAt 9 (cfgs 0).N = codes0 m c := by
  refine (dats m 0 c).arrAt_eq_of_covers 9 _ (by decide +kernel) fun t _ y => ?_
  blk_simp
  rw [after0_9]
  blk_ext [idx t]

theorem final10 : (dats m 0 c).arrAt 10 (cfgs 0).N = lut0 m c := by
  refine (dats m 0 c).arrAt_eq_of_covers 10 _ (by decide +kernel) fun t _ y => ?_
  blk_simp
  rw [after0_10]
  blk_ext [idx t]

/-- The entries of the argument `x` by token and position. -/
abbrev xk : Fin 3 → Fin 12288 → EReal := fun t j => m ((c.tc : Thread nD τ).loc main_arg0) (ix3 t 0 j)

theorem hx (r : Fin 288) (l : Fin 128) : (iblk m c 0 t0 : FVec Ideal S288x128 .bf16) (ix2 r l) = xk m c (tk r) ⟨gr r * 128 + l, by omega⟩ := by
  rw [iblk_x, V_x]
  rfl

theorem hs (i : Fin 4) (r : Fin 128) (l : Fin 512) : slab m c i (ix3 0 r l) = if (r : ℕ) = src l + i then bit (l / 8 % 16) i else 0 := by
  show iblk m c 1 t0 (ix3 i r l) = _
  rw [iblk_sel, V_sel]

theorem codes0_apply (r : Fin 288) (l : Fin 512) : codes0 m c (ix2 r l) = BitVec.ofInt 8 (ci (xk m c) (tk r) (qd (gr r) l) (en l)) := by
  rw [codes0_eq]
  exact pay26_apply _ _ _ _ _ _ (hx m c) (hs m c 0) (hs m c 1) (hs m c 2) (hs m c 3) r l

theorem lut0_apply (r : Fin 288) (l : Fin 128) : lut0 m c (ix2 r l) = sv (xk m c) (tk r) (gr r) := by
  rw [lut0_eq]
  exact pay27_apply _ _ _ _ _ _ (hx m c) (hs m c 0) (hs m c 1) (hs m c 2) (hs m c 3) r l

end Cert.KernelIdeal.Val
-- ==== Proof.V.Words.lean ====
module

public import proofs.«01_k».proof.Proof.V.Spec

/-! The two exchanges of bits, word by word: the four words of nibbles, and the features as products of bits. -/

@[expose] public section

set_option maxRecDepth 16384

noncomputable section

namespace Cert.Val

open Idealize.ShloMosaic

local notation "𝔹" => BitVec 32

/-- The bits that one exchange moves. -/
def wT (s : ℕ) (m a b : 𝔹) : 𝔹 := ((a >>> s) ^^^ b) &&& m
def wA (s : ℕ) (m a b : 𝔹) : 𝔹 := a ^^^ (wT s m a b <<< s)
def wB (s : ℕ) (m a b : 𝔹) : 𝔹 := b ^^^ wT s m a b

theorem wB_bit (s : ℕ) (m a b : 𝔹) (n : ℕ) : (wB s m a b).getLsbD n = if m.getLsbD n then a.getLsbD (s + n) else b.getLsbD n := by
  simp only [wB, wT, BitVec.getLsbD_xor, BitVec.getLsbD_and, BitVec.getLsbD_ushiftRight]
  cases m.getLsbD n <;> cases a.getLsbD (s + n) <;> cases b.getLsbD n <;> rfl

theorem wA_bit (s : ℕ) (m a b : 𝔹) (n : ℕ) (hn : n < 32) :
    (wA s m a b).getLsbD n = if s ≤ n ∧ m.getLsbD (n - s) then b.getLsbD (n - s) else a.getLsbD n := by
  simp only [wA, wT, BitVec.getLsbD_xor, BitVec.getLsbD_and, BitVec.getLsbD_ushiftRight, BitVec.getLsbD_shiftLeft]
  by_cases h : s ≤ n
  · have e : s + (n - s) = n := by omega
    rw [e]
    have h' : ¬ n < s := by omega
    simp only [hn, h, h', decide_true, decide_false, Bool.not_false, Bool.true_and, true_and]
    cases m.getLsbD (n - s) <;> cases b.getLsbD (n - s) <;> cases a.getLsbD n <;> rfl
  · have h' : n < s := by omega
    simp [h, h']

theorem even_bit (n : ℕ) (hn : n < 32) : (1431655765#32).getLsbD n = decide (n % 2 = 0) :=
  (by decide +kernel : ∀ n : Fin 32, (1431655765#32).getLsbD n = decide ((n : ℕ) % 2 = 0)) ⟨n, hn⟩
theorem low_bit (n : ℕ) (hn : n < 32) : (858993459#32).getLsbD n = decide (n % 4 < 2) :=
  (by decide +kernel : ∀ n : Fin 32, (858993459#32).getLsbD n = decide ((n : ℕ) % 4 < 2)) ⟨n, hn⟩
theorem nib_bit (n : ℕ) (hn : n < 32) : (252645135#32).getLsbD n = decide (n % 8 < 4) :=
  (by decide +kernel : ∀ n : Fin 32, (252645135#32).getLsbD n = decide ((n : ℕ) % 8 < 4)) ⟨n, hn⟩

/-- The four words of nibbles, after both exchanges. -/
def nw (p : Fin 4 → 𝔹) : Fin 4 → 𝔹
  | 0 => wA 2 858993459#32 (wA 1 1431655765#32 (p 0) (p 1)) (wA 1 1431655765#32 (p 2) (p 3))
  | 1 => wA 2 858993459#32 (wB 1 1431655765#32 (p 0) (p 1)) (wB 1 1431655765#32 (p 2) (p 3))
  | 2 => wB 2 858993459#32 (wA 1 1431655765#32 (p 0) (p 1)) (wA 1 1431655765#32 (p 2) (p 3))
  | 3 => wB 2 858993459#32 (wB 1 1431655765#32 (p 0) (p 1)) (wB 1 1431655765#32 (p 2) (p 3))

theorem nw_bit (p : Fin 4 → 𝔹) (i : Fin 4) (n : ℕ) (hn : n < 32) :
    (nw p i).getLsbD n = (p ⟨n % 4, Nat.mod_lt _ (by decide)⟩).getLsbD (n / 4 * 4 + i) := by
  fin_cases i <;> simp only [nw] <;> interval_cases n <;>
    (simp [wB_bit, wA_bit, even_bit, low_bit, -BitVec.getLsbD_eq_getElem]; try rfl)

/-- The word of a nibble of each byte. -/
def nib (par : Fin 2) (x : 𝔹) : 𝔹 := match par with
  | 0 => x &&& 252645135#32
  | 1 => (x >>> 4) &&& 252645135#32

theorem nib_getLsbD (par : Fin 2) (x : 𝔹) (n : ℕ) (hn : n < 32) : (nib par x).getLsbD n = (decide (n % 8 < 4) && x.getLsbD (n + 4 * par)) := by
  fin_cases par
  · simp [nib, nib_bit n hn, Bool.and_comm]
  · simp [nib, nib_bit n hn, Bool.and_comm, Nat.add_comm]

/-- The conjunction of the words of a set. -/
def andw (q : Fin 4 → 𝔹) (f : Fin 15) : 𝔹 :=
  ![q 0, q 1, q 0 &&& q 1, q 2, q 0 &&& q 2, q 1 &&& q 2, q 0 &&& (q 1 &&& q 2), q 3, q 0 &&& q 3, q 1 &&& q 3, q 0 &&& (q 1 &&& q 3), q 2 &&& q 3,
    q 0 &&& (q 2 &&& q 3), q 1 &&& (q 2 &&& q 3), q 0 &&& (q 1 &&& (q 2 &&& q 3))] f

theorem andw_bit (q : Fin 4 → 𝔹) (f : Fin 15) (n : ℕ) :
    (andw q f).getLsbD n = decide (∀ i : Fin 4, ((f : ℕ) + 1).testBit i → (q i).getLsbD n = true) := by
  fin_cases f <;> simp [andw, Fin.forall_fin_succ, Nat.testBit] <;>
    (try cases (q 0).getLsbD n) <;> (try cases (q 1).getLsbD n) <;> (try cases (q 2).getLsbD n) <;> (try cases (q 3).getLsbD n) <;> simp

/-- Bit `p` of byte `b` of a feature: whether the set lies in the nibble of plane `p`. -/
theorem feat_bit (P : Fin 4 → 𝔹) (par : Fin 2) (f : Fin 15) (b p : ℕ) (hb : b < 4) (hp : p < 8) :
    (andw (fun i => nib par (nw P i)) f).getLsbD (b * 8 + p)
      = decide (∃ h : p < 4, ∀ i : Fin 4, ((f : ℕ) + 1).testBit i → (P ⟨p, h⟩).getLsbD (b * 8 + (4 * par + i)) = true) := by
  rw [andw_bit]
  have hn : b * 8 + p < 32 := by omega
  have hpar := par.2
  by_cases h : p < 4
  · congr 1
    simp only [h, exists_true_left]
    apply propext
    refine forall_congr' fun i => ?_
    have h8 : (b * 8 + p) % 8 < 4 := by omega
    have hx : b * 8 + p + 4 * par < 32 := by omega
    have e1 : (⟨(b * 8 + p + 4 * par) % 4, Nat.mod_lt _ (by decide)⟩ : Fin 4) = ⟨p, h⟩ := Fin.ext (by show (b * 8 + p + 4 * par) % 4 = p; omega)
    have e2 : (b * 8 + p + 4 * par) / 4 * 4 + i = b * 8 + (4 * par + i) := by omega
    rw [nib_getLsbD _ _ _ hn, nw_bit _ _ _ hx, e1, e2, decide_eq_true h8, Bool.true_and]
  · have h8 : ¬ (b * 8 + p) % 8 < 4 := by omega
    have : ∃ i : Fin 4, ((f : ℕ) + 1).testBit i = true := by revert f; decide
    obtain ⟨i, hi⟩ := this
    have hne : ¬ ∀ i : Fin 4, ((f : ℕ) + 1).testBit i → (nib par (nw P i)).getLsbD (b * 8 + p) = true := by
      intro hh
      have := hh i hi
      rw [nib_getLsbD _ _ _ hn] at this
      rw [decide_eq_false h8, Bool.false_and] at this
      exact Bool.false_ne_true this
    rw [decide_eq_false hne, decide_eq_false]
    rintro ⟨h', _⟩
    exact h h'

/-- A byte below 16 as a number. -/
theorem small_byte (v : BitVec 8) (h : ∀ p, 4 ≤ p → p < 8 → v.getLsbD p = false) :
    Ideal.e4m3fn v = (((∑ p : Fin 4, if v.getLsbD p then (2 : ℝ) ^ (p : ℕ) else 0) * (2 : ℝ) ^ (-9 : ℤ) : ℝ) : EReal) := by
  have hv : v = BitVec.ofNat 8 (v.toNat % 16) := by
    have : ∀ v : BitVec 8, v.getLsbD 4 = false → v.getLsbD 5 = false → v.getLsbD 6 = false → v.getLsbD 7 = false → v = BitVec.ofNat 8 (v.toNat % 16) := by decide +kernel
    exact this v (h 4 (by omega) (by omega)) (h 5 (by omega) (by omega)) (h 6 (by omega) (by omega)) (h 7 (by omega) (by omega))
  have hlt : v.toNat % 16 < 16 := Nat.mod_lt _ (by decide)
  rw [hv]
  generalize v.toNat % 16 = n at hlt
  interval_cases n <;> simp [Ideal.e4m3fn, Fin.sum_univ_four, -EReal.coe_mul, BitVec.extractLsb', BitVec.getLsbD] <;> norm_num [Nat.testBit, Nat.shiftRight_eq_div_pow]

end Cert.Val
-- ==== Proof.V.Sums.lean ====
module

public import proofs.«01_k».proof.Proof.V.Words

/-! The sum of the signed codes over the features of a nibble is the code of the nibble. -/

@[expose] public section

set_option maxRecDepth 16384

noncomputable section

namespace Cert.Val

open Idealize.ShloMosaic

/-- The sign with which the code of the set `e` enters the feature in place `f` of parity `par`: zero when `e` is not among the feature's sets. -/
def mo (par f e : ℕ) : ℤ :=
  if 15 * par ≤ f ∧ f < 15 * par + 15 ∧ e &&& (f - 15 * par + 1) = e then
    (if (((f - 15 * par + 1) ^^^ e).testBit 0 ^^ ((f - 15 * par + 1) ^^^ e).testBit 1) ^^ (((f - 15 * par + 1) ^^^ e).testBit 2 ^^ ((f - 15 * par + 1) ^^^ e).testBit 3) then -1 else 1)
  else 0

/-- Whether the set of a feature lies in a nibble. -/
def inside (f : ℕ) (N : Fin 16) : Prop := ∀ i : Fin 4, (f + 1).testBit i → (N : ℕ).testBit i = true

instance (f : ℕ) (N : Fin 16) : Decidable (inside f N) := inferInstanceAs (Decidable (∀ i : Fin 4, _))

theorem mo_id (par par' : Fin 2) (N e : Fin 16) :
    ∑ f : Fin 15, (if inside f N then mo par' (15 * par + f) e else 0) = if par = par' then (if e = N then 1 else 0) - (if e = 0 then 1 else 0) else 0 := by
  revert par par' N e
  decide +kernel

/-- A place among the 960 rows by parity, set, input and byte. -/
def spot : Fin 960 ≃ (Fin 2 × Fin 15) × (Fin 8 × Fin 4) where
  toFun κ := ((⟨κ / 480, by omega⟩, ⟨κ / 32 % 15, by omega⟩), (⟨κ / 4 % 8, by omega⟩, ⟨κ % 4, by omega⟩))
  invFun q := ⟨((q.1.1 * 15 + q.1.2) * 8 + q.2.1) * 4 + q.2.2, by
    have := q.1.1.2; have := q.1.2.2; have := q.2.1.2; have := q.2.2.2; omega⟩
  left_inv κ := by apply Fin.ext; show ((κ.val / 480 * 15 + κ.val / 32 % 15) * 8 + κ.val / 4 % 8) * 4 + κ.val % 4 = κ.val; omega
  right_inv q := by
    obtain ⟨⟨⟨a, ha⟩, ⟨f, hf⟩⟩, ⟨⟨s, hs⟩, ⟨b, hb⟩⟩⟩ := q
    refine Prod.ext (Prod.ext (Fin.ext ?_) (Fin.ext ?_)) (Prod.ext (Fin.ext ?_) (Fin.ext ?_))
    · show (((a * 15 + f) * 8 + s) * 4 + b) / 480 = a; omega
    · show (((a * 15 + f) * 8 + s) * 4 + b) / 32 % 15 = f; omega
    · show (((a * 15 + f) * 8 + s) * 4 + b) / 4 % 8 = s; omega
    · show (((a * 15 + f) * 8 + s) * 4 + b) % 4 = b; omega

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section
variable (c : Fin 2 → Fin 8 → Fin 16 → ℤ) (hc : ∀ par s, c par s 0 = 0) (N : Fin 4 → Fin 2 → Fin 4 → Fin 8 → Fin 16)

/-- The value of a feature's row on the left. -/
def eo (s : Fin 8) (f : ℕ) : ℝ := ∑ par : Fin 2, ∑ e : Fin 16, (c par s e : ℝ) * (mo par f e : ℝ)

include hc in
theorem eo_sum (s : Fin 8) (b p : Fin 4) :
    ∑ par : Fin 2, ∑ f : Fin 15, eo c s (15 * par + f) * (if inside f (N p par b s) then (1 : ℝ) else 0) = ∑ par : Fin 2, (c par s (N p par b s) : ℝ) := by
  have h : ∀ par : Fin 2, ∑ f : Fin 15, eo c s (15 * par + f) * (if inside f (N p par b s) then (1 : ℝ) else 0)
      = ∑ par' : Fin 2, ∑ e : Fin 16, (c par' s e : ℝ) * ((if par = par' then (if e = N p par b s then 1 else 0) - (if e = 0 then 1 else 0) else 0 : ℤ) : ℝ) := by
    intro par
    simp only [eo, Finset.sum_mul]
    rw [Finset.sum_comm]
    refine Finset.sum_congr rfl fun par' _ => ?_
    rw [Finset.sum_comm]
    refine Finset.sum_congr rfl fun e _ => ?_
    rw [← mo_id, Int.cast_sum, Finset.mul_sum]
    refine Finset.sum_congr rfl fun f _ => ?_
    split_ifs <;> simp
  refine Finset.sum_congr rfl fun par _ => ?_
  rw [h, Finset.sum_eq_single par]
  · simp only [if_true]
    simp only [Int.cast_sub, mul_sub, Finset.sum_sub_distrib, Int.cast_ite, Int.cast_one, Int.cast_zero, mul_ite, mul_one, mul_zero, Finset.sum_ite_eq', Finset.mem_univ, if_true, hc, sub_zero]
  · intro q _ hq
    simp [Ne.symm hq]
  · simp

/-- What the product of a row with the features of a lane is: the codes of the nibbles, plane by plane. -/
def accv (r : Fin 8) : ℝ :=
  ∑ s : Fin 8, if (s : ℕ) / 4 = r / 4 then ∑ p : Fin 4, (2 : ℝ) ^ (p : ℕ) * ∑ par : Fin 2, (c par s (N p par ⟨r % 4, by omega⟩ s) : ℝ) else 0

include hc in
theorem dot_codes (r : Fin 8) (L R : Fin 960 → EReal)
    (hL : ∀ κ : Fin 960, L κ = if (κ : ℕ) / 16 % 2 = r / 4 then if (κ : ℕ) % 4 = r % 4 then ((eo c ⟨κ / 4 % 8, by omega⟩ (κ / 32) * 512 : ℝ) : EReal) else 0 else 0)
    (hR : ∀ κ : Fin 960, R κ = (((∑ p : Fin 4, if inside (κ / 32 % 15) (N p ⟨κ / 480, by omega⟩ ⟨κ % 4, by omega⟩ ⟨κ / 4 % 8, by omega⟩) then (2 : ℝ) ^ (p : ℕ) else 0) * (2 : ℝ) ^ (-9 : ℤ) : ℝ) : EReal)) :
    ∑ κ, L κ * R κ = ((accv c N r : ℝ) : EReal) := by
  let g : (Fin 2 × Fin 15) × (Fin 8 × Fin 4) → ℝ := fun q =>
    if (q.2.1 : ℕ) / 4 = r / 4 then if (q.2.2 : ℕ) = r % 4 then eo c q.2.1 (15 * q.1.1 + q.1.2) * ∑ p : Fin 4, (2 : ℝ) ^ (p : ℕ) * (if inside q.1.2 (N p q.1.1 q.2.2 q.2.1) then (1 : ℝ) else 0) else 0 else 0
  have h1 : ∀ κ : Fin 960, L κ * R κ = ((g (spot κ) : ℝ) : EReal) := by
    intro κ
    rw [hL, hR]
    have e1 : (κ : ℕ) / 4 % 8 / 4 = κ / 16 % 2 := by omega
    have e2 : 15 * ((κ : ℕ) / 480) + κ / 32 % 15 = κ / 32 := by omega
    show _ = (((if (κ : ℕ) / 4 % 8 / 4 = r / 4 then if (κ : ℕ) % 4 = r % 4 then eo c ⟨κ / 4 % 8, by omega⟩ (15 * ((κ : ℕ) / 480) + κ / 32 % 15) * ∑ p : Fin 4, (2 : ℝ) ^ (p : ℕ) * (if inside (κ / 32 % 15) (N p ⟨κ / 480, by omega⟩ ⟨κ % 4, by omega⟩ ⟨κ / 4 % 8, by omega⟩) then (1 : ℝ) else 0) else 0 else 0 : ℝ)) : EReal)
    rw [e1, e2]
    split_ifs
    · rw [← EReal.coe_mul]
      congr 1
      simp only [mul_ite, mul_one, mul_zero]
      norm_num
      ring
    · simp
    · simp
  rw [Finset.sum_congr rfl fun κ _ => h1 κ, coe_sum, Equiv.sum_comp spot g]
  congr 1
  rw [Fintype.sum_prod_type_right, Fintype.sum_prod_type]
  unfold accv
  refine Finset.sum_congr rfl fun s _ => ?_
  rw [Finset.sum_eq_single (⟨r % 4, by omega⟩ : Fin 4)]
  · simp only [g]
    split_ifs with h
    · rw [Fintype.sum_prod_type]
      simp only [Finset.mul_sum]
      rw [Finset.sum_congr rfl fun par _ => Finset.sum_comm, Finset.sum_comm]
      refine Finset.sum_congr rfl fun p _ => ?_
      rw [← Finset.mul_sum, ← eo_sum c hc N s ⟨r % 4, by omega⟩ p, Finset.mul_sum]
      refine Finset.sum_congr rfl fun par _ => ?_
      rw [Finset.mul_sum]
      refine Finset.sum_congr rfl fun f _ => ?_
      ring
    · simp
  · intro b _ hb
    refine Finset.sum_eq_zero fun q _ => ?_
    have : ¬ (b : ℕ) = r % 4 := fun h => hb (Fin.ext h)
    simp [g, this]
  · simp
end

end Cert.Val
-- ==== Proof.V.Trip.lean ====
module

public import proofs.«01_k».proof.Proof.V.Codes

/-! One trip of the second loop: what it adds to the accumulator, as functions of the words, the tables and the scales read. -/

@[expose] public section

set_option maxRecDepth 16384

noncomputable section

namespace Cert.KernelIdeal.Val

open Idealize.ShloMosaic Idealize.ShloMosaic.TcCoe Cert.KernelIdeal Cert.KernelIdeal.Gen

variable {F : FTy → Type} [FloatOps F]

/-- The words of a plane of an octet, for 256 rows of words. -/
local notation "𝕀" => IVec S8x256 32

/-- The bits that one exchange moves. -/
def swT (s m : BitVec 32) (a b : 𝕀) : 𝕀 := andi (xori (shrui a (broadcast S8x256 s)) b) (broadcast S8x256 m)
def swA (s m : BitVec 32) (a b : 𝕀) : 𝕀 := xori a (shli (swT s m a b) (broadcast S8x256 s))
def swB (s m : BitVec 32) (a b : 𝕀) : 𝕀 := xori b (swT s m a b)

/-- The four words of nibbles, after both exchanges. -/
def x0 (p0 p1 p2 p3 : 𝕀) : 𝕀 := swA 2#32 858993459#32 (swA 1#32 1431655765#32 p0 p1) (swA 1#32 1431655765#32 p2 p3)
def x2 (p0 p1 p2 p3 : 𝕀) : 𝕀 := swB 2#32 858993459#32 (swA 1#32 1431655765#32 p0 p1) (swA 1#32 1431655765#32 p2 p3)
def x1 (p0 p1 p2 p3 : 𝕀) : 𝕀 := swA 2#32 858993459#32 (swB 1#32 1431655765#32 p0 p1) (swB 1#32 1431655765#32 p2 p3)
def x3 (p0 p1 p2 p3 : 𝕀) : 𝕀 := swB 2#32 858993459#32 (swB 1#32 1431655765#32 p0 p1) (swB 1#32 1431655765#32 p2 p3)

def nibLo (x : 𝕀) : 𝕀 := andi x (broadcast S8x256 252645135#32)
def nibHi (x : 𝕀) : 𝕀 := andi (shrui x (broadcast S8x256 4#32)) (broadcast S8x256 252645135#32)

/-- The thirty features of eight by 256 words, one under the other. -/
def feats (a b c d a' b' c' d' : 𝕀) : IVec S240x256 32 :=
  concatenate S240x256 0 [⟨S8x256, a⟩, ⟨S8x256, b⟩, ⟨S8x256, andi a b⟩, ⟨S8x256, c⟩, ⟨S8x256, andi a c⟩, ⟨S8x256, andi b c⟩, ⟨S8x256, andi a (andi b c)⟩,
    ⟨S8x256, d⟩, ⟨S8x256, andi a d⟩, ⟨S8x256, andi b d⟩, ⟨S8x256, andi a (andi b d)⟩, ⟨S8x256, andi c d⟩, ⟨S8x256, andi a (andi c d)⟩, ⟨S8x256, andi b (andi c d)⟩, ⟨S8x256, andi a (andi b (andi c d))⟩,
    ⟨S8x256, a'⟩, ⟨S8x256, b'⟩, ⟨S8x256, andi a' b'⟩, ⟨S8x256, c'⟩, ⟨S8x256, andi a' c'⟩, ⟨S8x256, andi b' c'⟩, ⟨S8x256, andi a' (andi b' c')⟩,
    ⟨S8x256, d'⟩, ⟨S8x256, andi a' d'⟩, ⟨S8x256, andi b' d'⟩, ⟨S8x256, andi a' (andi b' d')⟩, ⟨S8x256, andi c' d'⟩, ⟨S8x256, andi a' (andi c' d')⟩, ⟨S8x256, andi b' (andi c' d')⟩, ⟨S8x256, andi a' (andi b' (andi c' d'))⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S240x256_d0

def featsOf (p0 p1 p2 p3 : 𝕀) : IVec S240x256 32 :=
  feats (nibLo (x0 p0 p1 p2 p3)) (nibLo (x1 p0 p1 p2 p3)) (nibLo (x2 p0 p1 p2 p3)) (nibLo (x3 p0 p1 p2 p3))
    (nibHi (x0 p0 p1 p2 p3)) (nibHi (x1 p0 p1 p2 p3)) (nibHi (x2 p0 p1 p2 p3)) (nibHi (x3 p0 p1 p2 p3))

/-- The product of an octet's left operand with its features. -/
def dotO (l : Vec F S1x32x960 .bf16) (p : Fin 4 → Vec F S1x8x256 .i32) : FVec F S32x256 .f32 :=
  matmul dot_S32x960_S960x256_S32x256_1_0_0_1_n_n none (shapeCast S32x960 l shapeCasts_S1x32x960_S32x960)
    (bitcastToFloat .fp8e4m3 (bitcast S960x256 8 (featsOf (shapeCast S8x256 (p 0) shapeCasts_S1x8x256_S8x256) (shapeCast S8x256 (p 1) shapeCasts_S1x8x256_S8x256)
      (shapeCast S8x256 (p 2) shapeCasts_S1x8x256_S8x256) (shapeCast S8x256 (p 3) shapeCasts_S1x8x256_S8x256)) bitcasts_S240x256_w32_S960x256_w8))
    (constant S32x256 .f32 0x00000000#32)

/-- Two halves side by side. -/
def two (a b : Vec F S1x8x128 .f32) : FVec F S8x256 .f32 :=
  concatenate S8x256 1 [⟨S8x128, shapeCast S8x128 a shapeCasts_S1x8x128_S8x128⟩, ⟨S8x128, shapeCast S8x128 b shapeCasts_S1x8x128_S8x128⟩] concatenates_S8x128_S8x128_S8x256_d1

def twin (z : Vec F S1x1x8x128 .f32) : FVec F S8x256 .f32 :=
  concatenate S8x256 1 [⟨S8x128, shapeCast S8x128 z shapeCasts_S1x1x8x128_S8x128⟩, ⟨S8x128, shapeCast S8x128 z shapeCasts_S1x1x8x128_S8x128⟩] concatenates_S8x128_S8x128_S8x256_d1

/-- A token's eight rows of a product. -/
def rows (t : Fin 3) (a : FVec F S32x256 .f32) : FVec F S8x256 .f32 := match t with
  | 0 => extractStridedSlice S8x256 ![0, 0] a slices_S32x256_o0_0_S8x256
  | 1 => extractStridedSlice S8x256 ![8, 0] a slices_S32x256_o8_0_S8x256
  | 2 => extractStridedSlice S8x256 ![16, 0] a slices_S32x256_o16_0_S8x256

/-- What an octet contributes to a token, before the scale of its group. -/
def octD (t : Fin 3) (a : FVec F S32x256 .f32) (ws0 ws1 wz0 wz1 : Vec F S1x8x128 .f32) (z : Vec F S1x1x8x128 .f32) : FVec F S8x256 .f32 :=
  mulf (two ws0 ws1) (subf (rows t a) (mulf (two wz0 wz1) (twin z)))

/-- The accumulator of a token after a pair of octets. -/
def slabOf (ls : Vec F S1x128 .f32) (v : FVec F S8x256 .f32) (old : Vec F S1x8x256 .f32) : FVec F S1x8x256 .f32 :=
  shapeCast S1x8x256 (addf (shapeCast S8x256 old shapeCasts_S1x8x256_S8x256)
    (mulf (broadcastTo S8x256 (concatenate S1x256 1 [⟨S1x128, shapeCast S1x128 ls shapeCasts_S1x128_S1x128⟩, ⟨S1x128, shapeCast S1x128 ls shapeCasts_S1x128_S1x128⟩] concatenates_S1x128_S1x128_S1x256_d1) broadcasts_S1x256_S8x256) v))
    shapeCasts_S8x256_S1x8x256

section

variable (i : grid0.Coords) (arg7 : Memref sig .tc .vmem S4x1024x512 .i8) (arg12 : Memref sig .tc .vmem S288x128 .f32) (arg13 : Memref sig .tc .vmem S192x32x1024 .bf16)
  (arg15 : Memref sig .tc .vmem S192x3x8x128 .f32) (arg17 arg18 : Memref sig .tc .vmem S2x512x128 .f32) (arg19 : Memref sig .tc .vmem S4x128x256 .i32) (arg20 : Memref sig .tc .vmem S3x8x256 .f32)
  (X_arg7 : BufTy.Contents (Elt F) arg7.view.ty) (X_arg12 : BufTy.Contents (Elt F) arg12.view.ty) (X_arg13 : BufTy.Contents (Elt F) arg13.view.ty)
  (X_arg15 : BufTy.Contents (Elt F) arg15.view.ty) (X_arg17 : BufTy.Contents (Elt F) arg17.view.ty) (X_arg18 : BufTy.Contents (Elt F) arg18.view.ty)
  (k : Fin k0_t2_loop.trips)

/-- The words of one plane and one half, turned. -/
def turned (b : Vec F S1x512x128 .i8) : IVec S1x128x128 32 :=
  shapeCast S1x128x128 (transpose S128x128 [1, 0] (bitcast S128x128 32 (shapeCast S512x128 b shapeCasts_S1x512x128_S512x128) bitcasts_S512x128_w8_S128x128_w32) transposes_S128x128_p1_0_S128x128) shapeCasts_S128x128_S1x128x128

/-- The pieces the trip writes into the copy of the words. -/
def tpieces : List (View.Piece (Elt F) S4x128x256 .i32) :=
  [⟨Rect.unit ![3, 0, 128] S1x128x128.size inb_S4x128x256_S1x128x128_3_0_128, turned (arg7.view.readAt (Elt F) (Rect.unit (s := S4x1024x512) (k0_off18 k) S1x512x128.size (k0_off18_inb k)).toLoadRect X_arg7)⟩,
   ⟨Rect.unit ![3, 0, 0] S1x128x128.size inb_S4x128x256_S1x128x128_3_0_0, turned (arg7.view.readAt (Elt F) (Rect.unit (s := S4x1024x512) (k0_off17 k) S1x512x128.size (k0_off17_inb k)).toLoadRect X_arg7)⟩,
   ⟨Rect.unit ![2, 0, 128] S1x128x128.size inb_S4x128x256_S1x128x128_2_0_128, turned (arg7.view.readAt (Elt F) (Rect.unit (s := S4x1024x512) (k0_off16 k) S1x512x128.size (k0_off16_inb k)).toLoadRect X_arg7)⟩,
   ⟨Rect.unit ![2, 0, 0] S1x128x128.size inb_S4x128x256_S1x128x128_2_0_0, turned (arg7.view.readAt (Elt F) (Rect.unit (s := S4x1024x512) (k0_off15 k) S1x512x128.size (k0_off15_inb k)).toLoadRect X_arg7)⟩,
   ⟨Rect.unit ![1, 0, 128] S1x128x128.size inb_S4x128x256_S1x128x128_1_0_128, turned (arg7.view.readAt (Elt F) (Rect.unit (s := S4x1024x512) (k0_off14 k) S1x512x128.size (k0_off14_inb k)).toLoadRect X_arg7)⟩,
   ⟨Rect.unit ![1, 0, 0] S1x128x128.size inb_S4x128x256_S1x128x128_1_0_0, turned (arg7.view.readAt (Elt F) (Rect.unit (s := S4x1024x512) (k0_off13 k) S1x512x128.size (k0_off13_inb k)).toLoadRect X_arg7)⟩,
   ⟨Rect.unit ![0, 0, 128] S1x128x128.size inb_S4x128x256_S1x128x128_0_0_128, turned (arg7.view.readAt (Elt F) (Rect.unit (s := S4x1024x512) (k0_off12 k) S1x512x128.size (k0_off12_inb k)).toLoadRect X_arg7)⟩,
   ⟨Rect.unit ![0, 0, 0] S1x128x128.size inb_S4x128x256_S1x128x128_0_0_0, turned (arg7.view.readAt (Elt F) (Rect.unit (s := S4x1024x512) (k0_off11 k) S1x512x128.size (k0_off11_inb k)).toLoadRect X_arg7)⟩]

/-- The words of plane `p` of octet `o` of the trip. -/
def word (o : Fin 16) (p : Fin 4) : Vec F S1x8x256 .i32 :=
  arg19.view.readCov (tpieces arg7 X_arg7 k) (Rect.unit (s := S4x128x256) ![p.val, 8 * o.val, 0] S1x8x256.size (by
    intro a; fin_cases a
    · show p.val + 1 ≤ 4; omega
    · show 8 * o.val + 8 ≤ 128; omega
    · exact le_refl _)).toLoadRect

def octDot (o : Fin 16) : FVec F S32x256 .f32 :=
  dotO (arg13.view.readAt (Elt F) (Rect.unit (s := S192x32x1024) (k0_off19 i k (BitVec.ofNat 32 o.val)) S1x32x960.size (k0_off19_inb i k o)).toLoadRect X_arg13) (word arg7 arg19 X_arg7 k o)

def octAt (t : Fin 3) (o : Fin 16) : FVec F S8x256 .f32 :=
  octD t (octDot i arg7 arg13 arg19 X_arg7 X_arg13 k o)
    (arg17.view.readAt (Elt F) (Rect.unit (s := S2x512x128) (k0_off20 k (BitVec.ofNat 32 o.val)) S1x8x128.size (k0_off20_inb k o)).toLoadRect X_arg17)
    (arg17.view.readAt (Elt F) (Rect.unit (s := S2x512x128) (k0_off21 k (BitVec.ofNat 32 o.val)) S1x8x128.size (k0_off21_inb k o)).toLoadRect X_arg17)
    (arg18.view.readAt (Elt F) (Rect.unit (s := S2x512x128) (k0_off20 k (BitVec.ofNat 32 o.val)) S1x8x128.size (k0_off20_inb k o)).toLoadRect X_arg18)
    (arg18.view.readAt (Elt F) (Rect.unit (s := S2x512x128) (k0_off21 k (BitVec.ofNat 32 o.val)) S1x8x128.size (k0_off21_inb k o)).toLoadRect X_arg18)
    (match t with
      | 0 => arg15.view.readAt (Elt F) (Rect.unit (s := S192x3x8x128) (k0_off22 i k (BitVec.ofNat 32 o.val)) S1x1x8x128.size (k0_off22_inb i k o)).toLoadRect X_arg15
      | 1 => arg15.view.readAt (Elt F) (Rect.unit (s := S192x3x8x128) (k0_off23 i k (BitVec.ofNat 32 o.val)) S1x1x8x128.size (k0_off23_inb i k o)).toLoadRect X_arg15
      | 2 => arg15.view.readAt (Elt F) (Rect.unit (s := S192x3x8x128) (k0_off24 i k (BitVec.ofNat 32 o.val)) S1x1x8x128.size (k0_off24_inb i k o)).toLoadRect X_arg15)

/-- What a pair of octets contributes to a token. -/
def pairAt (t : Fin 3) (j : Fin 8) : FVec F S8x256 .f32 :=
  addf (octAt i arg7 arg13 arg15 arg17 arg18 arg19 X_arg7 X_arg13 X_arg15 X_arg17 X_arg18 k t ⟨2 * j.val, by omega⟩)
    (octAt i arg7 arg13 arg15 arg17 arg18 arg19 X_arg7 X_arg13 X_arg15 X_arg17 X_arg18 k t ⟨2 * j.val + 1, by omega⟩)

/-- The scale of the group of a pair. -/
def lsAt (t : Fin 3) (j : Fin 8) : Vec F S1x128 .f32 :=
  arg12.view.readAt (Elt F) (Rect.unit (s := S288x128) (k0_off25 i k (BitVec.ofNat 32 (96 * t.val)) (BitVec.ofNat 32 j.val)) S1x128.size (k0_off25_inb i k t j)).toLoadRect X_arg12

theorem inbR (t : Fin 3) : ∀ a, (![t.val, 0, 0] : Fin 3 → ℕ) a + S1x8x256.size a ≤ S3x8x256.size a := by
  intro a; fin_cases a
  · show t.val + 1 ≤ 3; omega
  · exact le_refl _
  · exact le_refl _

/-- The place of a token in the accumulator. -/
abbrev place (t : Fin 3) : Rect S3x8x256 := Rect.unit ![t.val, 0, 0] S1x8x256.size (inbR t)

def sl (t : Fin 3) (j : Fin 8) (old : Vec F S1x8x256 .f32) : FVec F S1x8x256 .f32 :=
  slabOf (lsAt i arg12 X_arg12 k t j) (pairAt i arg7 arg13 arg15 arg17 arg18 arg19 X_arg7 X_arg13 X_arg15 X_arg17 X_arg18 k t j) old

end

/-- The pieces after one more token of a pair. -/
def pushOne (v : View sig .tc .vmem S3x8x256 .f32) (f : Fin 3 → Vec F S1x8x256 .f32 → FVec F S1x8x256 .f32) (L : List (View.Piece (Elt F) S3x8x256 .f32)) (t : Fin 3) :
    List (View.Piece (Elt F) S3x8x256 .f32) :=
  ⟨place t, f t (v.readCov L (place t).toLoadRect)⟩ :: L

/-- The pieces after one more pair. -/
def pushPair (v : View sig .tc .vmem S3x8x256 .f32) (f : Fin 3 → Vec F S1x8x256 .f32 → FVec F S1x8x256 .f32) (L : List (View.Piece (Elt F) S3x8x256 .f32)) :
    List (View.Piece (Elt F) S3x8x256 .f32) :=
  pushOne v f (pushOne v f (pushOne v f L 0) 1) 2

/-- The pieces after the first pair. -/
def base (v : View sig .tc .vmem S3x8x256 .f32) (f : Fin 3 → Vec F S1x8x256 .f32 → FVec F S1x8x256 .f32) (G : BufTy.Contents (Elt F) v.ty) : List (View.Piece (Elt F) S3x8x256 .f32) :=
  [⟨place 2, f 2 (v.readAt (Elt F) (place 2).toLoadRect G)⟩, ⟨place 1, f 1 (v.readAt (Elt F) (place 1).toLoadRect G)⟩, ⟨place 0, f 0 (v.readAt (Elt F) (place 0).toLoadRect G)⟩]

/-- The pieces after all eight pairs. -/
def chain (v : View sig .tc .vmem S3x8x256 .f32) (f : Fin 8 → Fin 3 → Vec F S1x8x256 .f32 → FVec F S1x8x256 .f32) (G : BufTy.Contents (Elt F) v.ty) : List (View.Piece (Elt F) S3x8x256 .f32) :=
  pushPair v (f 7) (pushPair v (f 6) (pushPair v (f 5) (pushPair v (f 4) (pushPair v (f 3) (pushPair v (f 2) (pushPair v (f 1) (base v (f 0) G)))))))

section

variable (i : grid0.Coords) (arg7 : Memref sig .tc .vmem S4x1024x512 .i8) (arg12 : Memref sig .tc .vmem S288x128 .f32) (arg13 : Memref sig .tc .vmem S192x32x1024 .bf16)
  (arg15 : Memref sig .tc .vmem S192x3x8x128 .f32) (arg17 arg18 : Memref sig .tc .vmem S2x512x128 .f32) (arg19 : Memref sig .tc .vmem S4x128x256 .i32) (arg20 : Memref sig .tc .vmem S3x8x256 .f32)
  (X_arg7 : BufTy.Contents (Elt F) arg7.view.ty) (X_arg12 : BufTy.Contents (Elt F) arg12.view.ty) (X_arg13 : BufTy.Contents (Elt F) arg13.view.ty)
  (X_arg15 : BufTy.Contents (Elt F) arg15.view.ty) (X_arg17 : BufTy.Contents (Elt F) arg17.view.ty) (X_arg18 : BufTy.Contents (Elt F) arg18.view.ty)
  (k : Fin k0_t2_loop.trips)

variable (G : BufTy.Contents (Elt F) arg20.view.ty)

/-- The eight pairs of a trip, each pushed on the pieces of the pairs before it. -/
theorem pieces_3 : trip2.sl.HW_arg20_3 i arg7 arg12 arg13 arg15 arg17 arg18 arg19 arg20 X_arg7 X_arg12 X_arg13 X_arg15 X_arg17 X_arg18 k G
    = base arg20.view (fun t => sl i arg7 arg12 arg13 arg15 arg17 arg18 arg19 X_arg7 X_arg12 X_arg13 X_arg15 X_arg17 X_arg18 k t 0) G := rfl
theorem pieces_6 : trip2.sl.HW_arg20_6 i arg7 arg12 arg13 arg15 arg17 arg18 arg19 arg20 X_arg7 X_arg12 X_arg13 X_arg15 X_arg17 X_arg18 k G
    = pushPair arg20.view (fun t => sl i arg7 arg12 arg13 arg15 arg17 arg18 arg19 X_arg7 X_arg12 X_arg13 X_arg15 X_arg17 X_arg18 k t 1) (trip2.sl.HW_arg20_3 i arg7 arg12 arg13 arg15 arg17 arg18 arg19 arg20 X_arg7 X_arg12 X_arg13 X_arg15 X_arg17 X_arg18 k G) := rfl
theorem pieces_9 : trip2.sl.HW_arg20_9 i arg7 arg12 arg13 arg15 arg17 arg18 arg19 arg20 X_arg7 X_arg12 X_arg13 X_arg15 X_arg17 X_arg18 k G
    = pushPair arg20.view (fun t => sl i arg7 arg12 arg13 arg15 arg17 arg18 arg19 X_arg7 X_arg12 X_arg13 X_arg15 X_arg17 X_arg18 k t 2) (trip2.sl.HW_arg20_6 i arg7 arg12 arg13 arg15 arg17 arg18 arg19 arg20 X_arg7 X_arg12 X_arg13 X_arg15 X_arg17 X_arg18 k G) := rfl
theorem pieces_12 : trip2.sl.HW_arg20_12 i arg7 arg12 arg13 arg15 arg17 arg18 arg19 arg20 X_arg7 X_arg12 X_arg13 X_arg15 X_arg17 X_arg18 k G
    = pushPair arg20.view (fun t => sl i arg7 arg12 arg13 arg15 arg17 arg18 arg19 X_arg7 X_arg12 X_arg13 X_arg15 X_arg17 X_arg18 k t 3) (trip2.sl.HW_arg20_9 i arg7 arg12 arg13 arg15 arg17 arg18 arg19 arg20 X_arg7 X_arg12 X_arg13 X_arg15 X_arg17 X_arg18 k G) := rfl
theorem pieces_15 : trip2.sl.HW_arg20_15 i arg7 arg12 arg13 arg15 arg17 arg18 arg19 arg20 X_arg7 X_arg12 X_arg13 X_arg15 X_arg17 X_arg18 k G
    = pushPair arg20.view (fun t => sl i arg7 arg12 arg13 arg15 arg17 arg18 arg19 X_arg7 X_arg12 X_arg13 X_arg15 X_arg17 X_arg18 k t 4) (trip2.sl.HW_arg20_12 i arg7 arg12 arg13 arg15 arg17 arg18 arg19 arg20 X_arg7 X_arg12 X_arg13 X_arg15 X_arg17 X_arg18 k G) := rfl
theorem pieces_18 : trip2.sl.HW_arg20_18 i arg7 arg12 arg13 arg15 arg17 arg18 arg19 arg20 X_arg7 X_arg12 X_arg13 X_arg15 X_arg17 X_arg18 k G
    = pushPair arg20.view (fun t => sl i arg7 arg12 arg13 arg15 arg17 arg18 arg19 X_arg7 X_arg12 X_arg13 X_arg15 X_arg17 X_arg18 k t 5) (trip2.sl.HW_arg20_15 i arg7 arg12 arg13 arg15 arg17 arg18 arg19 arg20 X_arg7 X_arg12 X_arg13 X_arg15 X_arg17 X_arg18 k G) := rfl
theorem pieces_21 : trip2.sl.HW_arg20_21 i arg7 arg12 arg13 arg15 arg17 arg18 arg19 arg20 X_arg7 X_arg12 X_arg13 X_arg15 X_arg17 X_arg18 k G
    = pushPair arg20.view (fun t => sl i arg7 arg12 arg13 arg15 arg17 arg18 arg19 X_arg7 X_arg12 X_arg13 X_arg15 X_arg17 X_arg18 k t 6) (trip2.sl.HW_arg20_18 i arg7 arg12 arg13 arg15 arg17 arg18 arg19 arg20 X_arg7 X_arg12 X_arg13 X_arg15 X_arg17 X_arg18 k G) := rfl

end

/-- A trip writes the chain of its eight pairs. -/
theorem trip2_eq (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (X_arg7 : BufTy.Contents (Elt F) arg7.view.ty) (X_arg12 : BufTy.Contents (Elt F) arg12.view.ty) (X_arg13 : BufTy.Contents (Elt F) arg13.view.ty) (X_arg15 : BufTy.Contents (Elt F) arg15.view.ty) (X_arg17 : BufTy.Contents (Elt F) arg17.view.ty) (X_arg18 : BufTy.Contents (Elt F) arg18.view.ty) (k : Fin k0_t2_loop.trips) (G : BufTy.Contents (Elt F) arg20.view.ty) :
    (trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X_arg7 X_arg12 X_arg13 X_arg15 X_arg17 X_arg18 k).1 G
      = chain arg20.view (fun j t => sl i arg7 arg12 arg13 arg15 arg17 arg18 arg19 X_arg7 X_arg12 X_arg13 X_arg15 X_arg17 X_arg18 k t j) G := by
  unfold chain
  rw [← pieces_3, ← pieces_6, ← pieces_9, ← pieces_12, ← pieces_15, ← pieces_18, ← pieces_21]
  rfl

end Cert.KernelIdeal.Val
-- ==== Proof.V.Chain.lean ====
module

public import proofs.«01_k».proof.Proof.V.Trip

/-! What the accumulator holds after the second loop, entry by entry. -/

@[expose] public section

set_option maxRecDepth 16384

noncomputable section

namespace Cert.KernelIdeal.Val

open Idealize.ShloMosaic Idealize.ShloMosaic.TcCoe Cert.KernelIdeal Cert.KernelIdeal.Gen

section

variable (v : View sig .tc .vmem S3x8x256 .f32) (H : BufTy.Contents (Elt Ideal) v.ty) (L : List (View.Piece (Elt Ideal) S3x8x256 .f32))

theorem place_emb (t : Fin 3) (r : Fin 8) (l : Fin 256) : (place t).emb (ix3 0 r l) = ix3 t r l := by
  funext a; apply Fin.ext
  fin_cases a
  · show t.val + 1 * 0 = t.val; omega
  · show 0 + 1 * r.val = r.val; omega
  · show 0 + 1 * l.val = l.val; omega

theorem read_same (t : Fin 3) (w : (place t).shape.Idx → Elt Ideal .f32) (r : Fin 8) (l : Fin 256) :
    v.read (Elt Ideal) (v.writes (Elt Ideal) H (⟨place t, w⟩ :: L)) (ix3 t r l) = w (ix3 0 r l) :=
  View.read_writes_cons_unit_of_mem v H (inbR t) w L (ix3 t r l) (ix3 0 r l) rfl (fun a => by
    fin_cases a
    · show t.val = t.val + 0; omega
    · show r.val = 0 + r.val; omega
    · show l.val = 0 + l.val; omega)

theorem read_other (t t' : Fin 3) (h : t ≠ t') (w : (place t').shape.Idx → Elt Ideal .f32) (r : Fin 8) (l : Fin 256) :
    v.read (Elt Ideal) (v.writes (Elt Ideal) H (⟨place t', w⟩ :: L)) (ix3 t r l) = v.read (Elt Ideal) (v.writes (Elt Ideal) H L) (ix3 t r l) :=
  View.read_writes_cons_unit_of_not_mem v H (inbR t') w L (ix3 t r l) rfl 0 (by
    show t.val < t'.val ∨ t'.val + 1 ≤ t.val
    have := Fin.val_ne_of_ne h; omega)

theorem readAt_place (t : Fin 3) (r : Fin 8) (l : Fin 256) : v.readAt (Elt Ideal) (place t).toLoadRect H (ix3 0 r l) = v.read (Elt Ideal) H (ix3 t r l) :=
  congrArg (v.read (Elt Ideal) H) (place_emb t r l)

theorem readCov_place (t : Fin 3) (r : Fin 8) (l : Fin 256) : v.readCov L (place t).toLoadRect (ix3 0 r l) = v.read (Elt Ideal) (v.writes (Elt Ideal) v.junk L) (ix3 t r l) :=
  readAt_place v (v.writes (Elt Ideal) v.junk L) t r l

/-- The pieces hold these sums, whatever they are written on. -/
def Holds (S : Fin 3 → Fin 8 → Fin 256 → EReal) : Prop :=
  ∀ H t r l, v.read (Elt Ideal) (v.writes (Elt Ideal) H L) (ix3 t r l) = S t r l

theorem holds_base (f : Fin 3 → Vec Ideal S1x8x256 .f32 → FVec Ideal S1x8x256 .f32) (c : Fin 3 → Fin 8 → Fin 256 → EReal)
    (hf : ∀ t old r l, f t old (ix3 0 r l) = old (ix3 0 r l) + c t r l) :
    Holds v (base v f H) fun t r l => v.read (Elt Ideal) H (ix3 t r l) + c t r l := by
  intro H' t r l
  unfold base
  fin_cases t
  · rw [show ((fun i => i) (⟨0, by decide⟩ : Fin 3)) = 0 from rfl, read_other _ _ _ _ _ (by decide), read_other _ _ _ _ _ (by decide), read_same, hf, readAt_place]
  · rw [show ((fun i => i) (⟨1, by decide⟩ : Fin 3)) = 1 from rfl, read_other _ _ _ _ _ (by decide), read_same, hf, readAt_place]
  · rw [show ((fun i => i) (⟨2, by decide⟩ : Fin 3)) = 2 from rfl, read_same, hf, readAt_place]

theorem holds_pair (f : Fin 3 → Vec Ideal S1x8x256 .f32 → FVec Ideal S1x8x256 .f32) (c S : Fin 3 → Fin 8 → Fin 256 → EReal)
    (hf : ∀ t old r l, f t old (ix3 0 r l) = old (ix3 0 r l) + c t r l) (hL : Holds v L S) :
    Holds v (pushPair v f L) fun t r l => S t r l + c t r l := by
  intro H' t r l
  unfold pushPair pushOne
  fin_cases t
  · rw [show ((fun i => i) (⟨0, by decide⟩ : Fin 3)) = 0 from rfl, read_other _ _ _ _ _ (by decide), read_other _ _ _ _ _ (by decide), read_same, hf, readCov_place, hL]
  · rw [show ((fun i => i) (⟨1, by decide⟩ : Fin 3)) = 1 from rfl, read_other _ _ _ _ _ (by decide), read_same, hf, readCov_place, read_other _ _ _ _ _ (by decide), hL]
  · rw [show ((fun i => i) (⟨2, by decide⟩ : Fin 3)) = 2 from rfl, read_same, hf, readCov_place, read_other _ _ _ _ _ (by decide), read_other _ _ _ _ _ (by decide), hL]

/-- A trip adds the contributions of its eight pairs. -/
theorem holds_chain (f : Fin 8 → Fin 3 → Vec Ideal S1x8x256 .f32 → FVec Ideal S1x8x256 .f32) (c : Fin 8 → Fin 3 → Fin 8 → Fin 256 → EReal)
    (hf : ∀ j t old r l, f j t old (ix3 0 r l) = old (ix3 0 r l) + c j t r l) :
    Holds v (chain v f H) fun t r l => v.read (Elt Ideal) H (ix3 t r l) + ∑ j, c j t r l := by
  have h := holds_pair v _ (f 7) (c 7) _ (hf 7) (holds_pair v _ (f 6) (c 6) _ (hf 6) (holds_pair v _ (f 5) (c 5) _ (hf 5) (holds_pair v _ (f 4) (c 4) _ (hf 4)
    (holds_pair v _ (f 3) (c 3) _ (hf 3) (holds_pair v _ (f 2) (c 2) _ (hf 2) (holds_pair v _ (f 1) (c 1) _ (hf 1) (holds_base v H (f 0) (c 0) (hf 0))))))))
  intro H' t r l
  refine (h H' t r l).trans ?_
  show _ = _ + ∑ j, c j t r l
  rw [Fin.sum_univ_eight]
  simp only [add_assoc]

end

theorem slabOf_apply (ls : Vec Ideal S1x128 .f32) (w : FVec Ideal S8x256 .f32) (old : Vec Ideal S1x8x256 .f32) (r : Fin 8) (l : Fin 256) :
    slabOf ls w old (ix3 0 r l) = old (ix3 0 r l) + ls (ix2 0 ⟨l % 128, by omega⟩) * w (ix2 r l) := by
  pointwise [slabOf]
  congr 2
  split_ifs with h
  · exact congrArg (fun z => ls (ix2 0 z)) (Fin.ext (Nat.mod_eq_of_lt h).symm)
  all_goals exact congrArg (fun z => ls (ix2 0 z)) (Fin.ext (by show (l : ℕ) - 128 = l % 128; omega))

end Cert.KernelIdeal.Val
-- ==== Proof.V.Octet.lean ====
module

public import proofs.«01_k».proof.Proof.V.Chain
public import proofs.«01_k».proof.Proof.V.Sums
public import Idealize.ShloMosaic.Lib.BitcastFour

/-! An octet, entry by entry: its features are the subsets of the nibbles, its product is the sum of the codes. -/

@[expose] public section

set_option maxRecDepth 16384

noncomputable section

namespace Cert.KernelIdeal.Val

open Idealize.ShloMosaic Idealize.ShloMosaic.TcCoe Cert.KernelIdeal Cert.KernelIdeal.Gen Cert.Val

theorem nibLo_0 (p : Fin 4 → IVec S8x256 32) (j : S8x256.Idx) (i : Fin 4) :
    ![nibLo (x0 (p 0) (p 1) (p 2) (p 3)), nibLo (x1 (p 0) (p 1) (p 2) (p 3)), nibLo (x2 (p 0) (p 1) (p 2) (p 3)), nibLo (x3 (p 0) (p 1) (p 2) (p 3))] i j = nib 0 (nw (fun q => p q j) i) := by
  fin_cases i <;> rfl
theorem nibHi_0 (p : Fin 4 → IVec S8x256 32) (j : S8x256.Idx) (i : Fin 4) :
    ![nibHi (x0 (p 0) (p 1) (p 2) (p 3)), nibHi (x1 (p 0) (p 1) (p 2) (p 3)), nibHi (x2 (p 0) (p 1) (p 2) (p 3)), nibHi (x3 (p 0) (p 1) (p 2) (p 3))] i j = nib 1 (nw (fun q => p q j) i) := by
  fin_cases i <;> rfl

/-- The fifteen conjunctions of four vectors. -/
def fv (q : Fin 4 → IVec S8x256 32) : Fin 15 → IVec S8x256 32 :=
  ![q 0, q 1, andi (q 0) (q 1), q 2, andi (q 0) (q 2), andi (q 1) (q 2), andi (q 0) (andi (q 1) (q 2)), q 3, andi (q 0) (q 3), andi (q 1) (q 3), andi (q 0) (andi (q 1) (q 3)), andi (q 2) (q 3),
    andi (q 0) (andi (q 2) (q 3)), andi (q 1) (andi (q 2) (q 3)), andi (q 0) (andi (q 1) (andi (q 2) (q 3)))]
theorem fv_at (q : Fin 4 → IVec S8x256 32) (f : Fin 15) (j : S8x256.Idx) : fv q f j = andw (fun i => q i j) f := by
  fin_cases f <;> rfl

theorem feats_fv (q q' : Fin 4 → IVec S8x256 32) (k : Fin 30) (s : Fin 8) (l : Fin 256) :
    feats (q 0) (q 1) (q 2) (q 3) (q' 0) (q' 1) (q' 2) (q' 3) (ix2 ⟨k * 8 + s, by omega⟩ l)
      = (if h : (k : ℕ) < 15 then fv q ⟨k, h⟩ else fv q' ⟨k - 15, by omega⟩) (ix2 s l) := by
  unfold feats
  have hk : k.val < 30 := k.2
  refine concatenate_apply_piece (t := S240x256) (0 : Fin 2) _ _ _ k.val ?_ S8x256 _
    ?_ rfl (8 * k) ?_ (ix2 s l) ?_ ?_
  · exact hk
  · fin_cases k <;> simp only [List.getElem_cons_zero, List.getElem_cons_succ] <;> rfl
  · rw [List.map_take, show ∀ (a b c d e f g h i j k l m n o a' b' c' d' e' f' g' h' i' j' k' l' m' n' o' : IVec S8x256 32), List.map (fun x : (s : Shape) × (s.Idx → BitVec 32) => x.1) [⟨S8x256, a⟩, ⟨S8x256, b⟩, ⟨S8x256, c⟩, ⟨S8x256, d⟩, ⟨S8x256, e⟩, ⟨S8x256, f⟩, ⟨S8x256, g⟩, ⟨S8x256, h⟩, ⟨S8x256, i⟩, ⟨S8x256, j⟩, ⟨S8x256, k⟩, ⟨S8x256, l⟩, ⟨S8x256, m⟩, ⟨S8x256, n⟩, ⟨S8x256, o⟩, ⟨S8x256, a'⟩, ⟨S8x256, b'⟩, ⟨S8x256, c'⟩, ⟨S8x256, d'⟩, ⟨S8x256, e'⟩, ⟨S8x256, f'⟩, ⟨S8x256, g'⟩, ⟨S8x256, h'⟩, ⟨S8x256, i'⟩, ⟨S8x256, j'⟩, ⟨S8x256, k'⟩, ⟨S8x256, l'⟩, ⟨S8x256, m'⟩, ⟨S8x256, n'⟩, ⟨S8x256, o'⟩] = List.replicate 30 S8x256 from fun _ _ _ _ _ _ _ _ _ _ _ _ _ _ _ _ _ _ _ _ _ _ _ _ _ _ _ _ _ _ => rfl,
      List.take_replicate, List.map_replicate, List.sum_replicate, Nat.min_eq_left (by omega)]
    show k.val * 8 = 8 * k.val
    omega
  · intro b hb
    fin_cases b
    · exact absurd rfl hb
    · rfl
  · show 8 * k.val + s.val = k.val * 8 + s.val; omega

theorem feats_at (q q' : Fin 4 → IVec S8x256 32) (k : Fin 30) (s : Fin 8) (l : Fin 256) :
    feats (q 0) (q 1) (q 2) (q 3) (q' 0) (q' 1) (q' 2) (q' 3) (ix2 ⟨k * 8 + s, by omega⟩ l)
      = andw (fun i => if (k : ℕ) < 15 then q i (ix2 s l) else q' i (ix2 s l)) ⟨k % 15, Nat.mod_lt _ (by decide)⟩ := by
  rw [feats_fv]
  split_ifs with h
  · rw [fv_at]
    exact congrArg _ (Fin.ext (Nat.mod_eq_of_lt h).symm)
  · rw [fv_at]
    exact congrArg _ (Fin.ext (by show k.val - 15 = k.val % 15; omega))

theorem featsOf_at (p : Fin 4 → IVec S8x256 32) (k : Fin 30) (s : Fin 8) (l : Fin 256) :
    featsOf (p 0) (p 1) (p 2) (p 3) (ix2 ⟨k * 8 + s, by omega⟩ l)
      = andw (fun i => nib ⟨k / 15, by omega⟩ (nw (fun q => p q (ix2 s l)) i)) ⟨k % 15, Nat.mod_lt _ (by decide)⟩ := by
  refine (feats_at ![nibLo (x0 (p 0) (p 1) (p 2) (p 3)), nibLo (x1 (p 0) (p 1) (p 2) (p 3)), nibLo (x2 (p 0) (p 1) (p 2) (p 3)), nibLo (x3 (p 0) (p 1) (p 2) (p 3))]
    ![nibHi (x0 (p 0) (p 1) (p 2) (p 3)), nibHi (x1 (p 0) (p 1) (p 2) (p 3)), nibHi (x2 (p 0) (p 1) (p 2) (p 3)), nibHi (x3 (p 0) (p 1) (p 2) (p 3))] k s l).trans ?_
  congr 1
  funext i
  rw [nibLo_0, nibHi_0]
  split_ifs with h
  · exact congrArg (fun z => nib z _) (Fin.ext (by show 0 = k.val / 15; omega))
  · exact congrArg (fun z => nib z _) (Fin.ext (by show 1 = k.val / 15; omega))

theorem byte_bit (x : IVec S240x256 32) (κ : Fin 960) (l : Fin 256) (q : ℕ) (hq : q < 8) :
    (bitcast S960x256 8 x bitcasts_S240x256_w32_S960x256_w8 (ix2 κ l)).getLsbD q = (x (ix2 ⟨κ / 4, by omega⟩ l)).getLsbD (κ % 4 * 8 + q) := by
  rw [bitcast_getLsbD _ _ _ q hq (by decide)]
  have e1 : (S960x256.row (ix2 κ l)) = κ.val := rfl
  have e2 : (S960x256.row (ix2 κ l) * 8 + q) % 32 = κ % 4 * 8 + q := by rw [e1]; omega
  rw [e2]
  congr 2
  funext c
  match c with
  | ⟨0, _⟩ => exact Fin.ext ((Shape.Bitcasts.srcIdx_row _ _ _ _ ⟨0, Nat.zero_lt_two⟩ rfl).trans (by rw [e1]; show (κ.val * 8 + q) / 32 = κ.val / 4; omega))
  | ⟨1, _⟩ => exact Fin.ext (Shape.Bitcasts.srcIdx_other _ _ _ _ ⟨1, Nat.one_lt_two⟩ (by show ¬ 1 + 2 = 2; omega))

/-- The nibble of a byte. -/
def nibOf (par : Fin 2) (b : BitVec 8) : Fin 16 := ⟨b.toNat / 16 ^ (par : ℕ) % 16, Nat.mod_lt _ (by decide)⟩

theorem nibOf_bit (par : Fin 2) (b : BitVec 8) (i : Fin 4) : ((nibOf par b : Fin 16) : ℕ).testBit i = b.getLsbD (4 * par + i) := by
  revert par b i; decide +kernel

section
variable (p : Fin 4 → Vec Ideal S1x8x256 .i32) (l : Fin 256) (B : Fin 4 → Fin 4 → Fin 8 → BitVec 8)
  (hB : ∀ pl s b q, q < 8 → ((p pl : IVec S1x8x256 32) (ix3 0 s l)).getLsbD ((b : Fin 4) * 8 + q) = (B pl b s).getLsbD q)

include hB in
theorem rhs_at (κ : Fin 960) :
    Ideal.ofBits .fp8e4m3 (bitcast S960x256 8 (featsOf (shapeCast S8x256 (p 0) shapeCasts_S1x8x256_S8x256) (shapeCast S8x256 (p 1) shapeCasts_S1x8x256_S8x256)
      (shapeCast S8x256 (p 2) shapeCasts_S1x8x256_S8x256) (shapeCast S8x256 (p 3) shapeCasts_S1x8x256_S8x256)) bitcasts_S240x256_w32_S960x256_w8 (ix2 κ l))
    = (((∑ pl : Fin 4, if inside (κ / 32 % 15) (nibOf ⟨κ / 480, by omega⟩ (B pl ⟨κ % 4, by omega⟩ ⟨κ / 4 % 8, by omega⟩)) then (2 : ℝ) ^ (pl : ℕ) else 0) * (2 : ℝ) ^ (-9 : ℤ) : ℝ) : EReal) := by
  have key : ∀ q, q < 8 → (bitcast S960x256 8 (featsOf (shapeCast S8x256 (p 0) shapeCasts_S1x8x256_S8x256) (shapeCast S8x256 (p 1) shapeCasts_S1x8x256_S8x256)
      (shapeCast S8x256 (p 2) shapeCasts_S1x8x256_S8x256) (shapeCast S8x256 (p 3) shapeCasts_S1x8x256_S8x256)) bitcasts_S240x256_w32_S960x256_w8 (ix2 κ l)).getLsbD q
      = decide (∃ h : q < 4, inside (κ / 32 % 15) (nibOf ⟨κ / 480, by omega⟩ (B ⟨q, h⟩ ⟨κ % 4, by omega⟩ ⟨κ / 4 % 8, by omega⟩))) := by
    intro q hq
    rw [byte_bit _ _ _ _ hq]
    have h1 : (⟨κ / 4, by omega⟩ : Fin 240) = ⟨(⟨κ / 32, by omega⟩ : Fin 30) * 8 + (⟨κ / 4 % 8, by omega⟩ : Fin 8), by have := κ.2; show κ.val / 32 * 8 + κ.val / 4 % 8 < 240; omega⟩ :=
      Fin.ext (by show κ.val / 4 = κ.val / 32 * 8 + κ.val / 4 % 8; omega)
    rw [h1, featsOf_at (fun pl => shapeCast S8x256 (p pl) shapeCasts_S1x8x256_S8x256), feat_bit _ _ _ _ _ (Nat.mod_lt _ (by decide)) hq]
    congr 1
    apply propext
    refine exists_congr fun h => forall_congr' fun i => ?_
    have h2 : (⟨(⟨κ / 32, by omega⟩ : Fin 30) / 15, by have := κ.2; show κ.val / 32 / 15 < 2; omega⟩ : Fin 2) = ⟨κ / 480, by omega⟩ := Fin.ext (by show κ.val / 32 / 15 = κ.val / 480; omega)
    have h3 : (shapeCast S8x256 (p ⟨q, h⟩) shapeCasts_S1x8x256_S8x256 : IVec S8x256 32) (ix2 ⟨κ / 4 % 8, by omega⟩ l) = (p ⟨q, h⟩ : IVec S1x8x256 32) (ix3 0 ⟨κ / 4 % 8, by omega⟩ l) := by pointwise
    rw [nibOf_bit, h2, h3, hB ⟨q, h⟩ ⟨κ / 4 % 8, by omega⟩ ⟨κ % 4, by omega⟩ _ (by have := i.2; show 4 * (κ.val / 480) + i.val < 8; omega)]
  show Ideal.e4m3fn _ = _
  rw [small_byte _ fun q h h' => ?_]
  · congr 2
    refine Finset.sum_congr rfl fun pl _ => ?_
    rw [key pl (by omega)]
    have e : (∃ h : (pl : ℕ) < 4, inside (κ / 32 % 15) (nibOf ⟨κ / 480, by omega⟩ (B ⟨pl, h⟩ ⟨κ % 4, by omega⟩ ⟨κ / 4 % 8, by omega⟩))) ↔ inside (κ / 32 % 15) (nibOf ⟨κ / 480, by omega⟩ (B pl ⟨κ % 4, by omega⟩ ⟨κ / 4 % 8, by omega⟩)) :=
      ⟨fun ⟨_, h⟩ => h, fun h => ⟨pl.2, h⟩⟩
    simp only [decide_eq_true_eq, e]
  · rw [key q h', decide_eq_false]
    rintro ⟨h4, _⟩
    omega

variable (c : Fin 2 → Fin 8 → Fin 16 → ℤ) (hc : ∀ par s, c par s 0 = 0)

include hB hc in
/-- A row of an octet's product is the sum of the codes of its nibbles. -/
theorem dotO_at (a : Vec Ideal S1x32x960 .bf16) (r : Fin 32) (r' : Fin 8)
    (hL : ∀ κ : Fin 960, a (ix3 0 r κ) = if (κ : ℕ) / 16 % 2 = r' / 4 then if (κ : ℕ) % 4 = r' % 4 then ((eo c ⟨κ / 4 % 8, by omega⟩ (κ / 32) * 512 : ℝ) : EReal) else 0 else 0) :
    dotO a p (ix2 r l) = ((accv c (fun pl par b s => nibOf par (B pl b s)) r' : ℝ) : EReal) := by
  pointwise [dotO]
  exact dot_codes c hc (fun pl par b s => nibOf par (B pl b s)) r' _ _ hL (fun κ => rhs_at p l B hB κ)
end

theorem octD_at (t : Fin 3) (a : FVec Ideal S32x256 .f32) (ws0 ws1 wz0 wz1 : Vec Ideal S1x8x128 .f32) (z : Vec Ideal S1x1x8x128 .f32) (r : Fin 8) (l : Fin 256)
    (f g : Fin 256 → EReal) (zv : EReal)
    (hf0 : ∀ l : Fin 128, ws0 (ix3 0 r l) = f ⟨l, by omega⟩) (hf1 : ∀ l : Fin 128, ws1 (ix3 0 r l) = f ⟨l + 128, by omega⟩)
    (hg0 : ∀ l : Fin 128, wz0 (ix3 0 r l) = g ⟨l, by omega⟩) (hg1 : ∀ l : Fin 128, wz1 (ix3 0 r l) = g ⟨l + 128, by omega⟩)
    (hz : ∀ l : Fin 128, z (ix4 0 0 r l) = zv) :
    octD t a ws0 ws1 wz0 wz1 z (ix2 r l) = f l * (a (ix2 ⟨t * 8 + r, by omega⟩ l) - g l * zv) := by
  have hf : (if h : (l : ℕ) < 128 then ws0 (ix3 0 r ⟨l, h⟩) else ws1 (ix3 0 r ⟨l - 128, by omega⟩)) = f l := by
    split_ifs with h
    · rw [hf0]
    · rw [hf1]; exact congrArg f (Fin.ext (by show l.val - 128 + 128 = l.val; omega))
  have hg : (if h : (l : ℕ) < 128 then wz0 (ix3 0 r ⟨l, h⟩) else wz1 (ix3 0 r ⟨l - 128, by omega⟩)) = g l := by
    split_ifs with h
    · rw [hg0]
    · rw [hg1]; exact congrArg g (Fin.ext (by show l.val - 128 + 128 = l.val; omega))
  have hzz : (if h : (l : ℕ) < 128 then z (ix4 0 0 r ⟨l, h⟩) else z (ix4 0 0 r ⟨l - 128, by omega⟩)) = zv := by
    split_ifs with h
    · rw [hz]
    · rw [hz]
  fin_cases t
  · pointwise [octD, two, twin, rows]
    rw [hf, hg, hzz]
  · pointwise [octD, two, twin, rows]
    rw [hf, hg, hzz]
  · pointwise [octD, two, twin, rows]
    rw [hf, hg, hzz]

end Cert.KernelIdeal.Val
-- ==== Proof.V.Reads.lean ====
module

public import proofs.«01_k».proof.Proof.V.Octet
public import Idealize.ShloMosaic.Lib.BitcastFour

/-! What a trip of the second loop reads, and what each of its octets contributes. -/

@[expose] public section

set_option maxRecDepth 16384

noncomputable section

namespace Cert.KernelIdeal.Val

open Idealize.ShloMosaic Idealize.ShloMosaic.TcCoe Cert.KernelIdeal Cert.KernelIdeal.Gen Cert.Val

/-- The byte of a plane under a word. -/
def byt (W : Vec Ideal S4x1024x512 .i8) (p : Fin 4) (n : Fin 1024) (h : Fin 512) : BitVec 8 := W (ix3 p n h)

/-- The row of the weights under a row and a lane of the accumulator. -/
def nrow (r : Fin 8) (l : Fin 256) : Fin 1024 := ⟨l.val / 128 * 512 + 4 * (l.val % 128) + r.val % 4, by omega⟩

/-- What an octet contributes to a row and a lane. -/
def cell (W : Vec Ideal S4x1024x512 .i8) (ws wz : Fin 1024 → Fin 128 → EReal) (c : Fin 2 → Fin 8 → Fin 16 → ℤ) (z : EReal) (k : Fin 4) (o : Fin 16) (r : Fin 8) (l : Fin 256) : EReal :=
  ws (nrow r l) ⟨(k * 16 + o) * 2 + r / 4, by omega⟩
    * (((accv c (fun pl par b s => nibOf par (byt W pl ⟨l.val / 128 * 512 + 4 * (l.val % 128) + b, by omega⟩ ⟨128 * k + (8 * o + s), by omega⟩)) r : ℝ) : EReal)
      - wz (nrow r l) ⟨(k * 16 + o) * 2 + r / 4, by omega⟩ * z)

/-- What a pair contributes to the accumulator. -/
def pairc (ls : Fin 288 → EReal) (C : Fin 3 → Fin 192 → Fin 2 → Fin 8 → Fin 16 → ℤ) (Z : Fin 3 → Fin 192 → ℕ → EReal) (W : Vec Ideal S4x1024x512 .i8) (ws wz : Fin 1024 → Fin 128 → EReal)
    (h : Fin 3) (k : Fin 4) (j : Fin 8) (t : Fin 3) (r : Fin 8) (l : Fin 256) : EReal :=
  ls ⟨96 * t + ((h * 4 + k) * 8 + j), by omega⟩
    * (cell W ws wz (C t ⟨(h * 4 + k) * 16 + 2 * j, by omega⟩) (Z t ⟨(h * 4 + k) * 16 + 2 * j, by omega⟩ (r / 4)) k ⟨2 * j, by omega⟩ r l
      + cell W ws wz (C t ⟨(h * 4 + k) * 16 + (2 * j + 1), by omega⟩) (Z t ⟨(h * 4 + k) * 16 + (2 * j + 1), by omega⟩ (r / 4)) k ⟨2 * j + 1, by omega⟩ r l)

theorem offw : ∀ k : Fin k0_t2_loop.trips, k0_off11 k = ![0, 512 * 0, 128 * k.val] ∧ k0_off12 k = ![0, 512 * 1, 128 * k.val] ∧ k0_off13 k = ![1, 512 * 0, 128 * k.val] ∧ k0_off14 k = ![1, 512 * 1, 128 * k.val]
   ∧ k0_off15 k = ![2, 512 * 0, 128 * k.val] ∧ k0_off16 k = ![2, 512 * 1, 128 * k.val] ∧ k0_off17 k = ![3, 512 * 0, 128 * k.val] ∧ k0_off18 k = ![3, 512 * 1, 128 * k.val] := by
  decide +kernel
theorem trips2 : k0_t2_loop.trips = 4 := by decide +kernel
theorem off20 : ∀ (k : Fin k0_t2_loop.trips) (o : Fin 16), k0_off20 k (BitVec.ofNat 32 o.val) = ![0, (k.val * 16 + o.val) * 8, 0] ∧ k0_off21 k (BitVec.ofNat 32 o.val) = ![1, (k.val * 16 + o.val) * 8, 0] := by
  decide +kernel
theorem off19 : ∀ (i : grid0.Coords) (k : Fin k0_t2_loop.trips) (o : Fin 16), k0_off19 i k (BitVec.ofNat 32 o.val) = ![((i 1).val * 4 + k.val) * 16 + o.val, 0, 0]
   ∧ k0_off22 i k (BitVec.ofNat 32 o.val) = ![((i 1).val * 4 + k.val) * 16 + o.val, 0, 0, 0] ∧ k0_off23 i k (BitVec.ofNat 32 o.val) = ![((i 1).val * 4 + k.val) * 16 + o.val, 1, 0, 0] ∧ k0_off24 i k (BitVec.ofNat 32 o.val) = ![((i 1).val * 4 + k.val) * 16 + o.val, 2, 0, 0] := by
  decide +kernel
theorem off25 : ∀ (i : grid0.Coords) (k : Fin k0_t2_loop.trips) (t : Fin 3) (j : Fin 8), k0_off25 i k (BitVec.ofNat 32 (96 * t.val)) (BitVec.ofNat 32 j.val) = ![96 * t.val + (((i 1).val * 4 + k.val) * 8 + j.val), 0] := by
  decide +kernel
/-- Four bytes as a word. -/
def w4 (b : Fin 4 → BitVec 8) : BitVec 32 := ((b 0).setWidth 32 ||| ((b 1).setWidth 32 <<< 8) ||| ((b 2).setWidth 32 <<< 16) ||| ((b 3).setWidth 32 <<< 24))

theorem w4_bit (b : Fin 4 → BitVec 8) (q : ℕ) (hq : q < 32) : (w4 b).getLsbD q = (b ⟨q / 8, by omega⟩).getLsbD (q % 8) := four_bytes_getLsbD b q hq

theorem turned_at (b : Vec Ideal S1x512x128 .i8) (h l : Fin 128) :
    turned b (ix3 0 h l) = w4 fun r => (b : IVec S1x512x128 8) (ix3 0 ⟨4 * l + r, by omega⟩ h) := by
  apply BitVec.eq_of_getLsbD_eq
  intro q hq
  rw [w4_bit _ q hq]
  have : turned b (ix3 0 h l) = bitcast S128x128 32 (shapeCast S512x128 (b : IVec S1x512x128 8) shapeCasts_S1x512x128_S512x128) bitcasts_S512x128_w8_S128x128_w32 (ix2 l h) := by
    unfold turned
    pointwise
  rw [this]
  refine (bitcast_8_32_getLsbD_ix2 (R := 512) (r := 128) (n := 128) _ _ l h q hq ⟨4 * l + q / 8, by omega⟩ rfl).trans ?_
  congr 1
  pointwise

theorem piece_at (arg7 : Memref sig .tc .vmem S4x1024x512 .i8) (harg7 : arg7.IsWhole) (W : Vec Ideal S4x1024x512 .i8) (k : ℕ) (hk : k < 4) (p : Fin 4) (f : Fin 2)
    (off : Fin 3 → ℕ) (hoff : off = ![(p : ℕ), 512 * f, 128 * k]) (inb : ∀ a, off a + S1x512x128.size a ≤ S4x1024x512.size a) (inb')
    (x : S1x128x128.Idx) :
    turned (arg7.view.readAt (Elt Ideal) (Rect.unit (s := S4x1024x512) off S1x512x128.size inb).toLoadRect (harg7.unread W)) x
      = (fun y : S4x128x256.Idx => w4 fun r => byt W (y 0) ⟨(y 2).val / 128 * 512 + 4 * ((y 2).val % 128) + r, by have := (y 2).isLt; change (y 2).val < 256 at this; omega⟩ ⟨128 * k + (y 1).val, by have := (y 1).isLt; change (y 1).val < 128 at this; omega⟩)
        ((Rect.unit (s := S4x128x256) ![(p : ℕ), 0, 128 * (f : ℕ)] S1x128x128.size inb').emb x) := by
  subst hoff
  have hx : x = ix3 0 (x 1) (x 2) := by
    funext a; fin_cases a
    · exact Fin.ext (by have := (x 0).isLt; change (x 0).val < 1 at this; show (x 0).val = 0; omega)
    · rfl
    · rfl
  have h1 := (x 1).isLt; have h2 := (x 2).isLt
  change (x 1).val < 128 at h1; change (x 2).val < 128 at h2
  rw [hx]
  refine (turned_at _ (x 1) (x 2)).trans ?_
  refine congrArg w4 ?_
  funext r
  rw [View.readAt_apply, harg7.read_unread]
  unfold byt
  congr 1
  funext a; fin_cases a
  · exact Fin.ext (by show p.val + 1 * 0 = p.val + 1 * 0; rfl)
  · exact Fin.ext (by show 512 * f.val + 1 * (4 * (x 2).val + r.val) = (128 * f.val + 1 * (x 2).val) / 128 * 512 + 4 * ((128 * f.val + 1 * (x 2).val) % 128) + r.val; omega)
  · exact Fin.ext (by show 128 * k + 1 * (x 1).val = 128 * k + (0 + 1 * (x 1).val); omega)

theorem word_at (arg7 : Memref sig .tc .vmem S4x1024x512 .i8) (harg7 : arg7.IsWhole) (arg19 : Memref sig .tc .vmem S4x128x256 .i32) (W : Vec Ideal S4x1024x512 .i8)
    (k : Fin k0_t2_loop.trips) (hk : k.val < 4) (o : Fin 16) (p : Fin 4) (s : Fin 8) (l : Fin 256) :
    (word arg7 arg19 (harg7.unread W) k o p : IVec S1x8x256 32) (ix3 0 s l)
      = w4 fun r => byt W p ⟨l.val / 128 * 512 + 4 * (l.val % 128) + r, by omega⟩ ⟨128 * k.val + (8 * o.val + s.val), by omega⟩ := by
  have ho := o.2; have hs := s.2
  let G : S4x128x256.Idx → BitVec 32 := fun y => w4 fun r => byt W (y 0) ⟨(y 2).val / 128 * 512 + 4 * ((y 2).val % 128) + r, by have := (y 2).isLt; change (y 2).val < 256 at this; omega⟩ ⟨128 * k.val + (y 1).val, by have := (y 1).isLt; change (y 1).val < 128 at this; omega⟩
  have hy : (Rect.unit (s := S4x128x256) ![p.val, 8 * o.val, 0] S1x8x256.size (by
    intro a; fin_cases a
    · show p.val + 1 ≤ 4; omega
    · show 8 * o.val + 8 ≤ 128; omega
    · exact le_refl _)).emb (ix3 0 s l) = ix3 p ⟨8 * o.val + s.val, by omega⟩ l := by
    funext a; apply Fin.ext; fin_cases a
    · show p.val + 1 * 0 = p.val; omega
    · show 8 * o.val + 1 * s.val = 8 * o.val + s.val; omega
    · show 0 + 1 * l.val = l.val; omega
  obtain ⟨h11, h12, h13, h14, h15, h16, h17, h18⟩ := offw k
  show arg19.view.read (Elt Ideal) (arg19.view.writes (Elt Ideal) arg19.view.junk (tpieces arg7 (harg7.unread W) k)) ((Rect.unit (s := S4x128x256) ![p.val, 8 * o.val, 0] S1x8x256.size _).emb (ix3 0 s l)) = _
  rw [hy]
  refine (View.read_writes_apply_of_pieces (Val := Elt Ideal) arg19.view _ G _ ?_ _ ?_)
  · intro q hq x
    simp only [tpieces, List.mem_cons, List.not_mem_nil, or_false] at hq
    rcases hq with rfl | rfl | rfl | rfl | rfl | rfl | rfl | rfl
    · exact piece_at arg7 harg7 W k.val hk 3 1 _ h18 (k0_off18_inb k) inb_S4x128x256_S1x128x128_3_0_128 x
    · exact piece_at arg7 harg7 W k.val hk 3 0 _ h17 (k0_off17_inb k) inb_S4x128x256_S1x128x128_3_0_0 x
    · exact piece_at arg7 harg7 W k.val hk 2 1 _ h16 (k0_off16_inb k) inb_S4x128x256_S1x128x128_2_0_128 x
    · exact piece_at arg7 harg7 W k.val hk 2 0 _ h15 (k0_off15_inb k) inb_S4x128x256_S1x128x128_2_0_0 x
    · exact piece_at arg7 harg7 W k.val hk 1 1 _ h14 (k0_off14_inb k) inb_S4x128x256_S1x128x128_1_0_128 x
    · exact piece_at arg7 harg7 W k.val hk 1 0 _ h13 (k0_off13_inb k) inb_S4x128x256_S1x128x128_1_0_0 x
    · exact piece_at arg7 harg7 W k.val hk 0 1 _ h12 (k0_off12_inb k) inb_S4x128x256_S1x128x128_0_0_128 x
    · exact piece_at arg7 harg7 W k.val hk 0 0 _ h11 (k0_off11_inb k) inb_S4x128x256_S1x128x128_0_0_0 x
  · have mem : ∀ (p : Fin 4) (f : ℕ) (hf : l.val / 128 = f) (inb), (ix3 p (⟨8 * o.val + s.val, by omega⟩ : Fin 128) l : S4x128x256.Idx) ∈ (Rect.unit (s := S4x128x256) ![(p : ℕ), 0, 128 * f] S1x128x128.size inb).set := by
      intro p f hf inb
      refine mem_rect _ _ (ix3 (0 : Fin 1) (⟨8 * o.val + s.val, by omega⟩ : Fin 128) (⟨l.val % 128, Nat.mod_lt _ (by decide)⟩ : Fin 128)) fun a => ?_
      fin_cases a
      · show p.val = p.val + 1 * 0; omega
      · show 8 * o.val + s.val = 0 + 1 * (8 * o.val + s.val); omega
      · show l.val = 128 * f + 1 * (l.val % 128); omega
    have hl : l.val / 128 = 0 ∨ l.val / 128 = 1 := by omega
    unfold tpieces
    fin_cases p
    · rcases hl with h | h
      · exact ⟨_, .tail _ (.tail _ (.tail _ (.tail _ (.tail _ (.tail _ (.tail _ (.head _))))))), mem 0 0 h inb_S4x128x256_S1x128x128_0_0_0⟩
      · exact ⟨_, .tail _ (.tail _ (.tail _ (.tail _ (.tail _ (.tail _ (.head _)))))), mem 0 1 h inb_S4x128x256_S1x128x128_0_0_128⟩
    · rcases hl with h | h
      · exact ⟨_, .tail _ (.tail _ (.tail _ (.tail _ (.tail _ (.head _))))), mem 1 0 h inb_S4x128x256_S1x128x128_1_0_0⟩
      · exact ⟨_, .tail _ (.tail _ (.tail _ (.tail _ (.head _)))), mem 1 1 h inb_S4x128x256_S1x128x128_1_0_128⟩
    · rcases hl with h | h
      · exact ⟨_, .tail _ (.tail _ (.tail _ (.head _))), mem 2 0 h inb_S4x128x256_S1x128x128_2_0_0⟩
      · exact ⟨_, .tail _ (.tail _ (.head _)), mem 2 1 h inb_S4x128x256_S1x128x128_2_0_128⟩
    · rcases hl with h | h
      · exact ⟨_, .tail _ (.head _), mem 3 0 h inb_S4x128x256_S1x128x128_3_0_0⟩
      · exact ⟨_, .head _, mem 3 1 h inb_S4x128x256_S1x128x128_3_0_128⟩

/-- A read of a whole buffer at a place. -/
theorem rd {s : Shape} {e : EltTy} (arg : Memref sig .tc .vmem s e) (harg : arg.IsWhole) (X : Vec Ideal s e) (off size : Fin s.rank → ℕ) (inb : ∀ a, off a + size a ≤ s.size a)
    (x : (Rect.unit (s := s) off size inb).shape.Idx) (off' : Fin s.rank → ℕ) (ho : off = off') (y : s.Idx) (h : ∀ a, (y a).val = off' a + (x a).val) :
    arg.view.readAt (Elt Ideal) (Rect.unit (s := s) off size inb).toLoadRect (harg.unread X) x = X y := by
  subst ho
  rw [View.readAt_apply, harg.read_unread]
  refine congrArg X ?_
  funext a; apply Fin.ext
  rw [h a]
  show off a + 1 * (x a).val = _
  omega

theorem octAt_at (i : grid0.Coords) (arg7 : Memref sig .tc .vmem S4x1024x512 .i8) (harg7 : arg7.IsWhole) (arg13 : Memref sig .tc .vmem S192x32x1024 .bf16) (harg13 : arg13.IsWhole)
  (arg15 : Memref sig .tc .vmem S192x3x8x128 .f32) (harg15 : arg15.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32)
  (W : Vec Ideal S4x1024x512 .i8) (LHS : Vec Ideal S192x32x1024 .bf16) (ZP : Vec Ideal S192x3x8x128 .f32) (WST WZT : Vec Ideal S2x512x128 .f32)
  (C : Fin 3 → Fin 192 → Fin 2 → Fin 8 → Fin 16 → ℤ) (Z : Fin 3 → Fin 192 → ℕ → EReal) (ws wz : Fin 1024 → Fin 128 → EReal)
  (hC : ∀ t O par s, C t O par s 0 = 0)
  (hL : ∀ (O : Fin 192) (t : Fin 3) (r : Fin 8) (κ : Fin 1024), LHS (ix3 O ⟨t * 8 + r, by omega⟩ κ)
    = if (κ : ℕ) / 16 % 2 = r / 4 then if (κ : ℕ) % 4 = r % 4 then ((eo (C t O) ⟨κ / 4 % 8, by omega⟩ (κ / 32) * 512 : ℝ) : EReal) else 0 else 0)
  (hZ : ∀ (O : Fin 192) (t : Fin 3) (r : Fin 8) (l : Fin 128), ZP (ix4 O t r l) = Z t O (r / 4))
  (hws : ∀ (f : Fin 2) (h : Fin 512) (l : Fin 128), WST (ix3 f h l) = ws ⟨f * 512 + 4 * l + h % 4, by omega⟩ ⟨h / 4, by omega⟩)
  (hwz : ∀ (f : Fin 2) (h : Fin 512) (l : Fin 128), WZT (ix3 f h l) = wz ⟨f * 512 + 4 * l + h % 4, by omega⟩ ⟨h / 4, by omega⟩)
  (k : Fin k0_t2_loop.trips) (hk : k.val < 4) (hi : (i 1).val < 3)
  (t : Fin 3) (o : Fin 16) (r : Fin 8) (l : Fin 256) :
    octAt i arg7 arg13 arg15 arg17 arg18 arg19 (harg7.unread W) (harg13.unread LHS) (harg15.unread ZP) (harg17.unread WST) (harg18.unread WZT) k t o (ix2 r l)
      = cell W ws wz (C t ⟨((i 1).val * 4 + k.val) * 16 + o.val, by omega⟩) (Z t ⟨((i 1).val * 4 + k.val) * 16 + o.val, by omega⟩ (r / 4)) ⟨k.val, hk⟩ o r l := by
  obtain ⟨o19, o22, o23, o24⟩ := off19 i k o
  obtain ⟨o20, o21⟩ := off20 k o
  have ho := o.2; have hr := r.2
  have half0 : ∀ (arg : Memref sig .tc .vmem S2x512x128 .f32) (harg : arg.IsWhole) (X : Vec Ideal S2x512x128 .f32) (w : Fin 1024 → Fin 128 → EReal)
      (hX : ∀ (f : Fin 2) (h : Fin 512) (l : Fin 128), X (ix3 f h l) = w ⟨f * 512 + 4 * l + h % 4, by omega⟩ ⟨h / 4, by omega⟩) (l : Fin 128),
      arg.view.readAt (Elt Ideal) (Rect.unit (s := S2x512x128) (k0_off20 k (BitVec.ofNat 32 o.val)) S1x8x128.size (k0_off20_inb k o)).toLoadRect (harg.unread X) (ix3 0 r l)
        = w (nrow r ⟨l, by omega⟩) ⟨(k.val * 16 + o) * 2 + r / 4, by omega⟩ := by
    intro arg harg X w hX l
    rw [rd arg harg X _ _ _ _ _ o20 (ix3 0 ⟨(k.val * 16 + o.val) * 8 + r, by omega⟩ l) (fun a => by fin_cases a <;> [exact (rfl : 0 = 0 + 0); rfl; exact (Nat.zero_add _).symm]), hX]
    exact congrArg₂ w (Fin.ext (by show 0 * 512 + 4 * l.val + ((k.val * 16 + o.val) * 8 + r.val) % 4 = l.val / 128 * 512 + 4 * (l.val % 128) + r.val % 4; omega)) (Fin.ext (by show ((k.val * 16 + o.val) * 8 + r.val) / 4 = (k.val * 16 + o.val) * 2 + r.val / 4; omega))
  have half1 : ∀ (arg : Memref sig .tc .vmem S2x512x128 .f32) (harg : arg.IsWhole) (X : Vec Ideal S2x512x128 .f32) (w : Fin 1024 → Fin 128 → EReal)
      (hX : ∀ (f : Fin 2) (h : Fin 512) (l : Fin 128), X (ix3 f h l) = w ⟨f * 512 + 4 * l + h % 4, by omega⟩ ⟨h / 4, by omega⟩) (l : Fin 128),
      arg.view.readAt (Elt Ideal) (Rect.unit (s := S2x512x128) (k0_off21 k (BitVec.ofNat 32 o.val)) S1x8x128.size (k0_off21_inb k o)).toLoadRect (harg.unread X) (ix3 0 r l)
        = w (nrow r ⟨l + 128, by omega⟩) ⟨(k.val * 16 + o) * 2 + r / 4, by omega⟩ := by
    intro arg harg X w hX l
    rw [rd arg harg X _ _ _ _ _ o21 (ix3 1 ⟨(k.val * 16 + o.val) * 8 + r, by omega⟩ l) (fun a => by fin_cases a <;> [exact (rfl : 1 = 1 + 0); rfl; exact (Nat.zero_add _).symm]), hX]
    exact congrArg₂ w (Fin.ext (by show 1 * 512 + 4 * l.val + ((k.val * 16 + o.val) * 8 + r.val) % 4 = (l.val + 128) / 128 * 512 + 4 * ((l.val + 128) % 128) + r.val % 4; omega)) (Fin.ext (by show ((k.val * 16 + o.val) * 8 + r.val) / 4 = (k.val * 16 + o.val) * 2 + r.val / 4; omega))
  unfold octAt
  rw [octD_at t _ _ _ _ _ _ r l (fun l => ws (nrow r l) ⟨(k.val * 16 + o) * 2 + r / 4, by omega⟩) (fun l => wz (nrow r l) ⟨(k.val * 16 + o) * 2 + r / 4, by omega⟩)
    (Z t ⟨((i 1).val * 4 + k.val) * 16 + o.val, by omega⟩ (r / 4)) (half0 arg17 harg17 WST ws hws) (half1 arg17 harg17 WST ws hws) (half0 arg18 harg18 WZT wz hwz) (half1 arg18 harg18 WZT wz hwz)]
  · unfold cell
    congr 2
    unfold octDot
    refine dotO_at _ l (fun pl b s => byt W pl ⟨l.val / 128 * 512 + 4 * (l.val % 128) + b, by omega⟩ ⟨128 * k.val + (8 * o.val + s.val), by omega⟩) ?_ _ (hC t _) _ ⟨t.val * 8 + r.val, by omega⟩ r ?_
    · intro pl s b q hq
      have hb := b.2
      rw [word_at arg7 harg7 arg19 W k hk o pl s l, w4_bit _ _ (by omega)]
      have e1 : (⟨(b.val * 8 + q) / 8, by omega⟩ : Fin 4) = b := Fin.ext (by show (b.val * 8 + q) / 8 = b.val; omega)
      have e2 : (b.val * 8 + q) % 8 = q := by omega
      rw [e1, e2]
    · intro κ
      rw [rd arg13 harg13 LHS _ _ _ _ _ o19 (ix3 ⟨((i 1).val * 4 + k.val) * 16 + o.val, by omega⟩ ⟨t.val * 8 + r.val, by omega⟩ ⟨κ.val, by omega⟩) (fun a => by fin_cases a <;> [rfl; exact (Nat.zero_add _).symm; exact (Nat.zero_add _).symm]), hL]
  · intro l
    fin_cases t
    · show arg15.view.readAt (Elt Ideal) (Rect.unit (s := S192x3x8x128) (k0_off22 i k (BitVec.ofNat 32 o.val)) S1x1x8x128.size (k0_off22_inb i k o)).toLoadRect (harg15.unread ZP) (ix4 0 0 r l) = _
      rw [rd arg15 harg15 ZP _ _ _ _ _ o22 (ix4 ⟨((i 1).val * 4 + k.val) * 16 + o.val, by omega⟩ 0 r l) (fun a => by fin_cases a <;> [rfl; rfl; exact (Nat.zero_add _).symm; exact (Nat.zero_add _).symm]), hZ]
      rfl
    · show arg15.view.readAt (Elt Ideal) (Rect.unit (s := S192x3x8x128) (k0_off23 i k (BitVec.ofNat 32 o.val)) S1x1x8x128.size (k0_off23_inb i k o)).toLoadRect (harg15.unread ZP) (ix4 0 0 r l) = _
      rw [rd arg15 harg15 ZP _ _ _ _ _ o23 (ix4 ⟨((i 1).val * 4 + k.val) * 16 + o.val, by omega⟩ 1 r l) (fun a => by fin_cases a <;> [rfl; rfl; exact (Nat.zero_add _).symm; exact (Nat.zero_add _).symm]), hZ]
      rfl
    · show arg15.view.readAt (Elt Ideal) (Rect.unit (s := S192x3x8x128) (k0_off24 i k (BitVec.ofNat 32 o.val)) S1x1x8x128.size (k0_off24_inb i k o)).toLoadRect (harg15.unread ZP) (ix4 0 0 r l) = _
      rw [rd arg15 harg15 ZP _ _ _ _ _ o24 (ix4 ⟨((i 1).val * 4 + k.val) * 16 + o.val, by omega⟩ 2 r l) (fun a => by fin_cases a <;> [rfl; rfl; exact (Nat.zero_add _).symm; exact (Nat.zero_add _).symm]), hZ]
      rfl

theorem sl_at (i : grid0.Coords) (arg7 : Memref sig .tc .vmem S4x1024x512 .i8) (harg7 : arg7.IsWhole) (arg12 : Memref sig .tc .vmem S288x128 .f32) (harg12 : arg12.IsWhole) (arg13 : Memref sig .tc .vmem S192x32x1024 .bf16) (harg13 : arg13.IsWhole)
  (arg15 : Memref sig .tc .vmem S192x3x8x128 .f32) (harg15 : arg15.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32)
  (W : Vec Ideal S4x1024x512 .i8) (LUT : Vec Ideal S288x128 .f32) (LHS : Vec Ideal S192x32x1024 .bf16) (ZP : Vec Ideal S192x3x8x128 .f32) (WST WZT : Vec Ideal S2x512x128 .f32)
  (ls : Fin 288 → EReal) (C : Fin 3 → Fin 192 → Fin 2 → Fin 8 → Fin 16 → ℤ) (Z : Fin 3 → Fin 192 → ℕ → EReal) (ws wz : Fin 1024 → Fin 128 → EReal)
  (hC : ∀ t O par s, C t O par s 0 = 0)
  (hL : ∀ (O : Fin 192) (t : Fin 3) (r : Fin 8) (κ : Fin 1024), LHS (ix3 O ⟨t * 8 + r, by omega⟩ κ)
    = if (κ : ℕ) / 16 % 2 = r / 4 then if (κ : ℕ) % 4 = r % 4 then ((eo (C t O) ⟨κ / 4 % 8, by omega⟩ (κ / 32) * 512 : ℝ) : EReal) else 0 else 0)
  (hZ : ∀ (O : Fin 192) (t : Fin 3) (r : Fin 8) (l : Fin 128), ZP (ix4 O t r l) = Z t O (r / 4))
  (hls : ∀ r (l : Fin 128), LUT (ix2 r l) = ls r)
  (hws : ∀ (f : Fin 2) (h : Fin 512) (l : Fin 128), WST (ix3 f h l) = ws ⟨f * 512 + 4 * l + h % 4, by omega⟩ ⟨h / 4, by omega⟩)
  (hwz : ∀ (f : Fin 2) (h : Fin 512) (l : Fin 128), WZT (ix3 f h l) = wz ⟨f * 512 + 4 * l + h % 4, by omega⟩ ⟨h / 4, by omega⟩)
  (k : Fin k0_t2_loop.trips) (hk : k.val < 4) (hi : (i 1).val < 3)
  (t : Fin 3) (j : Fin 8) (old : Vec Ideal S1x8x256 .f32) (r : Fin 8) (l : Fin 256) :
    sl i arg7 arg12 arg13 arg15 arg17 arg18 arg19 (harg7.unread W) (harg12.unread LUT) (harg13.unread LHS) (harg15.unread ZP) (harg17.unread WST) (harg18.unread WZT) k t j old (ix3 0 r l)
      = old (ix3 0 r l) + pairc ls C Z W ws wz ⟨(i 1).val, hi⟩ ⟨k.val, hk⟩ j t r l := by
  unfold sl
  rw [slabOf_apply]
  have e : lsAt i arg12 (harg12.unread LUT) k t j (ix2 0 ⟨l % 128, by omega⟩) = ls ⟨96 * t.val + (((i 1).val * 4 + k.val) * 8 + j.val), by omega⟩ := by
    unfold lsAt
    rw [rd arg12 harg12 LUT _ _ _ _ _ (off25 i k t j) (ix2 ⟨96 * t.val + (((i 1).val * 4 + k.val) * 8 + j.val), by omega⟩ ⟨l % 128, by omega⟩) (fun a => by fin_cases a <;> [rfl; exact (Nat.zero_add _).symm]), hls]
  rw [e]
  unfold pairc pairAt
  have a := octAt_at i arg7 harg7 arg13 harg13 arg15 harg15 arg17 harg17 arg18 harg18 arg19 W LHS ZP WST WZT C Z ws wz hC hL hZ hws hwz k hk hi t ⟨2 * j.val, by omega⟩ r l
  have b := octAt_at i arg7 harg7 arg13 harg13 arg15 harg15 arg17 harg17 arg18 harg18 arg19 W LHS ZP WST WZT C Z ws wz hC hL hZ hws hwz k hk hi t ⟨2 * j.val + 1, by omega⟩ r l
  congr 2
  exact congrArg₂ (· + ·) a b

end Cert.KernelIdeal.Val
-- ==== Proof.V.Acc.lean ====
module

public import proofs.«01_k».proof.Proof.V.Reads
public import Idealize.ShloMosaic.Lib.BitcastFour

/-! What the second loop leaves in the accumulator. -/

@[expose] public section

set_option maxRecDepth 16384

noncomputable section

namespace Cert.KernelIdeal.Val

open Idealize.ShloMosaic Idealize.ShloMosaic.TcCoe Cert.KernelIdeal Cert.KernelIdeal.Gen Cert.Val

/-- What a grid point adds to the accumulator, by blocks of words and pairs. -/
def pointc (ls : Fin 288 → EReal) (C : Fin 3 → Fin 192 → Fin 2 → Fin 8 → Fin 16 → ℤ) (Z : Fin 3 → Fin 192 → ℕ → EReal) (W : Vec Ideal S4x1024x512 .i8) (ws wz : Fin 1024 → Fin 128 → EReal)
    (h : Fin 3) (t : Fin 3) (r : Fin 8) (l : Fin 256) : EReal := ∑ k : Fin 4, ∑ j : Fin 8, pairc ls C Z W ws wz h k j t r l

theorem acc2_at (c : Dev nD) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole) (arg1 : BitVec 32) (G : BufTy.Contents (Elt Ideal) arg20.view.ty)
  (W : Vec Ideal S4x1024x512 .i8) (LUT : Vec Ideal S288x128 .f32) (LHS : Vec Ideal S192x32x1024 .bf16) (ZP : Vec Ideal S192x3x8x128 .f32) (WST WZT : Vec Ideal S2x512x128 .f32)
  (ls : Fin 288 → EReal) (C : Fin 3 → Fin 192 → Fin 2 → Fin 8 → Fin 16 → ℤ) (Z : Fin 3 → Fin 192 → ℕ → EReal) (ws wz : Fin 1024 → Fin 128 → EReal)
  (hC : ∀ t O par s, C t O par s 0 = 0)
  (hL : ∀ (O : Fin 192) (t : Fin 3) (r : Fin 8) (κ : Fin 1024), LHS (ix3 O ⟨t * 8 + r, by omega⟩ κ)
    = if (κ : ℕ) / 16 % 2 = r / 4 then if (κ : ℕ) % 4 = r % 4 then ((eo (C t O) ⟨κ / 4 % 8, by omega⟩ (κ / 32) * 512 : ℝ) : EReal) else 0 else 0)
  (hZ : ∀ (O : Fin 192) (t : Fin 3) (r : Fin 8) (l : Fin 128), ZP (ix4 O t r l) = Z t O (r / 4))
  (hls : ∀ r (l : Fin 128), LUT (ix2 r l) = ls r)
  (hws : ∀ (f : Fin 2) (h : Fin 512) (l : Fin 128), WST (ix3 f h l) = ws ⟨f * 512 + 4 * l + h % 4, by omega⟩ ⟨h / 4, by omega⟩)
  (hwz : ∀ (f : Fin 2) (h : Fin 512) (l : Fin 128), WZT (ix3 f h l) = wz ⟨f * 512 + 4 * l + h % 4, by omega⟩ ⟨h / 4, by omega⟩)
  (hi : (i 1).val < 3) (t : Fin 3) (r : Fin 8) (l : Fin 256) :
    arg20.view.read (Elt Ideal) (acc2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 (harg7.unread W) (harg12.unread LUT) (harg13.unread LHS) (harg15.unread ZP) (harg17.unread WST) (harg18.unread WZT) G 4) (ix3 t r l)
      = arg20.view.read (Elt Ideal) G (ix3 t r l) + pointc ls C Z W ws wz ⟨(i 1).val, hi⟩ t r l := by
  have key : ∀ (n : ℕ) (hn : n ≤ 4), arg20.view.read (Elt Ideal) (acc2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 (harg7.unread W) (harg12.unread LUT) (harg13.unread LHS) (harg15.unread ZP) (harg17.unread WST) (harg18.unread WZT) G n) (ix3 t r l)
      = arg20.view.read (Elt Ideal) G (ix3 t r l) + ∑ k : Fin n, ∑ j : Fin 8, pairc ls C Z W ws wz ⟨(i 1).val, hi⟩ ⟨k, by omega⟩ j t r l := by
    intro n
    induction n with
    | zero => intro _; simp only [Finset.univ_eq_empty, Finset.sum_empty, add_zero]; rfl
    | succ n ih =>
      intro hn
      have hk : n < k0_t2_loop.trips := by rw [trips2]; omega
      have e := acc2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 (harg7.unread W) (harg12.unread LUT) (harg13.unread LHS) (harg15.unread ZP) (harg17.unread WST) (harg18.unread WZT) G ⟨n, hk⟩
      refine (congrFun (congrArg (arg20.view.read (Elt Ideal)) e) _).trans ?_
      rw [trip2_eq, Fin.sum_univ_castSucc, ← add_assoc]
      refine (holds_chain (v := arg20.view) (H := _) _ (fun j t r l => pairc ls C Z W ws wz ⟨(i 1).val, hi⟩ ⟨n, by omega⟩ j t r l) ?_ _ t r l).trans ?_
      · intro j t old r l
        exact sl_at i arg7 harg7 arg12 harg12 arg13 harg13 arg15 harg15 arg17 harg17 arg18 harg18 arg19 W LUT LHS ZP WST WZT ls C Z ws wz hC hL hZ hls hws hwz ⟨n, hk⟩ (by show n < 4; omega) hi t j old r l
      · exact congrArg (· + _) (ih (by omega))
  exact key 4 (le_refl _)

end Cert.KernelIdeal.Val
-- ==== Proof.V.Lay.lean ====
module

public import proofs.«01_k».proof.Proof.V.Codes
public import Idealize.ShloMosaic.Lib.BitcastFour

/-! The weights' scales and zero points as the kernel lays them out for a trip. -/

@[expose] public section

set_option maxRecDepth 16384

noncomputable section

namespace Cert.KernelIdeal.Val

open Idealize.ShloMosaic Idealize.ShloMosaic.TcCoe Cert.KernelIdeal Cert.KernelIdeal.Gen Cert.Val

/-- A square turned over. -/
def tw (v : Vec Ideal S128x128 .f32) : FVec Ideal S1x128x128 .f32 :=
  shapeCast S1x128x128 (transpose S128x128 [1, 0] v transposes_S128x128_p1_0_S128x128) shapeCasts_S128x128_S1x128x128

theorem tw_at (v : Vec Ideal S128x128 .f32) (h l : Fin 128) : tw v (ix3 0 h l) = v (ix2 l h) := by
  pointwise [tw]

/-- The pieces by which a block of scales is laid out. -/
def wp (arg : Memref sig .tc .vmem S1024x128 .f32) (harg : arg.IsWhole) (X : Vec Ideal S1024x128 .f32) : List (View.Piece (Elt Ideal) S2x512x128 .f32) :=
  [ ⟨{ off := ![1, 3, 0], size := S1x128x128.size, stride := ![1, 4, 1], inb := inb_S2x512x128_S1x128x128_1_3_0_s_1_4_1, stride_pos := spos_1_4_1 },
      tw (View.readAt (Elt Ideal) arg.view { off := ![515, 0], size := S128x128.size, stride := ![4, 1], inb := inb_S1024x128_S128x128_515_0_s_4_1 } (harg.unread X))⟩,
    ⟨{ off := ![1, 2, 0], size := S1x128x128.size, stride := ![1, 4, 1], inb := inb_S2x512x128_S1x128x128_1_2_0_s_1_4_1, stride_pos := spos_1_4_1 },
      tw (View.readAt (Elt Ideal) arg.view { off := ![514, 0], size := S128x128.size, stride := ![4, 1], inb := inb_S1024x128_S128x128_514_0_s_4_1 } (harg.unread X))⟩,
    ⟨{ off := ![1, 1, 0], size := S1x128x128.size, stride := ![1, 4, 1], inb := inb_S2x512x128_S1x128x128_1_1_0_s_1_4_1, stride_pos := spos_1_4_1 },
      tw (View.readAt (Elt Ideal) arg.view { off := ![513, 0], size := S128x128.size, stride := ![4, 1], inb := inb_S1024x128_S128x128_513_0_s_4_1 } (harg.unread X))⟩,
    ⟨{ off := ![1, 0, 0], size := S1x128x128.size, stride := ![1, 4, 1], inb := inb_S2x512x128_S1x128x128_1_0_0_s_1_4_1, stride_pos := spos_1_4_1 },
      tw (View.readAt (Elt Ideal) arg.view { off := ![512, 0], size := S128x128.size, stride := ![4, 1], inb := inb_S1024x128_S128x128_512_0_s_4_1 } (harg.unread X))⟩,
    ⟨{ off := ![0, 3, 0], size := S1x128x128.size, stride := ![1, 4, 1], inb := inb_S2x512x128_S1x128x128_0_3_0_s_1_4_1, stride_pos := spos_1_4_1 },
      tw (View.readAt (Elt Ideal) arg.view { off := ![3, 0], size := S128x128.size, stride := ![4, 1], inb := inb_S1024x128_S128x128_3_0_s_4_1 } (harg.unread X))⟩,
    ⟨{ off := ![0, 2, 0], size := S1x128x128.size, stride := ![1, 4, 1], inb := inb_S2x512x128_S1x128x128_0_2_0_s_1_4_1, stride_pos := spos_1_4_1 },
      tw (View.readAt (Elt Ideal) arg.view { off := ![2, 0], size := S128x128.size, stride := ![4, 1], inb := inb_S1024x128_S128x128_2_0_s_4_1 } (harg.unread X))⟩,
    ⟨{ off := ![0, 1, 0], size := S1x128x128.size, stride := ![1, 4, 1], inb := inb_S2x512x128_S1x128x128_0_1_0_s_1_4_1, stride_pos := spos_1_4_1 },
      tw (View.readAt (Elt Ideal) arg.view { off := ![1, 0], size := S128x128.size, stride := ![4, 1], inb := inb_S1024x128_S128x128_1_0_s_4_1 } (harg.unread X))⟩,
    ⟨{ off := ![0, 0, 0], size := S1x128x128.size, stride := ![1, 4, 1], inb := inb_S2x512x128_S1x128x128_0_0_0_s_1_4_1, stride_pos := spos_1_4_1 },
      tw (View.readAt (Elt Ideal) arg.view { off := ![0, 0], size := S128x128.size, stride := ![4, 1], inb := inb_S1024x128_S128x128_0_0_s_4_1 } (harg.unread X))⟩]

/-- The layout. -/
def wl (X : Vec Ideal S1024x128 .f32) : S2x512x128.Idx → EReal := fun y =>
  X (ix2 ⟨(y 0).val * 512 + 4 * (y 2).val + (y 1).val % 4, by have := (y 0).isLt; change (y 0).val < 2 at this; have h2 := (y 2).isLt; change (y 2).val < 128 at h2; omega⟩
    ⟨(y 1).val / 4, by have := (y 1).isLt; change (y 1).val < 512 at this; omega⟩)

theorem wpiece_at (arg : Memref sig .tc .vmem S1024x128 .f32) (harg : arg.IsWhole) (X : Vec Ideal S1024x128 .f32) (a : Fin 2) (b : Fin 4)
    (inb) (sp) (inb')
    (x : S1x128x128.Idx) :
    tw (View.readAt (Elt Ideal) arg.view { off := ![512 * (a : ℕ) + b, 0], size := S128x128.size, stride := ![4, 1], inb := inb' } (harg.unread X)) x
      = wl X (Rect.emb (s := S2x512x128) { off := ![(a : ℕ), (b : ℕ), 0], size := S1x128x128.size, stride := ![1, 4, 1], inb := inb, stride_pos := sp } x) := by
  have hx : x = ix3 0 (x 1) (x 2) := by
    funext d; fin_cases d
    · exact Subsingleton.elim (α := Fin 1) _ _
    · rfl
    · rfl
  have h1 : (x 1).val < 128 := (x 1).isLt
  have h2 : (x 2).val < 128 := (x 2).isLt
  have h0 : (x 0).val < 1 := (x 0).isLt
  conv_lhs => rw [hx]
  refine (tw_at _ (x 1) (x 2)).trans ?_
  rw [View.readAt_apply, harg.read_unread]
  unfold wl
  refine congrArg X ?_
  funext d; apply Fin.ext; fin_cases d
  · show 512 * a.val + b.val + 4 * (x 2).val = (a.val + 1 * (x 0).val) * 512 + 4 * (0 + 1 * (x 2).val) + (b.val + 4 * (x 1).val) % 4
    omega
  · show 0 + 1 * (x 1).val = (b.val + 4 * (x 1).val) / 4
    omega

theorem wcanon_at (arg : Memref sig .tc .vmem S1024x128 .f32) (harg : arg.IsWhole) (X : Vec Ideal S1024x128 .f32) (f : Fin 2) (h : Fin 512) (l : Fin 128) :
    View.canon (wp arg harg X) (ix3 f h l) = X (ix2 ⟨f * 512 + 4 * l + h % 4, by omega⟩ ⟨h / 4, by omega⟩) := by
  refine View.canon_apply_of_pieces (Val := Elt Ideal) (e := .f32) (wl X) _ ?_ _ ?_
  · intro q hq x
    simp only [wp, List.mem_cons, List.not_mem_nil, or_false] at hq
    rcases hq with rfl | rfl | rfl | rfl | rfl | rfl | rfl | rfl
    · exact wpiece_at arg harg X 1 3 inb_S2x512x128_S1x128x128_1_3_0_s_1_4_1 spos_1_4_1 inb_S1024x128_S128x128_515_0_s_4_1 x
    · exact wpiece_at arg harg X 1 2 inb_S2x512x128_S1x128x128_1_2_0_s_1_4_1 spos_1_4_1 inb_S1024x128_S128x128_514_0_s_4_1 x
    · exact wpiece_at arg harg X 1 1 inb_S2x512x128_S1x128x128_1_1_0_s_1_4_1 spos_1_4_1 inb_S1024x128_S128x128_513_0_s_4_1 x
    · exact wpiece_at arg harg X 1 0 inb_S2x512x128_S1x128x128_1_0_0_s_1_4_1 spos_1_4_1 inb_S1024x128_S128x128_512_0_s_4_1 x
    · exact wpiece_at arg harg X 0 3 inb_S2x512x128_S1x128x128_0_3_0_s_1_4_1 spos_1_4_1 inb_S1024x128_S128x128_3_0_s_4_1 x
    · exact wpiece_at arg harg X 0 2 inb_S2x512x128_S1x128x128_0_2_0_s_1_4_1 spos_1_4_1 inb_S1024x128_S128x128_2_0_s_4_1 x
    · exact wpiece_at arg harg X 0 1 inb_S2x512x128_S1x128x128_0_1_0_s_1_4_1 spos_1_4_1 inb_S1024x128_S128x128_1_0_s_4_1 x
    · exact wpiece_at arg harg X 0 0 inb_S2x512x128_S1x128x128_0_0_0_s_1_4_1 spos_1_4_1 inb_S1024x128_S128x128_0_0_s_4_1 x
  · have mem : ∀ (a : Fin 2) (b : ℕ) (hb : h.val % 4 = b) (inb) (sp), (ix3 a h l : S2x512x128.Idx)
        ∈ ({ off := ![(a : ℕ), b, 0], size := S1x128x128.size, stride := ![1, 4, 1], inb := inb, stride_pos := sp } : Rect S2x512x128).set := by
      intro a b hb inb sp
      refine mem_rect _ _ (ix3 (0 : Fin 1) (⟨h / 4, by omega⟩ : Fin 128) l) fun d => ?_
      fin_cases d
      · show a.val = a.val + 1 * 0; omega
      · show h.val = b + 4 * (h.val / 4); omega
      · show l.val = 0 + 1 * l.val; omega
    have hb : h.val % 4 = 0 ∨ h.val % 4 = 1 ∨ h.val % 4 = 2 ∨ h.val % 4 = 3 := by omega
    unfold wp
    fin_cases f
    · rcases hb with hb | hb | hb | hb
      · exact ⟨_, .tail _ (.tail _ (.tail _ (.tail _ (.tail _ (.tail _ (.tail _ (.head _))))))), mem 0 0 hb inb_S2x512x128_S1x128x128_0_0_0_s_1_4_1 spos_1_4_1⟩
      · exact ⟨_, .tail _ (.tail _ (.tail _ (.tail _ (.tail _ (.tail _ (.head _)))))), mem 0 1 hb inb_S2x512x128_S1x128x128_0_1_0_s_1_4_1 spos_1_4_1⟩
      · exact ⟨_, .tail _ (.tail _ (.tail _ (.tail _ (.tail _ (.head _))))), mem 0 2 hb inb_S2x512x128_S1x128x128_0_2_0_s_1_4_1 spos_1_4_1⟩
      · exact ⟨_, .tail _ (.tail _ (.tail _ (.tail _ (.head _)))), mem 0 3 hb inb_S2x512x128_S1x128x128_0_3_0_s_1_4_1 spos_1_4_1⟩
    · rcases hb with hb | hb | hb | hb
      · exact ⟨_, .tail _ (.tail _ (.tail _ (.head _))), mem 1 0 hb inb_S2x512x128_S1x128x128_1_0_0_s_1_4_1 spos_1_4_1⟩
      · exact ⟨_, .tail _ (.tail _ (.head _)), mem 1 1 hb inb_S2x512x128_S1x128x128_1_1_0_s_1_4_1 spos_1_4_1⟩
      · exact ⟨_, .tail _ (.head _), mem 1 2 hb inb_S2x512x128_S1x128x128_1_2_0_s_1_4_1 spos_1_4_1⟩
      · exact ⟨_, .head _, mem 1 3 hb inb_S2x512x128_S1x128x128_1_3_0_s_1_4_1 spos_1_4_1⟩

end Cert.KernelIdeal.Val
-- ==== Proof.V.Runs.lean ====
module

public import proofs.«01_k».proof.Proof.V.Codes
public import proofs.«01_k».proof.Proof.V.Sums
public import proofs.«01_k».proof.Proof.V.Acc
public import proofs.«01_k».proof.Proof.V.Lay

/-! The accumulator, point by point. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

variable (m : (ℓ : Loc nD τ sig) → Buf (Elt Ideal) ℓ) (c : Dev nD)

/-- The accumulator's buffer after a point that finds it at `G`. -/
def accP (t : Fin cfg0.N) (G : BufTy.Contents (Elt Ideal) scM0_7.view.ty) : BufTy.Contents (Elt Ideal) scM0_7.view.ty :=
  acc2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (BitVec.ofNat 32 ((grid0.coords t) 1).val) ((hs0_5 t).unread (iblk m c 5 t)) ((hs0_10 t).unread (lut0 m c)) ((Memref.isWhole_whole _).unread (lhs0 m c)) ((Memref.isWhole_whole _).unread (zp0 m c)) ((Memref.isWhole_whole _).unread (View.canon (wp (ms0_6 t) (hs0_6 t) (iblk m c 6 t)))) ((Memref.isWhole_whole _).unread (View.canon (wp (ms0_7 t) (hs0_7 t) (iblk m c 7 t)))) G (Scf.trips k0_t2_loop.lb k0_t2_loop.ub k0_t2_loop.st)

theorem runB_acc (t : Fin cfg0.N) (h0 : ¬t.val % 27 = 0) (h1 : ¬t.val % 3 = 0) (h2 : ¬t.val % 3 = 2) (acc : Vec Ideal S3x8x256 .f32) :
    (runB m c t h0 h1 h2 acc).1 = scM0_7.view.read (Elt Ideal) (accP m c t ((Memref.isWhole_whole _).unread acc)) := by
  unfold runB kernelRun0_B
  dsimp only
  rfl

theorem runC_acc (t : Fin cfg0.N) (h0 : ¬t.val % 27 = 0) (h1 : ¬t.val % 3 = 0) (h2 : t.val % 3 = 2) (acc : Vec Ideal S3x8x256 .f32) :
    (runC m c t h0 h1 h2 acc).2.1 = scM0_7.view.read (Elt Ideal) (accP m c t ((Memref.isWhole_whole _).unread acc)) := by
  unfold runC kernelRun0_C
  dsimp only
  rfl

/-- The accumulator's buffer where a block starts. -/
def g0 : BufTy.Contents (Elt Ideal) scM0_7.view.ty :=
  scM0_7.view.writes (Elt Ideal) scM0_7.view.junk [⟨Rect.unit ![0, 0, 0] ![3, 8, 256] inb_S3x8x256_S3x8x256_0_0_0, k0_pay2 (F := Ideal)⟩]

theorem runD_acc (t : Fin cfg0.N) (h0 : ¬t.val % 27 = 0) (h1 : t.val % 3 = 0) (h2 : ¬t.val % 3 = 2) :
    (runD m c t h0 h1 h2).1 = scM0_7.view.read (Elt Ideal) (accP m c t g0) := by
  unfold runD kernelRun0_D
  dsimp only
  rfl

theorem g0_at (x : S3x8x256.Idx) : scM0_7.view.read (Elt Ideal) g0 x = 0 := by
  unfold g0
  rw [View.read_writes_full]
  show k0_pay2 x = 0
  pointwise [k0_pay2]

theorem runC_y (t : Fin cfg0.N) (h0 : ¬t.val % 27 = 0) (h1 : ¬t.val % 3 = 0) (h2 : t.val % 3 = 2) (acc : Vec Ideal S3x8x256 .f32) :
    (runC m c t h0 h1 h2 acc).1 = View.canon
      [⟨Rect.unit ![0, 2, 0, 0] ![1, 1, 4, 256] inb_S1x3x4x256_S1x1x4x256_0_2_0_0, k0_pay7 (View.readAt (Elt Ideal) scM0_7.view (Rect.unit ![2, 0, 0] ![1, 8, 256] inb_S3x8x256_S1x8x256_2_0_0).toLoadRect (accP m c t ((Memref.isWhole_whole _).unread acc)))⟩,
       ⟨Rect.unit ![0, 1, 0, 0] ![1, 1, 4, 256] inb_S1x3x4x256_S1x1x4x256_0_1_0_0, k0_pay6 (View.readAt (Elt Ideal) scM0_7.view (Rect.unit ![1, 0, 0] ![1, 8, 256] inb_S3x8x256_S1x8x256_1_0_0).toLoadRect (accP m c t ((Memref.isWhole_whole _).unread acc)))⟩,
       ⟨Rect.unit ![0, 0, 0, 0] ![1, 1, 4, 256] inb_S1x3x4x256_S1x1x4x256_0_0_0_0, k0_pay5 (View.readAt (Elt Ideal) scM0_7.view (Rect.unit ![0, 0, 0] ![1, 8, 256] inb_S3x8x256_S1x8x256_0_0_0).toLoadRect (accP m c t ((Memref.isWhole_whole _).unread acc)))⟩] := by
  unfold runC kernelRun0_C
  dsimp only
  rfl

end Cert.KernelIdeal.Val
-- ==== Proof.V.Pieces.lean ====
module

public import proofs.«01_k».proof.Proof.V.Codes
public import proofs.«01_k».proof.Proof.V.Sums
public import proofs.«01_k».proof.Proof.V.Reads

/-! The two tables the first point makes of the codes. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

/-- The table of left operands, of the signed sums `E` and the mask `v`. -/
def lg (E : Vec Ideal S2x288x1024 .f32) (v : Vec Ideal S8x1024 .f32) (O : Fin 192) (a : Fin 32) (b : Fin 1024) : EReal :=
  if h : (a : ℕ) < 24 then E (ix3 ⟨(O : ℕ) % 2, Nat.mod_lt _ (by decide)⟩ ⟨96 * ((a : ℕ) / 8) + O / 2, by omega⟩ b) * v (ix2 ⟨(a : ℕ) % 8, Nat.mod_lt _ (by decide)⟩ b) else 0

/-- The table of zero point sums, of the sums `Z`. -/
def zg (Z : Vec Ideal S2x2x288x128 .f32) (O : Fin 192) (t : Fin 3) (a : Fin 8) (b : Fin 128) : EReal :=
  Z (ix4 ⟨(O : ℕ) % 2, Nat.mod_lt _ (by decide)⟩ ⟨(a : ℕ) / 4, by omega⟩ ⟨96 * t + O / 2, by omega⟩ b)

theorem lg_rows (E : Vec Ideal S2x288x1024 .f32) (v : Vec Ideal S8x1024 .f32) (O : Fin 192) (R0 R1 R2 : Vec Ideal S1x1x1024 .f32)
    (hR0 : ∀ l, R0 (ix3 0 0 l) = E (ix3 ⟨(O : ℕ) % 2, Nat.mod_lt _ (by decide)⟩ ⟨96 * (0 : Fin 3) + O / 2, by show 96 * 0 + _ < _; omega⟩ l))
    (hR1 : ∀ l, R1 (ix3 0 0 l) = E (ix3 ⟨(O : ℕ) % 2, Nat.mod_lt _ (by decide)⟩ ⟨96 * (1 : Fin 3) + O / 2, by show 96 * 1 + _ < _; omega⟩ l))
    (hR2 : ∀ l, R2 (ix3 0 0 l) = E (ix3 ⟨(O : ℕ) % 2, Nat.mod_lt _ (by decide)⟩ ⟨96 * (2 : Fin 3) + O / 2, by show 96 * 2 + _ < _; omega⟩ l)) (a : Fin 32) (b : Fin 1024) :
    (if h : (a : ℕ) < 8 then R0 (ix3 0 0 b) * v (ix2 ⟨(a : ℕ), h⟩ b) else if h : (a : ℕ) - 8 < 8 then R1 (ix3 0 0 b) * v (ix2 ⟨(a : ℕ) - 8, h⟩ b)
      else if h : (a : ℕ) - 8 - 8 < 8 then R2 (ix3 0 0 b) * v (ix2 ⟨(a : ℕ) - 8 - 8, h⟩ b) else 0) = lg E v O a b := by
  rw [hR0, hR1, hR2]
  unfold lg
  split
  · rename_i h
    rw [dif_pos (by omega)]
    refine congrArg₂ (· * ·) (congrArg E ?_) (congrArg v ?_)
    · exact congrArg (fun i => ix3 _ i b) (Fin.ext (by show 96 * 0 + (O : ℕ) / 2 = 96 * ((a : ℕ) / 8) + O / 2; omega))
    · exact congrArg (fun i => ix2 i b) (Fin.ext (by show (a : ℕ) = a % 8; omega))
  · split
    · rename_i h1 h
      rw [dif_pos (by omega)]
      refine congrArg₂ (· * ·) (congrArg E ?_) (congrArg v ?_)
      · exact congrArg (fun i => ix3 _ i b) (Fin.ext (by show 96 * 1 + (O : ℕ) / 2 = 96 * ((a : ℕ) / 8) + O / 2; omega))
      · exact congrArg (fun i => ix2 i b) (Fin.ext (by show (a : ℕ) - 8 = a % 8; omega))
    · split
      · rename_i h2 h1 h
        rw [dif_pos (by omega)]
        refine congrArg₂ (· * ·) (congrArg E ?_) (congrArg v ?_)
        · exact congrArg (fun i => ix3 _ i b) (Fin.ext (by show 96 * 2 + (O : ℕ) / 2 = 96 * ((a : ℕ) / 8) + O / 2; omega))
        · exact congrArg (fun i => ix2 i b) (Fin.ext (by show (a : ℕ) - 8 - 8 = a % 8; omega))
      · rw [dif_neg (by omega)]

theorem pay16_at (v : Vec Ideal S8x1024 .f32) (R0 R1 R2 : Vec Ideal S1x1x1024 .f32) (a : Fin 32) (b : Fin 1024) :
    k0_pay16 (F := Ideal) (k0_pay8 (k0_pay697 v) R0) (k0_pay10 (k0_pay697 v) R1) (k0_pay13 (k0_pay697 v) R2) (ix3 0 a b)
      = if h : (a : ℕ) < 8 then R0 (ix3 0 0 b) * v (ix2 ⟨(a : ℕ), h⟩ b) else if h : (a : ℕ) - 8 < 8 then R1 (ix3 0 0 b) * v (ix2 ⟨(a : ℕ) - 8, h⟩ b)
      else if h : (a : ℕ) - 8 - 8 < 8 then R2 (ix3 0 0 b) * v (ix2 ⟨(a : ℕ) - 8 - 8, h⟩ b) else 0 := by
  pointwise [k0_pay16, k0_pay8, k0_pay10, k0_pay13, k0_pay697]

theorem pay699_at (v : Vec Ideal S8x1024 .f32) (R0 R1 R2 : Vec Ideal S1x1x1024 .f32) (a : Fin 32) (b : Fin 1024) :
    k0_pay699 (F := Ideal) (k0_pay17 (k0_pay697 v) R0) (k0_pay19 (k0_pay697 v) R1) (k0_pay21 (k0_pay697 v) R2) (ix3 0 a b)
      = if h : (a : ℕ) < 8 then R0 (ix3 0 0 b) * v (ix2 ⟨(a : ℕ), h⟩ b) else if h : (a : ℕ) - 8 < 8 then R1 (ix3 0 0 b) * v (ix2 ⟨(a : ℕ) - 8, h⟩ b)
      else if h : (a : ℕ) - 8 - 8 < 8 then R2 (ix3 0 0 b) * v (ix2 ⟨(a : ℕ) - 8 - 8, h⟩ b) else 0 := by
  pointwise [k0_pay699, k0_pay17, k0_pay19, k0_pay21, k0_pay697]

theorem slt4 {α : Type} (x y : α) : ∀ r : Fin 8, Scalar.select (IntOp.cmpi .slt (BitVec.ofNat 32 r) 4#32) x y = if (r : ℕ) < 4 then x else y := by
  intro r; fin_cases r <;> rfl

theorem sel_at (R0 R1 : Vec Ideal S1x1x1x128 .f32) (Z : Vec Ideal S2x2x288x128 .f32) (O : Fin 192) (t : Fin 3)
    (h0 : ∀ l, R0 (ix4 0 0 0 l) = Z (ix4 ⟨(O : ℕ) % 2, Nat.mod_lt _ (by decide)⟩ 0 ⟨96 * t + O / 2, by omega⟩ l))
    (h1 : ∀ l, R1 (ix4 0 0 0 l) = Z (ix4 ⟨(O : ℕ) % 2, Nat.mod_lt _ (by decide)⟩ 1 ⟨96 * t + O / 2, by omega⟩ l))
    (a : Fin 8) (b : Fin 128) : Scalar.select (IntOp.cmpi .slt (BitVec.ofNat 32 a) 4#32) (R0 (ix4 0 0 0 b)) (R1 (ix4 0 0 0 b)) = zg Z O t a b := by
  rw [slt4, h0, h1]
  unfold zg
  split
  · exact congrArg Z (congrArg (fun i => ix4 _ i _ b) (Fin.ext (by show 0 = (a : ℕ) / 4; omega)))
  · exact congrArg Z (congrArg (fun i => ix4 _ i _ b) (Fin.ext (by show 1 = (a : ℕ) / 4; omega)))

section
variable (v : IVec S8x128 32) (hv : ∀ r l, v (ix2 r l) = BitVec.ofNat 32 r) (R0 R1 : Vec Ideal S1x1x1x128 .f32) (a : Fin 8) (b : Fin 128)
include hv
theorem pay9_at : k0_pay9 (F := Ideal) v R0 R1 (ix4 0 0 a b) = Scalar.select (IntOp.cmpi .slt (BitVec.ofNat 32 a) 4#32) (R0 (ix4 0 0 0 b)) (R1 (ix4 0 0 0 b)) := by
  pointwise [k0_pay9]; rw [hv]
theorem pay12_at : k0_pay12 (F := Ideal) v (k0_pay11 R0) R1 (ix4 0 0 a b) = Scalar.select (IntOp.cmpi .slt (BitVec.ofNat 32 a) 4#32) (R0 (ix4 0 0 0 b)) (R1 (ix4 0 0 0 b)) := by
  pointwise [k0_pay12, k0_pay11]; rw [hv]
theorem pay15_at : k0_pay15 (F := Ideal) (k0_pay14 v R0 R1) (ix4 0 0 a b) = Scalar.select (IntOp.cmpi .slt (BitVec.ofNat 32 a) 4#32) (R0 (ix4 0 0 0 b)) (R1 (ix4 0 0 0 b)) := by
  pointwise [k0_pay15, k0_pay14]; rw [hv]
theorem pay18_at : k0_pay18 (F := Ideal) v R0 R1 (ix4 0 0 a b) = Scalar.select (IntOp.cmpi .slt (BitVec.ofNat 32 a) 4#32) (R0 (ix4 0 0 0 b)) (R1 (ix4 0 0 0 b)) := by
  pointwise [k0_pay18]; rw [hv]
theorem pay20_at : k0_pay20 (F := Ideal) v R0 R1 (ix4 0 0 a b) = Scalar.select (IntOp.cmpi .slt (BitVec.ofNat 32 a) 4#32) (R0 (ix4 0 0 0 b)) (R1 (ix4 0 0 0 b)) := by
  pointwise [k0_pay20]; rw [hv]
end

theorem pay698_at (R0 R1 : Vec Ideal S1x1x1x128 .f32) (a : Fin 8) (b : Fin 128) : k0_pay698 (F := Ideal) (k0_pay22 R0) R1 (ix4 0 0 a b) = Scalar.select (IntOp.cmpi .slt (BitVec.ofNat 32 a) 4#32) (R0 (ix4 0 0 0 b)) (R1 (ix4 0 0 0 b)) := by
  pointwise [k0_pay698, k0_pay22]

theorem o1 : ∀ k : Fin k0_t1_loop.trips, (k0_off1 k 0#32 = ![0, 96 * 0 + k.val, 0] ∧ k0_off1 k 96#32 = ![0, 96 * 1 + k.val, 0] ∧ k0_off1 k 192#32 = ![0, 96 * 2 + k.val, 0])
    ∧ (k0_off8 k 0#32 = ![1, 96 * 0 + k.val, 0] ∧ k0_off8 k 96#32 = ![1, 96 * 1 + k.val, 0] ∧ k0_off8 k 192#32 = ![1, 96 * 2 + k.val, 0]) := by decide +kernel
theorem o2 : ∀ k : Fin k0_t1_loop.trips, (k0_off2 k 0#32 = ![0, 0, 96 * 0 + k.val, 0] ∧ k0_off2 k 96#32 = ![0, 0, 96 * 1 + k.val, 0] ∧ k0_off2 k 192#32 = ![0, 0, 96 * 2 + k.val, 0])
    ∧ (k0_off3 k 0#32 = ![0, 1, 96 * 0 + k.val, 0] ∧ k0_off3 k 96#32 = ![0, 1, 96 * 1 + k.val, 0] ∧ k0_off3 k 192#32 = ![0, 1, 96 * 2 + k.val, 0])
    ∧ (k0_off9 k 0#32 = ![1, 0, 96 * 0 + k.val, 0] ∧ k0_off9 k 96#32 = ![1, 0, 96 * 1 + k.val, 0] ∧ k0_off9 k 192#32 = ![1, 0, 96 * 2 + k.val, 0])
    ∧ (k0_off10 k 0#32 = ![1, 1, 96 * 0 + k.val, 0] ∧ k0_off10 k 96#32 = ![1, 1, 96 * 1 + k.val, 0] ∧ k0_off10 k 192#32 = ![1, 1, 96 * 2 + k.val, 0]) := by decide +kernel

theorem kl (k : Fin k0_t1_loop.trips) : k.val < 96 := lt_of_lt_of_eq k.isLt trips1'

theorem ru14 (arg14 : Memref sig .tc .vmem S2x288x1024 .f32) (harg14 : arg14.IsWhole) (E : Vec Ideal S2x288x1024 .f32) (k : Fin k0_t1_loop.trips) (oh : Fin 2) (t : Fin 3)
    (off : Fin 3 → ℕ) (inb) (ho : off = ![(oh : ℕ), 96 * t + k.val, 0]) (O : Fin 192) (hO : (O : ℕ) = 2 * k.val + oh) (l : Fin 1024) :
    arg14.view.readAt (Elt Ideal) (Rect.unit (s := S2x288x1024) off S1x1x1024.size inb).toLoadRect (harg14.unread E) (ix3 0 0 l)
      = E (ix3 ⟨(O : ℕ) % 2, Nat.mod_lt _ (by decide)⟩ ⟨96 * t + O / 2, by omega⟩ l) := by
  have hk := kl k
  refine rd arg14 harg14 E off _ inb (ix3 0 0 l) _ ho _ fun d => ?_
  fin_cases d
  · show (O : ℕ) % 2 = oh + 0; omega
  · show 96 * (t : ℕ) + (O : ℕ) / 2 = 96 * t + k.val + 0; omega
  · show (l : ℕ) = 0 + l; omega

theorem ru16 (arg16 : Memref sig .tc .vmem S2x2x288x128 .f32) (harg16 : arg16.IsWhole) (Z : Vec Ideal S2x2x288x128 .f32) (k : Fin k0_t1_loop.trips) (oh hh : Fin 2) (t : Fin 3)
    (off : Fin 4 → ℕ) (inb) (ho : off = ![(oh : ℕ), (hh : ℕ), 96 * t + k.val, 0]) (O : Fin 192) (hO : (O : ℕ) = 2 * k.val + oh) (l : Fin 128) :
    arg16.view.readAt (Elt Ideal) (Rect.unit (s := S2x2x288x128) off S1x1x1x128.size inb).toLoadRect (harg16.unread Z) (ix4 0 0 0 l)
      = Z (ix4 ⟨(O : ℕ) % 2, Nat.mod_lt _ (by decide)⟩ hh ⟨96 * t + O / 2, by omega⟩ l) := by
  have hk := kl k
  refine rd arg16 harg16 Z off _ inb (ix4 0 0 0 l) _ ho _ fun d => ?_
  fin_cases d
  · show (O : ℕ) % 2 = oh + 0; omega
  · show (hh : ℕ) = hh + 0; omega
  · show 96 * (t : ℕ) + (O : ℕ) / 2 = 96 * t + k.val + 0; omega
  · show (l : ℕ) = 0 + l; omega

theorem inb13 (k : Fin k0_t1_loop.trips) (oh : Fin 2) (off : Fin 3 → ℕ) (e : off = ![2 * k.val + oh, 0, 0]) : ∀ a, off a + S1x32x1024.size a ≤ S192x32x1024.size a := by
  subst e
  have hk := kl k
  intro a
  fin_cases a
  · show 2 * k.val + (oh : ℕ) + 1 ≤ 192; omega
  · exact le_refl 32
  · exact le_refl 1024

theorem inb15 (k : Fin k0_t1_loop.trips) (oh : Fin 2) (t : Fin 3) (off : Fin 4 → ℕ) (e : off = ![2 * k.val + oh, t, 0, 0]) : ∀ a, off a + S1x1x8x128.size a ≤ S192x3x8x128.size a := by
  subst e
  have hk := kl k
  intro a
  fin_cases a
  · show 2 * k.val + (oh : ℕ) + 1 ≤ 192; omega
  · show (t : ℕ) + 1 ≤ 3; omega
  · exact le_refl 8
  · exact le_refl 128

/-- Each piece of a trip holds its part of the first table. -/
theorem trip_lhs (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole)  (k0_h1 : k0_cond1 i = 1#1) (v197 : IVec S8x128 32) (v198 : Vec Ideal S8x1024 .f32) (E : Vec Ideal S2x288x1024 .f32) (X16 : BufTy.Contents (Elt Ideal) arg16.view.ty) (k : Fin k0_t1_loop.trips)
    (p) (hp : p ∈ (trip1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 (harg14.unread E) X16 k).1) (x) :
    p.2 x = (fun y : S192x32x1024.Idx => lg E v198 (y 0) (y 1) (y 2)) (p.1.emb x) := by
  have hk := kl k
  unfold trip1 at hp
  dsimp only at hp
  simp only [List.mem_cons, List.not_mem_nil, or_false] at hp
  have fin : ∀ (oh : Fin 2) (off : Fin 3 → ℕ) (x : S1x32x1024.Idx) (e : off = ![2 * k.val + oh, 0, 0]),
      lg E v198 ⟨2 * k.val + oh, by omega⟩ (x 1) (x 2) = (fun y : S192x32x1024.Idx => lg E v198 (y 0) (y 1) (y 2)) ((Rect.unit (s := S192x32x1024) off S1x32x1024.size (inb13 k oh off e)).emb x) := by
    intro oh off x e
    subst e
    have h0 : (x 0).val < 1 := (x 0).isLt
    show lg E v198 _ _ _ = lg E v198 _ _ _
    congr 1 <;> apply Fin.ext
    · show _ = 2 * k.val + (oh : ℕ) + 1 * (x 0).val; dsimp only; omega
    · show _ = 0 + 1 * (x 1).val; omega
    · show _ = 0 + 1 * (x 2).val; omega
  rcases hp with rfl | rfl
  · have hx : x = ix3 0 (x 1) (x 2) := by
      funext d; fin_cases d
      · exact Subsingleton.elim (α := Fin 1) _ _
      · rfl
      · rfl
    conv_lhs => rw [hx]
    refine (pay699_at v198 _ _ _ (x 1) (x 2)).trans ((lg_rows E v198 ⟨2 * k.val + 1, by omega⟩ _ _ _ ?_ ?_ ?_ (x 1) (x 2)).trans ?_)
    · exact fun l => ru14 arg14 harg14 E k 1 0 _ _ (o1 k).2.1 _ rfl l
    · exact fun l => ru14 arg14 harg14 E k 1 1 _ _ (o1 k).2.2.1 _ rfl l
    · exact fun l => ru14 arg14 harg14 E k 1 2 _ _ (o1 k).2.2.2 _ rfl l
    · exact fin 1 _ x (off7 k).2
  · have hx : x = ix3 0 (x 1) (x 2) := by
      funext d; fin_cases d
      · exact Subsingleton.elim (α := Fin 1) _ _
      · rfl
      · rfl
    conv_lhs => rw [hx]
    refine (pay16_at v198 _ _ _ (x 1) (x 2)).trans ((lg_rows E v198 ⟨2 * k.val + 0, by omega⟩ _ _ _ ?_ ?_ ?_ (x 1) (x 2)).trans ?_)
    · exact fun l => ru14 arg14 harg14 E k 0 0 _ _ (o1 k).1.1 _ rfl l
    · exact fun l => ru14 arg14 harg14 E k 0 1 _ _ (o1 k).1.2.1 _ rfl l
    · exact fun l => ru14 arg14 harg14 E k 0 2 _ _ (o1 k).1.2.2 _ rfl l
    · exact fin 0 _ x (off7 k).1

/-- Each piece of a trip holds its part of the second table. -/
theorem trip_zp (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole)  (k0_h1 : k0_cond1 i = 1#1) (v197 : IVec S8x128 32) (hv : ∀ r l, v197 (ix2 r l) = BitVec.ofNat 32 r) (v198 : Vec Ideal S8x1024 .f32) (X14 : BufTy.Contents (Elt Ideal) arg14.view.ty) (Z : Vec Ideal S2x2x288x128 .f32) (k : Fin k0_t1_loop.trips)
    (p) (hp : p ∈ (trip1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X14 (harg16.unread Z) k).2.1) (x) :
    p.2 x = (fun y : S192x3x8x128.Idx => zg Z (y 0) (y 1) (y 2) (y 3)) (p.1.emb x) := by
  have hk := kl k
  unfold trip1 at hp
  dsimp only at hp
  simp only [List.mem_cons, List.not_mem_nil, or_false] at hp
  have fin : ∀ (oh : Fin 2) (t : Fin 3) (off : Fin 4 → ℕ) (x : S1x1x8x128.Idx) (e : off = ![2 * k.val + oh, t, 0, 0]),
      zg Z ⟨2 * k.val + oh, by omega⟩ t (x 2) (x 3) = (fun y : S192x3x8x128.Idx => zg Z (y 0) (y 1) (y 2) (y 3)) ((Rect.unit (s := S192x3x8x128) off S1x1x8x128.size (inb15 k oh t off e)).emb x) := by
    intro oh t off x e
    subst e
    have h0 : (x 0).val < 1 := (x 0).isLt
    have h1 : (x 1).val < 1 := (x 1).isLt
    show zg Z _ _ _ _ = zg Z _ _ _ _
    congr 1 <;> apply Fin.ext
    · show _ = 2 * k.val + (oh : ℕ) + 1 * (x 0).val; dsimp only; omega
    · show _ = (t : ℕ) + 1 * (x 1).val; omega
    · show _ = 0 + 1 * (x 2).val; omega
    · show _ = 0 + 1 * (x 3).val; omega
  have hx : ∀ x : S1x1x8x128.Idx, x = ix4 0 0 (x 2) (x 3) := by
    intro x
    funext d; fin_cases d
    · exact Subsingleton.elim (α := Fin 1) _ _
    · exact Subsingleton.elim (α := Fin 1) _ _
    · rfl
    · rfl
  rcases hp with rfl | rfl | rfl | rfl | rfl | rfl
  · conv_lhs => rw [hx x]
    refine (pay698_at _ _ (x 2) (x 3)).trans ((sel_at _ _ Z ⟨2 * k.val + 1, by omega⟩ 2 ?_ ?_ (x 2) (x 3)).trans ?_)
    rotate_left 2
    · exact fin 1 2 _ x (off456 k).2.2.2
    · exact fun l => ru16 arg16 harg16 Z k 1 0 2 _ _ (o2 k).2.2.1.2.2 _ rfl l
    · exact fun l => ru16 arg16 harg16 Z k 1 1 2 _ _ (o2 k).2.2.2.2.2 _ rfl l
  · conv_lhs => rw [hx x]
    refine (pay20_at v197 hv _ _ (x 2) (x 3)).trans ((sel_at _ _ Z ⟨2 * k.val + 1, by omega⟩ 1 ?_ ?_ (x 2) (x 3)).trans ?_)
    rotate_left 2
    · exact fin 1 1 _ x (off456 k).2.1.2
    · exact fun l => ru16 arg16 harg16 Z k 1 0 1 _ _ (o2 k).2.2.1.2.1 _ rfl l
    · exact fun l => ru16 arg16 harg16 Z k 1 1 1 _ _ (o2 k).2.2.2.2.1 _ rfl l
  · conv_lhs => rw [hx x]
    refine (pay18_at v197 hv _ _ (x 2) (x 3)).trans ((sel_at _ _ Z ⟨2 * k.val + 1, by omega⟩ 0 ?_ ?_ (x 2) (x 3)).trans ?_)
    rotate_left 2
    · exact fin 1 0 _ x (off456 k).1.2
    · exact fun l => ru16 arg16 harg16 Z k 1 0 0 _ _ (o2 k).2.2.1.1 _ rfl l
    · exact fun l => ru16 arg16 harg16 Z k 1 1 0 _ _ (o2 k).2.2.2.1 _ rfl l
  · conv_lhs => rw [hx x]
    refine (pay15_at v197 hv _ _ (x 2) (x 3)).trans ((sel_at _ _ Z ⟨2 * k.val + 0, by omega⟩ 2 ?_ ?_ (x 2) (x 3)).trans ?_)
    rotate_left 2
    · exact fin 0 2 _ x (off456 k).2.2.1
    · exact fun l => ru16 arg16 harg16 Z k 0 0 2 _ _ (o2 k).1.2.2 _ rfl l
    · exact fun l => ru16 arg16 harg16 Z k 0 1 2 _ _ (o2 k).2.1.2.2 _ rfl l
  · conv_lhs => rw [hx x]
    refine (pay12_at v197 hv _ _ (x 2) (x 3)).trans ((sel_at _ _ Z ⟨2 * k.val + 0, by omega⟩ 1 ?_ ?_ (x 2) (x 3)).trans ?_)
    rotate_left 2
    · exact fin 0 1 _ x (off456 k).2.1.1
    · exact fun l => ru16 arg16 harg16 Z k 0 0 1 _ _ (o2 k).1.2.1 _ rfl l
    · exact fun l => ru16 arg16 harg16 Z k 0 1 1 _ _ (o2 k).2.1.2.1 _ rfl l
  · conv_lhs => rw [hx x]
    refine (pay9_at v197 hv _ _ (x 2) (x 3)).trans ((sel_at _ _ Z ⟨2 * k.val + 0, by omega⟩ 0 ?_ ?_ (x 2) (x 3)).trans ?_)
    rotate_left 2
    · exact fin 0 0 _ x (off456 k).1.1
    · exact fun l => ru16 arg16 harg16 Z k 0 0 0 _ _ (o2 k).1.1 _ rfl l
    · exact fun l => ru16 arg16 harg16 Z k 0 1 0 _ _ (o2 k).2.1.1 _ rfl l

end Cert.KernelIdeal.Val
-- ==== Proof.V.Mats.lean ====
module

public import proofs.«01_k».proof.Proof.V.Codes
public import proofs.«01_k».proof.Proof.V.Sums
public import proofs.«01_k».proof.Proof.V.Pieces

/-! The two tables the first point makes, entry by entry. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

theorem of_mem_pile {α : Type} {n : ℕ} (L : Fin n → List α) {p : α} : ∀ m, p ∈ pile L m → ∃ k, p ∈ L k
  | 0, h => absurd h List.not_mem_nil
  | m + 1, h => by
    rw [pile] at h
    split at h
    · rcases List.mem_append.1 h with h | h
      · exact ⟨_, h⟩
      · exact of_mem_pile L m h
    · exact of_mem_pile L m h

theorem pile13 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole)  (k0_h1 : k0_cond1 i = 1#1) (v197 : IVec S8x128 32) (v198 : Vec Ideal S8x1024 .f32) (E : Vec Ideal S2x288x1024 .f32) (X16 : BufTy.Contents (Elt Ideal) arg16.view.ty) (O : Fin 192) (a : Fin 32) (b : Fin 1024) :
    View.canon (pile (fun k : Fin k0_t1_loop.trips => (trip1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 (harg14.unread E) X16 k).1) 96) (ix3 O a b) = lg E v198 O a b := by
  refine View.canon_apply_of_pieces (Val := Elt Ideal) (e := .bf16) (fun y : S192x32x1024.Idx => lg E v198 (y 0) (y 1) (y 2)) _ ?_ _ ?_
  · intro p hp x
    obtain ⟨k, hk⟩ := of_mem_pile _ _ hp
    exact trip_lhs 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 E X16 k p hk x
  · refine slabs13 _ (fun k o ho => ?_) _
    match o, ho with
    | 0, _ => exact ⟨_, .tail _ (.head _), (off7 k).1, rfl, rfl⟩
    | 1, _ => exact ⟨_, .head _, (off7 k).2, rfl, rfl⟩
    | o + 2, h => exact absurd h (by omega)

theorem pile15 (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole)  (k0_h1 : k0_cond1 i = 1#1) (v197 : IVec S8x128 32) (hv : ∀ r l, v197 (ix2 r l) = BitVec.ofNat 32 r) (v198 : Vec Ideal S8x1024 .f32) (X14 : BufTy.Contents (Elt Ideal) arg14.view.ty) (Z : Vec Ideal S2x2x288x128 .f32) (O : Fin 192) (t : Fin 3) (a : Fin 8) (b : Fin 128) :
    View.canon (pile (fun k : Fin k0_t1_loop.trips => (trip1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X14 (harg16.unread Z) k).2.1) 96) (ix4 O t a b) = zg Z O t a b := by
  refine View.canon_apply_of_pieces (Val := Elt Ideal) (e := .f32) (fun y : S192x3x8x128.Idx => zg Z (y 0) (y 1) (y 2) (y 3)) _ ?_ _ ?_
  · intro p hp x
    obtain ⟨k, hk⟩ := of_mem_pile _ _ hp
    exact trip_zp 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 hv v198 X14 Z k p hk x
  · refine slabs15 _ (fun k o ho t ht => ?_) _
    match o, ho, t, ht with
    | 0, _, 0, _ => exact ⟨_, .tail _ (.tail _ (.tail _ (.tail _ (.tail _ (.head _))))), (off456 k).1.1, rfl, rfl⟩
    | 0, _, 1, _ => exact ⟨_, .tail _ (.tail _ (.tail _ (.tail _ (.head _)))), (off456 k).2.1.1, rfl, rfl⟩
    | 0, _, 2, _ => exact ⟨_, .tail _ (.tail _ (.tail _ (.head _))), (off456 k).2.2.1, rfl, rfl⟩
    | 1, _, 0, _ => exact ⟨_, .tail _ (.tail _ (.head _)), (off456 k).1.2, rfl, rfl⟩
    | 1, _, 1, _ => exact ⟨_, .tail _ (.head _), (off456 k).2.1.2, rfl, rfl⟩
    | 1, _, 2, _ => exact ⟨_, .head _, (off456 k).2.2.2, rfl, rfl⟩
    | o + 2, h, _, _ => exact absurd h (by omega)
    | 0, _, t + 3, h => exact absurd h (by omega)
    | 1, _, t + 3, h => exact absurd h (by omega)

/-- The codes of an octet of tables. -/
def CC (X : Fin 3 → Fin 12288 → EReal) (t : Fin 3) (O : Fin 192) (par : Fin 2) (s : Fin 8) (e : Fin 16) : ℤ := ci X t ⟨O * 16 + s * 2 + par, by omega⟩ e

/-- The sum of the last codes of a half of an octet. -/
def zz (X : Fin 3 → Fin 12288 → EReal) (t : Fin 3) (O : Fin 192) (h : ℕ) : ℤ := ∑ par : Fin 2, ∑ s : Fin 8, if (s : ℕ) / 4 = h then CC X t O par s 15 else 0

theorem sum128 (F : ℕ → ℕ → ℝ) : ∑ x : Fin 128, F ((x : ℕ) / 8) (x % 8) = ∑ e : Fin 16, ∑ s : Fin 8, F e s := by
  rw [← Fintype.sum_prod_type' (f := fun (e : Fin 16) (s : Fin 8) => F e s)]
  refine (Fintype.sum_equiv (finProdFinEquiv (m := 16) (n := 8)) _ _ fun p => ?_).symm
  obtain ⟨e, s⟩ := p
  show F e s = F (((s : ℕ) + 8 * e) / 8) ((s + 8 * e) % 8)
  congr 1 <;> omega

/-- A part of a row of codes times a matrix. -/
theorem part_sum (X : Fin 3 → Fin 12288 → EReal) (cb : Vec Ideal S288x512 .f32) (hcb : ∀ r l, cb (ix2 r l) = cv X (tk r) (qd (gr r) l) (en l)) (u : Fin 4) (r : Fin 288) (g : Fin 128 → Fin 512)
    (hg : ∀ x, (g x : ℕ) = 128 * u + x) (y : Fin 128 → EReal) (w : ℕ → ℕ → ℝ) (hy : ∀ x : Fin 128, y x = ((w ((x : ℕ) / 8) (x % 8) : ℝ) : EReal)) :
    ∑ x : Fin 128, cb (ix2 r (g x)) * y x
      = ((∑ e : Fin 16, ∑ s : Fin 8, (CC X (tk r) ⟨(gr r : ℕ) * 2 + u / 2, by omega⟩ ⟨(u : ℕ) % 2, Nat.mod_lt _ (by decide)⟩ s e : ℝ) * w e s : ℝ) : EReal) := by
  have h : ∀ x : Fin 128, cb (ix2 r (g x)) * y x = (((fun e s : ℕ => (CC X (tk r) ⟨(gr r : ℕ) * 2 + u / 2, by omega⟩ ⟨(u : ℕ) % 2, Nat.mod_lt _ (by decide)⟩ ⟨s % 8, Nat.mod_lt _ (by decide)⟩ ⟨e % 16, Nat.mod_lt _ (by decide)⟩ : ℝ) * w e s) ((x : ℕ) / 8) (x % 8) : ℝ) : EReal) := by
    intro x
    rw [hcb, hy, cv_eq, ← EReal.coe_mul]
    have hq : qd (gr r) (g x) = ⟨((gr r : ℕ) * 2 + u / 2) * 16 + (x : ℕ) % 8 % 8 * 2 + u % 2, by omega⟩ := by
      apply Fin.ext
      show (gr r : ℕ) * 32 + ((g x : ℕ) / 256 * 16 + (g x : ℕ) % 8 * 2 + (g x : ℕ) / 128 % 2) = _
      rw [hg]
      have hx := x.isLt
      have hu := u.isLt
      show _ = ((gr r : ℕ) * 2 + u / 2) * 16 + (x : ℕ) % 8 % 8 * 2 + u % 2
      omega
    have he : en (g x) = ⟨(x : ℕ) / 8 % 16, Nat.mod_lt _ (by decide)⟩ := by
      apply Fin.ext
      show (g x : ℕ) / 8 % 16 = (x : ℕ) / 8 % 16
      rw [hg]
      omega
    rw [hq, he]
    rfl
  rw [Finset.sum_congr rfl fun x _ => h x, coe_sum, sum128 (fun e s : ℕ => (CC X (tk r) ⟨(gr r : ℕ) * 2 + u / 2, by omega⟩ ⟨(u : ℕ) % 2, Nat.mod_lt _ (by decide)⟩ ⟨s % 8, Nat.mod_lt _ (by decide)⟩ ⟨e % 16, Nat.mod_lt _ (by decide)⟩ : ℝ) * w e s)]
  refine congrArg _ (Finset.sum_congr rfl fun e _ => Finset.sum_congr rfl fun s _ => ?_)
  have e1 : (⟨(s : ℕ) % 8, Nat.mod_lt _ (by decide)⟩ : Fin 8) = s := Fin.ext (Nat.mod_eq_of_lt s.isLt)
  have e2 : (⟨(e : ℕ) % 16, Nat.mod_lt _ (by decide)⟩ : Fin 16) = e := Fin.ext (Nat.mod_eq_of_lt e.isLt)
  rw [e1, e2]

section
variable (X : Fin 3 → Fin 12288 → EReal) (cb : Vec Ideal S288x512 .f32) (hcb : ∀ r l, cb (ix2 r l) = cv X (tk r) (qd (gr r) l) (en l)) (r : Fin 288) (oh : Fin 2) (g0 g1 : Fin 128 → Fin 512)
  (h0 : ∀ x, (g0 x : ℕ) = 256 * oh + x) (h1 : ∀ x, (g1 x : ℕ) = 256 * oh + 128 + x)
include hcb h0 h1

theorem mob_sum (κ : Fin 1024) (y0 y1 : Fin 128 → EReal)
    (hy0 : ∀ x : Fin 128, y0 x = if (x : ℕ) % 8 = κ / 4 % 8 then (((mo 0 (κ / 32) (x / 8) : ℝ) * 512 : ℝ) : EReal) else 0)
    (hy1 : ∀ x : Fin 128, y1 x = if (x : ℕ) % 8 = κ / 4 % 8 then (((mo 1 (κ / 32) (x / 8) : ℝ) * 512 : ℝ) : EReal) else 0) :
    ∑ x : Fin 128, cb (ix2 r (g0 x)) * y0 x + ∑ x : Fin 128, cb (ix2 r (g1 x)) * y1 x
      = ((eo (CC X (tk r) ⟨(gr r : ℕ) * 2 + oh, by omega⟩) ⟨(κ : ℕ) / 4 % 8, Nat.mod_lt _ (by decide)⟩ (κ / 32) * 512 : ℝ) : EReal) := by
  have w : ∀ (i : ℕ) (y : Fin 128 → EReal), (∀ x : Fin 128, y x = if (x : ℕ) % 8 = κ / 4 % 8 then (((mo i (κ / 32) (x / 8) : ℝ) * 512 : ℝ) : EReal) else 0) →
      ∀ x : Fin 128, y x = (((fun e s : ℕ => if s = κ / 4 % 8 then (mo i (κ / 32) e : ℝ) * 512 else 0) ((x : ℕ) / 8) (x % 8) : ℝ) : EReal) := by
    intro i y hy x
    rw [hy]
    dsimp only
    split <;> rfl
  rw [part_sum X cb hcb ⟨2 * oh, by omega⟩ r g0 (fun x => by rw [h0]; show _ = 128 * (2 * (oh : ℕ)) + x; omega) y0 (fun e s : ℕ => if s = κ / 4 % 8 then (mo 0 (κ / 32) e : ℝ) * 512 else 0) (w 0 y0 hy0),
    part_sum X cb hcb ⟨2 * oh + 1, by omega⟩ r g1 (fun x => by rw [h1]; show _ = 128 * (2 * (oh : ℕ) + 1) + x; omega) y1 (fun e s : ℕ => if s = κ / 4 % 8 then (mo 1 (κ / 32) e : ℝ) * 512 else 0) (w 1 y1 hy1), ← EReal.coe_add]
  refine congrArg _ ?_
  have pick : ∀ (c : Fin 8 → Fin 16 → ℤ) (i : ℕ), ∑ e : Fin 16, ∑ s : Fin 8, (c s e : ℝ) * (if (s : ℕ) = κ / 4 % 8 then (mo i (κ / 32) e : ℝ) * 512 else 0)
      = (∑ e : Fin 16, (c ⟨(κ : ℕ) / 4 % 8, Nat.mod_lt _ (by decide)⟩ e : ℝ) * (mo i (κ / 32) e : ℝ)) * 512 := by
    intro c i
    rw [Finset.sum_mul]
    refine Finset.sum_congr rfl fun e _ => ?_
    rw [Finset.sum_eq_single (⟨(κ : ℕ) / 4 % 8, Nat.mod_lt _ (by decide)⟩ : Fin 8)]
    · rw [if_pos rfl, mul_assoc]
    · intro b _ hb
      rw [if_neg (fun h => hb (Fin.ext h)), mul_zero]
    · intro h; exact absurd (Finset.mem_univ _) h
  rw [pick, pick, ← add_mul]
  unfold eo
  rw [Fin.sum_univ_two]
  have a0 : (⟨(gr r : ℕ) * 2 + (2 * (oh : ℕ)) / 2, by omega⟩ : Fin 192) = ⟨(gr r : ℕ) * 2 + oh, by omega⟩ := Fin.ext (by show (gr r : ℕ) * 2 + (2 * (oh : ℕ)) / 2 = (gr r : ℕ) * 2 + oh; omega)
  have a1 : (⟨(gr r : ℕ) * 2 + (2 * (oh : ℕ) + 1) / 2, by omega⟩ : Fin 192) = ⟨(gr r : ℕ) * 2 + oh, by omega⟩ := Fin.ext (by show (gr r : ℕ) * 2 + (2 * (oh : ℕ) + 1) / 2 = (gr r : ℕ) * 2 + oh; omega)
  have b0 : (⟨2 * (oh : ℕ) % 2, Nat.mod_lt _ (by decide)⟩ : Fin 2) = 0 := Fin.ext (by show 2 * (oh : ℕ) % 2 = 0; omega)
  have b1 : (⟨(2 * (oh : ℕ) + 1) % 2, Nat.mod_lt _ (by decide)⟩ : Fin 2) = 1 := Fin.ext (by show (2 * (oh : ℕ) + 1) % 2 = 1; omega)
  dsimp only
  rw [a0, a1, b0, b1]
  rfl

theorem zpm_sum (hh : ℕ) (y0 y1 : Fin 128 → EReal)
    (hy0 : ∀ x : Fin 128, y0 x = if (x : ℕ) / 8 = 15 then if (x : ℕ) % 8 / 4 = hh then (1 : EReal) else 0 else 0)
    (hy1 : ∀ x : Fin 128, y1 x = if (x : ℕ) / 8 = 15 then if (x : ℕ) % 8 / 4 = hh then (1 : EReal) else 0 else 0) :
    ∑ x : Fin 128, cb (ix2 r (g0 x)) * y0 x + ∑ x : Fin 128, cb (ix2 r (g1 x)) * y1 x
      = (((zz X (tk r) ⟨(gr r : ℕ) * 2 + oh, by omega⟩ hh : ℤ) : ℝ) : EReal) := by
  have w : ∀ (y : Fin 128 → EReal), (∀ x : Fin 128, y x = if (x : ℕ) / 8 = 15 then if (x : ℕ) % 8 / 4 = hh then (1 : EReal) else 0 else 0) →
      ∀ x : Fin 128, y x = (((fun e s : ℕ => if e = 15 then if s / 4 = hh then (1 : ℝ) else 0 else 0) ((x : ℕ) / 8) (x % 8) : ℝ) : EReal) := by
    intro y hy x
    rw [hy]
    dsimp only
    split
    · split <;> rfl
    · rfl
  rw [part_sum X cb hcb ⟨2 * oh, by omega⟩ r g0 (fun x => by rw [h0]; show _ = 128 * (2 * (oh : ℕ)) + x; omega) y0 (fun e s : ℕ => if e = 15 then if s / 4 = hh then (1 : ℝ) else 0 else 0) (w y0 hy0),
    part_sum X cb hcb ⟨2 * oh + 1, by omega⟩ r g1 (fun x => by rw [h1]; show _ = 128 * (2 * (oh : ℕ) + 1) + x; omega) y1 (fun e s : ℕ => if e = 15 then if s / 4 = hh then (1 : ℝ) else 0 else 0) (w y1 hy1), ← EReal.coe_add]
  refine congrArg _ ?_
  have pick : ∀ (c : Fin 8 → Fin 16 → ℤ), ∑ e : Fin 16, ∑ s : Fin 8, (c s e : ℝ) * (if (e : ℕ) = 15 then if (s : ℕ) / 4 = hh then (1 : ℝ) else 0 else 0)
      = ((∑ s : Fin 8, if (s : ℕ) / 4 = hh then c s 15 else 0 : ℤ) : ℝ) := by
    intro c
    rw [Finset.sum_eq_single (15 : Fin 16)]
    · rw [Int.cast_sum]
      refine Finset.sum_congr rfl fun s _ => ?_
      rw [if_pos (show ((15 : Fin 16) : ℕ) = 15 from rfl)]
      split
      · rw [mul_one]
      · rw [mul_zero, Int.cast_zero]
    · intro b _ hb
      refine Finset.sum_eq_zero fun s _ => ?_
      rw [if_neg (show ¬(b : ℕ) = 15 from fun h => hb (Fin.ext h)), mul_zero]
    · intro h; exact absurd (Finset.mem_univ _) h
  rw [pick, pick]
  unfold zz
  rw [Fin.sum_univ_two, Int.cast_add]
  have a0 : (⟨(gr r : ℕ) * 2 + (2 * (oh : ℕ)) / 2, by omega⟩ : Fin 192) = ⟨(gr r : ℕ) * 2 + oh, by omega⟩ := Fin.ext (by show (gr r : ℕ) * 2 + (2 * (oh : ℕ)) / 2 = (gr r : ℕ) * 2 + oh; omega)
  have a1 : (⟨(gr r : ℕ) * 2 + (2 * (oh : ℕ) + 1) / 2, by omega⟩ : Fin 192) = ⟨(gr r : ℕ) * 2 + oh, by omega⟩ := Fin.ext (by show (gr r : ℕ) * 2 + (2 * (oh : ℕ) + 1) / 2 = (gr r : ℕ) * 2 + oh; omega)
  have b0 : (⟨2 * (oh : ℕ) % 2, Nat.mod_lt _ (by decide)⟩ : Fin 2) = 0 := Fin.ext (by show 2 * (oh : ℕ) % 2 = 0; omega)
  have b1 : (⟨(2 * (oh : ℕ) + 1) % 2, Nat.mod_lt _ (by decide)⟩ : Fin 2) = 1 := Fin.ext (by show (2 * (oh : ℕ) + 1) % 2 = 1; omega)
  dsimp only
  rw [a0, a1, b0, b1]
end

variable (m : (ℓ : Loc nD τ sig) → Buf (Elt Ideal) ℓ) (c : Dev nD)

theorem iblk_mob (i : Fin 2) (r : Fin 128) (l : Fin 1024) : iblk m c 2 t0 (ix3 i r l) = V m c main_v98 (ix3 i r l) := by
  blk_point [iblk, idx t0]
theorem iblk_zpm (i : Fin 2) (r : Fin 128) (l : Fin 128) : iblk m c 3 t0 (ix3 i r l) = V m c main_v118 (ix3 i r l) := by
  blk_point [iblk, idx t0]
theorem iblk_mask (r : Fin 8) (l : Fin 1024) : iblk m c 4 t0 (ix2 r l) = V m c main_v141 (ix2 r l) := by
  blk_point [iblk, idx t0]

theorem mob_read (i : Fin 2) (arg : Memref sig .tc .vmem S2x128x1024 .bf16) (harg : arg.IsWhole) (off) (inb) (ho : off = ![(i : ℕ), 0, 0]) (r : Fin 128) (l : Fin 1024) :
    arg.view.readAt (Elt Ideal) (Rect.unit (s := S2x128x1024) off S1x128x1024.size inb).toLoadRect (harg.unread (iblk m c 2 t0)) (ix3 0 r l)
      = if (r : ℕ) % 8 = l / 4 % 8 then (((mo i (l / 32) (r / 8) : ℝ) * 512 : ℝ) : EReal) else 0 := by
  refine (rd arg harg (iblk m c 2 t0) off _ inb (ix3 0 r l) _ ho (ix3 i r l) fun d => ?_).trans ((iblk_mob m c i r l).trans (V_mob m c i r l))
  fin_cases d
  · rfl
  · show (r : ℕ) = 0 + r; omega
  · show (l : ℕ) = 0 + l; omega

theorem zpm_read (i : Fin 2) (arg : Memref sig .tc .vmem S2x128x128 .bf16) (harg : arg.IsWhole) (off) (inb) (ho : off = ![(i : ℕ), 0, 0]) (r : Fin 128) (l : Fin 128) :
    arg.view.readAt (Elt Ideal) (Rect.unit (s := S2x128x128) off S1x128x128.size inb).toLoadRect (harg.unread (iblk m c 3 t0)) (ix3 0 r l)
      = if (r : ℕ) / 8 = 15 then if (r : ℕ) % 8 / 4 = i then (1 : EReal) else 0 else 0 := by
  refine (rd arg harg (iblk m c 3 t0) off _ inb (ix3 0 r l) _ ho (ix3 i r l) fun d => ?_).trans ((iblk_zpm m c i r l).trans (V_zpm m c i r l))
  fin_cases d
  · rfl
  · show (r : ℕ) = 0 + r; omega
  · show (l : ℕ) = 0 + l; omega

/-- The codes before they are stored. -/
def cbv : Vec Ideal S288x512 .f32 := k0_pay25 (iblk m c 0 t0) (slab m c 0) (slab m c 1) (slab m c 2) (slab m c 3)

theorem cbv_apply (r : Fin 288) (l : Fin 512) : cbv m c (ix2 r l) = cv (xk m c) (tk r) (qd (gr r) l) (en l) :=
  pay25_apply _ _ _ _ _ _ (hx m c) (hs m c 0) (hs m c 1) (hs m c 2) (hs m c 3) r l

theorem r_1_eq (arg2 : Memref sig .tc .vmem S288x128 .bf16) (harg2 : arg2.IsWhole) (arg3 : Memref sig .tc .vmem S4x128x512 .bf16) (harg3 : arg3.IsWhole) :
    kernelRun0_A.sl.r_1 (F := Ideal) c arg2 harg2 arg3 harg3 (iblk m c 0 t0) (iblk m c 1 t0) = cbv m c := by
  have e : ∀ (a a' : Vec Ideal S288x128 .bf16) (b0 b0' b1 b1' b2 b2' b3 b3' : Vec Ideal S1x128x512 .bf16), a = a' → b0 = b0' → b1 = b1' → b2 = b2' → b3 = b3' →
      k0_pay25 (F := Ideal) a b0 b1 b2 b3 = k0_pay25 a' b0' b1' b2' b3' := by
    intro a a' b0 b0' b1 b1' b2 b2' b3 b3' h h0 h1 h2 h3
    rw [h, h0, h1, h2, h3]
  unfold kernelRun0_A.sl.r_1 cbv
  exact e _ _ _ _ _ _ _ _ _ _ (x_read m c arg2 harg2 inb_S288x128_S288x128_0_0) (slab_read m c 0 arg3 harg3 inb_S4x128x512_S1x128x512_0_0_0) (slab_read m c 1 arg3 harg3 inb_S4x128x512_S1x128x512_1_0_0)
    (slab_read m c 2 arg3 harg3 inb_S4x128x512_S1x128x512_2_0_0) (slab_read m c 3 arg3 harg3 inb_S4x128x512_S1x128x512_3_0_0)

/-- A signed sum of an octet. -/
def EvF (a : Fin 2) (r : Fin 288) (κ : Fin 1024) : EReal :=
  ((eo (CC (xk m c) (tk r) ⟨(gr r : ℕ) * 2 + a, by omega⟩) ⟨(κ : ℕ) / 4 % 8, Nat.mod_lt _ (by decide)⟩ (κ / 32) * 512 : ℝ) : EReal)

/-- A sum of the last codes. -/
def ZvF (a : Fin 2) (b : Fin 2) (r : Fin 288) : EReal :=
  (((zz (xk m c) (tk r) ⟨(gr r : ℕ) * 2 + a, by omega⟩ b : ℤ) : ℝ) : EReal)

/-- The signed sums of the octets. -/
def Ev : Vec Ideal S2x288x1024 .f32 := fun y : S2x288x1024.Idx => EvF m c (y 0) (y 1) (y 2)

/-- The sums of the last codes. -/
def Zv : Vec Ideal S2x2x288x128 .f32 := fun y : S2x2x288x128.Idx => ZvF m c (y 0) (y 1) (y 2)

section
variable (arg2 : Memref sig .tc .vmem S288x128 .bf16) (harg2 : arg2.IsWhole) (arg3 : Memref sig .tc .vmem S4x128x512 .bf16) (harg3 : arg3.IsWhole)

theorem p31_at (r : Fin 288) (κ : Fin 1024) (m0 m1 : Vec Ideal S1x128x1024 .bf16)
    (h0 : ∀ (r : Fin 128) (l : Fin 1024), m0 (ix3 0 r l) = if (r : ℕ) % 8 = l / 4 % 8 then (((mo 0 (l / 32) (r / 8) : ℝ) * 512 : ℝ) : EReal) else 0)
    (h1 : ∀ (r : Fin 128) (l : Fin 1024), m1 (ix3 0 r l) = if (r : ℕ) % 8 = l / 4 % 8 then (((mo 1 (l / 32) (r / 8) : ℝ) * 512 : ℝ) : EReal) else 0) :
    k0_pay31 (cbv m c) m0 m1 (ix3 0 r κ) = EvF m c 0 r κ := by
  have e : k0_pay31 (cbv m c) m0 m1 (ix3 0 r κ) = ∑ x : Fin 128, cbv m c (ix2 r ⟨x, by omega⟩) * m0 (ix3 0 x κ) + ∑ x : Fin 128, cbv m c (ix2 r ⟨128 + x, by omega⟩) * m1 (ix3 0 x κ) := by
    pointwise [k0_pay31, k0_pay29, k0_pay30, k0_pay28]
  exact e.trans (mob_sum (xk m c) (cbv m c) (cbv_apply m c) r 0 _ _ (fun x => by simp) (fun x => by simp) κ _ _ (fun x => h0 x κ) (fun x => h1 x κ))

theorem p36_at (r : Fin 288) (κ : Fin 1024) (m0 m1 : Vec Ideal S1x128x1024 .bf16)
    (h0 : ∀ (r : Fin 128) (l : Fin 1024), m0 (ix3 0 r l) = if (r : ℕ) % 8 = l / 4 % 8 then (((mo 0 (l / 32) (r / 8) : ℝ) * 512 : ℝ) : EReal) else 0)
    (h1 : ∀ (r : Fin 128) (l : Fin 1024), m1 (ix3 0 r l) = if (r : ℕ) % 8 = l / 4 % 8 then (((mo 1 (l / 32) (r / 8) : ℝ) * 512 : ℝ) : EReal) else 0) :
    k0_pay36 (k0_pay28 (cbv m c)) m0 m1 (ix3 0 r κ) = EvF m c 1 r κ := by
  have e : k0_pay36 (k0_pay28 (cbv m c)) m0 m1 (ix3 0 r κ) = ∑ x : Fin 128, cbv m c (ix2 r ⟨256 + x, by omega⟩) * m0 (ix3 0 x κ) + ∑ x : Fin 128, cbv m c (ix2 r ⟨384 + x, by omega⟩) * m1 (ix3 0 x κ) := by
    pointwise [k0_pay36, k0_pay34, k0_pay35, k0_pay28]
  exact e.trans (mob_sum (xk m c) (cbv m c) (cbv_apply m c) r 1 _ _ (fun x => by simp) (fun x => by simp) κ _ _ (fun x => h0 x κ) (fun x => h1 x κ))

section
variable (r : Fin 288) (l : Fin 128) (b : Fin 2) (m0 m1 : Vec Ideal S1x128x128 .bf16)
    (h0 : ∀ (r : Fin 128) (l : Fin 128), m0 (ix3 0 r l) = if (r : ℕ) / 8 = 15 then if (r : ℕ) % 8 / 4 = b then (1 : EReal) else 0 else 0)
    (h1 : ∀ (r : Fin 128) (l : Fin 128), m1 (ix3 0 r l) = if (r : ℕ) / 8 = 15 then if (r : ℕ) % 8 / 4 = b then (1 : EReal) else 0 else 0)
include h0 h1

theorem p32_at : k0_pay32 (cbv m c) m0 m1 (ix4 0 0 r l) = ZvF m c 0 b r := by
  have e : k0_pay32 (cbv m c) m0 m1 (ix4 0 0 r l) = ∑ x : Fin 128, cbv m c (ix2 r ⟨x, by omega⟩) * m0 (ix3 0 x l) + ∑ x : Fin 128, cbv m c (ix2 r ⟨128 + x, by omega⟩) * m1 (ix3 0 x l) := by
    pointwise [k0_pay32, k0_pay29, k0_pay30, k0_pay28]
  exact e.trans (zpm_sum (xk m c) (cbv m c) (cbv_apply m c) r 0 _ _ (fun x => by simp) (fun x => by simp) b _ _ (fun x => h0 x l) (fun x => h1 x l))

theorem p33_at : k0_pay33 (k0_pay29 (cbv m c)) (k0_pay30 (cbv m c)) m0 m1 (ix4 0 0 r l) = ZvF m c 0 b r := by
  have e : k0_pay33 (k0_pay29 (cbv m c)) (k0_pay30 (cbv m c)) m0 m1 (ix4 0 0 r l) = ∑ x : Fin 128, cbv m c (ix2 r ⟨x, by omega⟩) * m0 (ix3 0 x l) + ∑ x : Fin 128, cbv m c (ix2 r ⟨128 + x, by omega⟩) * m1 (ix3 0 x l) := by
    pointwise [k0_pay33, k0_pay29, k0_pay30, k0_pay28]
  exact e.trans (zpm_sum (xk m c) (cbv m c) (cbv_apply m c) r 0 _ _ (fun x => by simp) (fun x => by simp) b _ _ (fun x => h0 x l) (fun x => h1 x l))

theorem p695_at : k0_pay695 (k0_pay37 (k0_pay28 (cbv m c)) m0 m1) (ix4 0 0 r l) = ZvF m c 1 b r := by
  have e : k0_pay695 (k0_pay37 (k0_pay28 (cbv m c)) m0 m1) (ix4 0 0 r l) = ∑ x : Fin 128, cbv m c (ix2 r ⟨256 + x, by omega⟩) * m0 (ix3 0 x l) + ∑ x : Fin 128, cbv m c (ix2 r ⟨384 + x, by omega⟩) * m1 (ix3 0 x l) := by
    pointwise [k0_pay695, k0_pay37, k0_pay34, k0_pay35, k0_pay28]
  exact e.trans (zpm_sum (xk m c) (cbv m c) (cbv_apply m c) r 1 _ _ (fun x => by simp) (fun x => by simp) b _ _ (fun x => h0 x l) (fun x => h1 x l))

theorem p696_at : k0_pay696 (k0_pay34 (k0_pay28 (cbv m c))) (k0_pay35 (k0_pay28 (cbv m c))) m0 m1 (ix4 0 0 r l) = ZvF m c 1 b r := by
  have e : k0_pay696 (k0_pay34 (k0_pay28 (cbv m c))) (k0_pay35 (k0_pay28 (cbv m c))) m0 m1 (ix4 0 0 r l) = ∑ x : Fin 128, cbv m c (ix2 r ⟨256 + x, by omega⟩) * m0 (ix3 0 x l) + ∑ x : Fin 128, cbv m c (ix2 r ⟨384 + x, by omega⟩) * m1 (ix3 0 x l) := by
    pointwise [k0_pay696, k0_pay34, k0_pay35, k0_pay28]
  exact e.trans (zpm_sum (xk m c) (cbv m c) (cbv_apply m c) r 1 _ _ (fun x => by simp) (fun x => by simp) b _ _ (fun x => h0 x l) (fun x => h1 x l))
end
end
end Cert.KernelIdeal.Val
-- ==== Proof.V.Blocks.lean ====
module

public import proofs.«01_k».proof.Proof.V.Codes
public import proofs.«01_k».proof.Proof.V.Sums
public import proofs.«01_k».proof.Proof.V.Runs
public import proofs.«01_k».proof.Proof.V.Mats

/-! The result of a block. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

variable (m : (ℓ : Loc nD τ sig) → Buf (Elt Ideal) ℓ) (c : Dev nD)

/-- The point of a block of rows and a part of the columns. -/
def tp (nb : Fin 9) (h : Fin 3) : Fin cfg0.N := ⟨nb * 3 + h, by rw [show cfg0.N = 27 from N_0]; omega⟩

/-- What the two tables hold. -/
structure Tabs : Prop where
  l : ∀ (O : Fin 192) (t : Fin 3) (r : Fin 8) (κ : Fin 1024), lhs0 m c (ix3 O ⟨t * 8 + r, by omega⟩ κ)
    = if (κ : ℕ) / 16 % 2 = r / 4 then if (κ : ℕ) % 4 = r % 4 then ((eo (CC (xk m c) t O) ⟨κ / 4 % 8, by omega⟩ (κ / 32) * 512 : ℝ) : EReal) else 0 else 0
  z : ∀ (O : Fin 192) (t : Fin 3) (r : Fin 8) (l : Fin 128), zp0 m c (ix4 O t r l) = (((zz (xk m c) t O (r / 4) : ℤ) : ℝ) : EReal)

theorem crd : ∀ t : Fin cfg0.N, ((grid0.coords t) 1).val = t.val % 3 := (by decide +kernel : ∀ t : Fin grid0.N, _)

/-- What a point adds to the accumulator. -/
def pv (t : Fin cfg0.N) (h : Fin 3) (q : Fin 3) (r : Fin 8) (l : Fin 256) : EReal :=
  pointc (fun r => sv (xk m c) (tk r) (gr r)) (CC (xk m c)) (fun t O h => (((zz (xk m c) t O h : ℤ) : ℝ) : EReal)) (iblk m c 5 t) (fun n h => iblk m c 6 t (ix2 n h)) (fun n h => iblk m c 7 t (ix2 n h)) h q r l

theorem accP_at (T : Tabs m c) (t : Fin cfg0.N) (h : Fin 3) (ht : t.val % 3 = h.val) (G) (q : Fin 3) (r : Fin 8) (l : Fin 256) :
    scM0_7.view.read (Elt Ideal) (accP m c t G) (ix3 q r l) = scM0_7.view.read (Elt Ideal) G (ix3 q r l) + pv m c t h q r l := by
  have hi : ((grid0.coords t) 1).val < 3 := by rw [crd]; omega
  have e : (⟨((grid0.coords t) 1).val, hi⟩ : Fin 3) = h := Fin.ext ((crd t).trans ht)
  have a := acc2_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (BitVec.ofNat 32 ((grid0.coords t) 1).val) G (iblk m c 5 t) (lut0 m c) (lhs0 m c) (zp0 m c)
    (View.canon (wp (ms0_6 t) (hs0_6 t) (iblk m c 6 t))) (View.canon (wp (ms0_7 t) (hs0_7 t) (iblk m c 7 t)))
    (fun r => sv (xk m c) (tk r) (gr r)) (CC (xk m c)) (fun t O h => (((zz (xk m c) t O h : ℤ) : ℝ) : EReal)) (fun n h => iblk m c 6 t (ix2 n h)) (fun n h => iblk m c 7 t (ix2 n h))
    (fun t O par s => ci_zero _ _ _) T.l T.z (lut0_apply m c) (fun f h l => wcanon_at (ms0_6 t) (hs0_6 t) (iblk m c 6 t) f h l) (fun f h l => wcanon_at (ms0_7 t) (hs0_7 t) (iblk m c 7 t) f h l) hi q r l
  rw [e] at a
  exact a

/-- The accumulator's buffer after a point, of what the three tables' buffers hold. -/
def accX (t : Fin cfg0.N) (X12 : BufTy.Contents (Elt Ideal) (ms0_10 t).view.ty) (X13 : BufTy.Contents (Elt Ideal) scM0_0.view.ty) (X15 : BufTy.Contents (Elt Ideal) scM0_2.view.ty) (G : BufTy.Contents (Elt Ideal) scM0_7.view.ty) : BufTy.Contents (Elt Ideal) scM0_7.view.ty :=
  acc2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (BitVec.ofNat 32 ((grid0.coords t) 1).val) ((hs0_5 t).unread (iblk m c 5 t)) X12 X13 X15 ((Memref.isWhole_whole _).unread (View.canon (wp (ms0_6 t) (hs0_6 t) (iblk m c 6 t)))) ((Memref.isWhole_whole _).unread (View.canon (wp (ms0_7 t) (hs0_7 t) (iblk m c 7 t)))) G (Scf.trips k0_t2_loop.lb k0_t2_loop.ub k0_t2_loop.st)

theorem runA_ex : ∃ X12 X13 X15, (ms0_10 t0).view.read (Elt Ideal) X12 = lut0 m c ∧ scM0_0.view.read (Elt Ideal) X13 = lhs0 m c ∧ scM0_2.view.read (Elt Ideal) X15 = zp0 m c
    ∧ (run0 m c).2.2.2.2.1 = scM0_7.view.read (Elt Ideal) (accX m c t0 X12 X13 X15 g0) := by
  unfold lut0 lhs0 zp0 run0 runA kernelRun0_A
  dsimp only
  exact ⟨_, _, _, rfl, rfl, rfl, rfl⟩

theorem runA_acc : (run0 m c).2.2.2.2.1 = scM0_7.view.read (Elt Ideal) (accP m c t0 g0) := by
  obtain ⟨X12, X13, X15, e1, e2, e3, e⟩ := runA_ex m c
  rw [e, (hs0_10 t0).eq_unread e1, Memref.IsWhole.eq_unread (m := scM0_0) (Memref.isWhole_whole _) e2, Memref.IsWhole.eq_unread (m := scM0_2) (Memref.isWhole_whole _) e3]
  unfold accX accP
  rfl

theorem acc_0 (T : Tabs m c) (nb : Fin 9) (q : Fin 3) (r : Fin 8) (l : Fin 256) : accAt m c (tp nb 0).val (ix3 q r l) = pv m c (tp nb 0) 0 q r l := by
  have e : (tp nb 0).val = nb.val * 3 := rfl
  by_cases h : (tp nb 0).val % 27 = 0
  · have h1 : (tp nb 0).val % 3 = 0 := by omega
    have ht : tp nb 0 = t0 := Fin.ext (by show (tp nb 0).val = 0; omega)
    rw [ht]
    refine (congrFun (runA_acc m c) _).trans ?_
    rw [accP_at m c T t0 0 rfl, g0_at, zero_add]
  · have h1 : (tp nb 0).val % 3 = 0 := by omega
    rw [accAt_D m c (tp nb 0) h h1 (by omega), runD_acc, accP_at m c T (tp nb 0) 0 h1, g0_at, zero_add]

theorem acc_1 (T : Tabs m c) (nb : Fin 9) (q : Fin 3) (r : Fin 8) (l : Fin 256) : accAt m c (tp nb 1).val (ix3 q r l) = pv m c (tp nb 0) 0 q r l + pv m c (tp nb 1) 1 q r l := by
  have e : (tp nb 1).val = nb.val * 3 + 1 := rfl
  have e' : (tp nb 1).val - 1 = (tp nb 0).val := rfl
  have h1 : (tp nb 1).val % 3 = 1 := by omega
  rw [accAt_B m c (tp nb 1) (by omega) (by omega) (by omega), runB_acc, accP_at m c T (tp nb 1) 1 h1, Memref.IsWhole.read_unread, e', acc_0 m c T]

/-- The result of a block. -/
def yq (nb : Fin 9) (q : Fin 3) (r : Fin 4) (l : Fin 256) : EReal :=
  (pv m c (tp nb 0) 0 q ⟨r, by omega⟩ l + pv m c (tp nb 1) 1 q ⟨r, by omega⟩ l + pv m c (tp nb 2) 2 q ⟨r, by omega⟩ l)
      + (pv m c (tp nb 0) 0 q ⟨4 + r, by omega⟩ l + pv m c (tp nb 1) 1 q ⟨4 + r, by omega⟩ l + pv m c (tp nb 2) 2 q ⟨4 + r, by omega⟩ l)

/-- The result of a block, by index. -/
def yf (nb : Fin 9) : S1x3x4x256.Idx → EReal := fun y => yq m c nb (y 1) (y 2) (y 3)

theorem y_at (T : Tabs m c) (nb : Fin 9) (q : Fin 3) (r : Fin 4) (l : Fin 256) : yAt m c (tp nb 2) (ix4 0 q r l)
    = yq m c nb q r l := by
  have e : (tp nb 2).val = nb.val * 3 + 2 := rfl
  have e' : (tp nb 2).val - 1 = (tp nb 1).val := rfl
  have h2 : (tp nb 2).val % 3 = 2 := by omega
  have A : ∀ (q : Fin 3) (r : Fin 8) (l : Fin 256), scM0_7.view.read (Elt Ideal) (accP m c (tp nb 2) ((Memref.isWhole_whole _).unread (accAt m c (tp nb 1).val))) (ix3 q r l)
      = pv m c (tp nb 0) 0 q r l + pv m c (tp nb 1) 1 q r l + pv m c (tp nb 2) 2 q r l := by
    intro q r l
    rw [accP_at m c T (tp nb 2) 2 h2, Memref.IsWhole.read_unread, acc_1 m c T]
  have B : ∀ (q : Fin 3) (off) (inb) (_ : off = ![(q : ℕ), 0, 0]) (r : Fin 8) (l : Fin 256), View.readAt (Elt Ideal) scM0_7.view (Rect.unit (s := S3x8x256) off ![1, 8, 256] inb).toLoadRect (accP m c (tp nb 2) ((Memref.isWhole_whole _).unread (accAt m c (tp nb 1).val))) (ix3 0 r l)
      = pv m c (tp nb 0) 0 q r l + pv m c (tp nb 1) 1 q r l + pv m c (tp nb 2) 2 q r l := by
    intro q off inb ho r l
    subst ho
    refine Eq.trans ?_ (A q r l)
    rw [View.readAt_apply]
    refine congrArg _ (funext fun a => Fin.ext ?_)
    fin_cases a
    · show q.val + 1 * 0 = q.val; omega
    · show 0 + 1 * r.val = r.val; omega
    · show 0 + 1 * l.val = l.val; omega
  rw [yAt_C m c (tp nb 2) (by omega) (by omega) h2, e', runC_y]
  refine View.canon_apply_of_pieces (Val := Elt Ideal) (e := .f32) (yf m c nb) _ ?_ _ ?_
  · have em : ∀ (q : Fin 3) (off) (inb) (_ : off = ![0, (q : ℕ), 0, 0]) (x : (⟨4, ![1, 1, 4, 256]⟩ : Shape).Idx), Rect.emb (s := S1x3x4x256) (Rect.unit (s := S1x3x4x256) off ![1, 1, 4, 256] inb) x = ix4 0 q (x 2) (x 3) := by
      intro q off inb ho x
      subst ho
      have h0 : (x 0).val < 1 := (x 0).isLt
      have h1 : (x 1).val < 1 := (x 1).isLt
      funext d; apply Fin.ext; fin_cases d
      · show 0 + 1 * (x 0).val = 0; omega
      · show q.val + 1 * (x 1).val = q.val; omega
      · show 0 + 1 * (x 2).val = (x 2).val; omega
      · show 0 + 1 * (x 3).val = (x 3).val; omega
    have ex : ∀ x : (⟨4, ![1, 1, 4, 256]⟩ : Shape).Idx, x = ix4 0 0 (x 2) (x 3) := by
      intro x
      funext d; fin_cases d
      · exact Subsingleton.elim (α := Fin 1) _ _
      · exact Subsingleton.elim (α := Fin 1) _ _
      · rfl
      · rfl
    have p5 : ∀ (v : Vec Ideal S1x8x256 .f32) (r : Fin 4) (l : Fin 256), k0_pay5 v (ix4 0 0 r l) = v (ix3 0 ⟨r, by omega⟩ l) + v (ix3 0 ⟨4 + r, by omega⟩ l) := by
      intro v r l
      pointwise [k0_pay5]
    have p6 : ∀ (v : Vec Ideal S1x8x256 .f32) (r : Fin 4) (l : Fin 256), k0_pay6 v (ix4 0 0 r l) = v (ix3 0 ⟨r, by omega⟩ l) + v (ix3 0 ⟨4 + r, by omega⟩ l) := by
      intro v r l
      pointwise [k0_pay6]
    have p7 : ∀ (v : Vec Ideal S1x8x256 .f32) (r : Fin 4) (l : Fin 256), k0_pay7 v (ix4 0 0 r l) = v (ix3 0 ⟨r, by omega⟩ l) + v (ix3 0 ⟨4 + r, by omega⟩ l) := by
      intro v r l
      pointwise [k0_pay7]
    intro p hp x
    simp only [List.mem_cons, List.not_mem_nil, or_false] at hp
    rcases hp with rfl | rfl | rfl
    · refine Eq.trans ?_ (congrArg (yf m c nb) (em 2 ![0, ((2 : Fin 3) : ℕ), 0, 0] inb_S1x3x4x256_S1x1x4x256_0_2_0_0 rfl x)).symm
      refine (congrArg _ (ex x)).trans ((p7 _ (x 2) (x 3)).trans ?_)
      exact congrArg₂ (· + ·) (B 2 _ inb_S3x8x256_S1x8x256_2_0_0 rfl _ _) (B 2 _ inb_S3x8x256_S1x8x256_2_0_0 rfl _ _)
    · refine Eq.trans ?_ (congrArg (yf m c nb) (em 1 ![0, ((1 : Fin 3) : ℕ), 0, 0] inb_S1x3x4x256_S1x1x4x256_0_1_0_0 rfl x)).symm
      refine (congrArg _ (ex x)).trans ((p6 _ (x 2) (x 3)).trans ?_)
      exact congrArg₂ (· + ·) (B 1 _ inb_S3x8x256_S1x8x256_1_0_0 rfl _ _) (B 1 _ inb_S3x8x256_S1x8x256_1_0_0 rfl _ _)
    · refine Eq.trans ?_ (congrArg (yf m c nb) (em 0 ![0, ((0 : Fin 3) : ℕ), 0, 0] inb_S1x3x4x256_S1x1x4x256_0_0_0_0 rfl x)).symm
      refine (congrArg _ (ex x)).trans ((p5 _ (x 2) (x 3)).trans ?_)
      exact congrArg₂ (· + ·) (B 0 _ inb_S3x8x256_S1x8x256_0_0_0 rfl _ _) (B 0 _ inb_S3x8x256_S1x8x256_0_0_0 rfl _ _)
  · have mem : ∀ (off) (inb), off = ![0, (q : ℕ), 0, 0] → (ix4 0 q r l : S1x3x4x256.Idx) ∈ (Rect.unit (s := S1x3x4x256) off ![1, 1, 4, 256] inb).set := by
      intro off inb ho
      subst ho
      refine mem_rect _ _ (ix4 (0 : Fin 1) (0 : Fin 1) r l) fun d => ?_
      fin_cases d
      · rfl
      · show q.val = q.val + 1 * 0; omega
      · show r.val = 0 + 1 * r.val; omega
      · show l.val = 0 + 1 * l.val; omega
    fin_cases q
    · exact ⟨_, .tail _ (.tail _ (.head _)), mem _ inb_S1x3x4x256_S1x1x4x256_0_0_0_0 rfl⟩
    · exact ⟨_, .tail _ (.head _), mem _ inb_S1x3x4x256_S1x1x4x256_0_1_0_0 rfl⟩
    · exact ⟨_, .head _, mem _ inb_S1x3x4x256_S1x1x4x256_0_2_0_0 rfl⟩

theorem idx8 : ∀ t : Fin cfg0.N, win0_5.index t = ![0, t.val / 3, t.val % 3] ∧ win0_6.index t = ![t.val / 3, t.val % 3] ∧ win0_7.index t = ![t.val / 3, t.val % 3]
    ∧ win0_8.index t = ![t.val / 3, 0, 0, 0] :=
  (by decide +kernel : ∀ t : Fin grid0.N, _)

theorem iblk_w (nb : Fin 9) (h : Fin 3) (p : Fin 4) (n : Fin 1024) (k : Fin 512) : iblk m c 5 (tp nb h) (ix3 p n k) = V m c main_arg1 (ix3 p ⟨nb * 1024 + n, by omega⟩ ⟨h * 512 + k, by omega⟩) := by
  have e1 : (tp nb h).val / 3 = nb.val := by show (nb.val * 3 + h.val) / 3 = _; omega
  have e2 : (tp nb h).val % 3 = h.val := by show (nb.val * 3 + h.val) % 3 = _; omega
  blk_point [iblk, idx8 (tp nb h), e1, e2]

theorem iblk_ws (nb : Fin 9) (h : Fin 3) (n : Fin 1024) (k : Fin 128) : iblk m c 6 (tp nb h) (ix2 n k) = V m c main_arg2 (ix2 ⟨nb * 1024 + n, by omega⟩ ⟨h * 128 + k, by omega⟩) := by
  have e1 : (tp nb h).val / 3 = nb.val := by show (nb.val * 3 + h.val) / 3 = _; omega
  have e2 : (tp nb h).val % 3 = h.val := by show (nb.val * 3 + h.val) % 3 = _; omega
  blk_point [iblk, idx8 (tp nb h), e1, e2]

theorem iblk_wz (nb : Fin 9) (h : Fin 3) (n : Fin 1024) (k : Fin 128) : iblk m c 7 (tp nb h) (ix2 n k) = V m c main_arg3 (ix2 ⟨nb * 1024 + n, by omega⟩ ⟨h * 128 + k, by omega⟩) := by
  have e1 : (tp nb h).val / 3 = nb.val := by show (nb.val * 3 + h.val) / 3 = _; omega
  have e2 : (tp nb h).val % 3 = h.val := by show (nb.val * 3 + h.val) % 3 = _; omega
  blk_point [iblk, idx8 (tp nb h), e1, e2]

theorem V_w : V m c main_arg1 = m ((c.tc : Thread nD τ).loc main_arg1) := rfl
theorem V_ws : V m c main_arg2 = m ((c.tc : Thread nD τ).loc main_arg2) := rfl
theorem V_wz : V m c main_arg3 = m ((c.tc : Thread nD τ).loc main_arg3) := rfl

/-- The array of the result. -/
def yarr : S9x3x4x256.Idx → EReal := fun y => yq m c (y 0) (y 1) (y 2) (y 3)

theorem final8 (T : Tabs m c) : (dats m 0 c).arrAt 8 (cfgs 0).N = yarr m c := by
  refine (dats m 0 c).arrAt_eq_of_covers 8 _ (by decide +kernel) fun t ht y => ?_
  have h2 : t.val % 3 = 2 := (by decide +kernel : ∀ t : Fin grid0.N, win0_8.flush t = true → t.val % 3 = 2) t ht
  have hN : t.val < 27 := lt_of_lt_of_eq t.isLt (show cfg0.N = 27 from N_0)
  obtain ⟨nb, rfl⟩ : ∃ nb, t = tp nb 2 := ⟨⟨t.val / 3, by omega⟩, Fin.ext (by show t.val = t.val / 3 * 3 + 2; omega)⟩
  have e1 : (tp nb 2).val / 3 = nb.val := by show (nb.val * 3 + 2) / 3 = _; omega
  blk_simp
  rw [after0_8]
  have hy : y = ix4 0 (y 1) (y 2) (y 3) := by
    funext d; fin_cases d
    · exact Subsingleton.elim (α := Fin 1) _ _
    · rfl
    · rfl
    · rfl
  refine (congrArg (yAt m c (tp nb 2)) hy).trans ((y_at m c T nb (y 1) (y 2) (y 3)).trans ?_)
  have he : (win0_8.blk (tp nb 2)).view.emb y = (ix4 nb (y 1) (y 2) (y 3) : S9x3x4x256.Idx) := by
    have h0 : (y 0).val < 1 := (y 0).isLt
    funext d; apply Fin.ext
    fin_cases d
    · show win0_8.index (tp nb 2) 0 * 1 + 1 * (y 0).val = nb.val
      rw [(idx8 (tp nb 2)).2.2.2]
      show (tp nb 2).val / 3 * 1 + 1 * (y 0).val = nb.val
      omega
    · show win0_8.index (tp nb 2) 1 * 3 + 1 * (y 1).val = (y 1).val
      rw [(idx8 (tp nb 2)).2.2.2]
      show 0 * 3 + 1 * (y 1).val = (y 1).val
      omega
    · show win0_8.index (tp nb 2) 2 * 4 + 1 * (y 2).val = (y 2).val
      rw [(idx8 (tp nb 2)).2.2.2]
      show 0 * 4 + 1 * (y 2).val = (y 2).val
      omega
    · show win0_8.index (tp nb 2) 3 * 256 + 1 * (y 3).val = (y 3).val
      rw [(idx8 (tp nb 2)).2.2.2]
      show 0 * 256 + 1 * (y 3).val = (y 3).val
      omega
  exact (congrArg (yarr m c) he).symm

end Cert.KernelIdeal.Val
-- ==== Proof.V.Tabs.lean ====
module

public import proofs.«01_k».proof.Proof.V.Codes
public import proofs.«01_k».proof.Proof.V.Sums
public import proofs.«01_k».proof.Proof.V.Mats

/-! The two tables, as the later points read them. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

variable (m : (ℓ : Loc nD τ sig) → Buf (Elt Ideal) ℓ) (c : Dev nD)

theorem emb14 (a : Fin 2) (off) (inb) (ho : off = ![(a : ℕ), 0, 0]) (x : S1x288x1024.Idx) :
    Rect.emb (s := S2x288x1024) (Rect.unit (s := S2x288x1024) off S1x288x1024.size inb) x = ix3 a (x 1) (x 2) := by
  subst ho
  have h0 : (x 0).val < 1 := (x 0).isLt
  funext d; apply Fin.ext; fin_cases d
  · show a.val + 1 * (x 0).val = a.val; omega
  · show 0 + 1 * (x 1).val = (x 1).val; omega
  · show 0 + 1 * (x 2).val = (x 2).val; omega

theorem emb16 (a b : Fin 2) (off) (inb) (ho : off = ![(a : ℕ), (b : ℕ), 0, 0]) (x : S1x1x288x128.Idx) :
    Rect.emb (s := S2x2x288x128) (Rect.unit (s := S2x2x288x128) off S1x1x288x128.size inb) x = ix4 a b (x 2) (x 3) := by
  subst ho
  have h0 : (x 0).val < 1 := (x 0).isLt
  have h1 : (x 1).val < 1 := (x 1).isLt
  funext d; apply Fin.ext; fin_cases d
  · show a.val + 1 * (x 0).val = a.val; omega
  · show b.val + 1 * (x 1).val = b.val; omega
  · show 0 + 1 * (x 2).val = (x 2).val; omega
  · show 0 + 1 * (x 3).val = (x 3).val; omega

theorem x14 (x : S1x288x1024.Idx) : x = ix3 0 (x 1) (x 2) := by
  funext d; fin_cases d
  · exact Subsingleton.elim (α := Fin 1) _ _
  · rfl
  · rfl

theorem x16 (x : S1x1x288x128.Idx) : x = ix4 0 0 (x 2) (x 3) := by
  funext d; fin_cases d
  · exact Subsingleton.elim (α := Fin 1) _ _
  · exact Subsingleton.elim (α := Fin 1) _ _
  · rfl
  · rfl

section
variable (arg2 : Memref sig .tc .vmem S288x128 .bf16) (harg2 : arg2.IsWhole) (arg3 : Memref sig .tc .vmem S4x128x512 .bf16) (harg3 : arg3.IsWhole)
  (arg4 : Memref sig .tc .vmem S2x128x1024 .bf16) (harg4 : arg4.IsWhole) (arg5 : Memref sig .tc .vmem S2x128x128 .bf16) (harg5 : arg5.IsWhole)

theorem writes14 (arg14 : Memref sig .tc .vmem S2x288x1024 .f32) (harg14 : arg14.IsWhole) (f) :
    arg14.view.writes (Elt Ideal) f (kernelRun0_A.sl.H14_2 c arg2 harg2 arg3 harg3 arg4 harg4 (iblk m c 0 t0) (iblk m c 1 t0) (iblk m c 2 t0)) = harg14.unread (Ev m c) := by
  unfold kernelRun0_A.sl.H14_2 kernelRun0_A.sl.r_3
  rw [r_1_eq]
  have hcov : ∀ y : S2x288x1024.Idx, ∀ a : Fin 2, (y 0).val = a.val → ∀ inb, y ∈ (Rect.unit (s := S2x288x1024) ![(a : ℕ), 0, 0] S1x288x1024.size inb).set := by
    intro y a ha inb
    refine mem_rect _ y (ix3 (0 : Fin 1) (y 1) (y 2)) fun d => ?_
    fin_cases d
    · show (y 0).val = a.val + 1 * 0; omega
    · show (y 1).val = 0 + 1 * (y 1).val; omega
    · show (y 2).val = 0 + 1 * (y 2).val; omega
  have cov : ∀ y : S2x288x1024.Idx, (y 0).val = 0 ∨ (y 0).val = 1 := fun y => by
    have : (y 0).val < 2 := (y 0).isLt
    omega
  refine (writes_covered arg14 harg14 f _ fun y => ?_).trans (congrArg harg14.unread (funext fun y => ?_))
  · rcases cov y with h | h
    · exact ⟨_, .tail _ (.head _), hcov y 0 h inb_S2x288x1024_S1x288x1024_0_0_0⟩
    · exact ⟨_, .head _, hcov y 1 h inb_S2x288x1024_S1x288x1024_1_0_0⟩
  · refine View.canon_apply_of_pieces (Val := Elt Ideal) (e := .f32) (Ev m c) _ ?_ _ ?_
    · intro q hq x
      simp only [List.mem_cons, List.not_mem_nil, or_false] at hq
      rcases hq with rfl | rfl
      · refine Eq.trans ?_ (congrArg (Ev m c) (emb14 1 ![((1 : Fin 2) : ℕ), 0, 0] inb_S2x288x1024_S1x288x1024_1_0_0 rfl x)).symm
        refine (congrArg _ (x14 x)).trans ?_
        exact p36_at m c (x 1) (x 2) _ _ (mob_read m c 0 arg4 harg4 _ inb_S2x128x1024_S1x128x1024_0_0_0 rfl) (mob_read m c 1 arg4 harg4 _ inb_S2x128x1024_S1x128x1024_1_0_0 rfl)
      · refine Eq.trans ?_ (congrArg (Ev m c) (emb14 0 ![((0 : Fin 2) : ℕ), 0, 0] inb_S2x288x1024_S1x288x1024_0_0_0 rfl x)).symm
        refine (congrArg _ (x14 x)).trans ?_
        exact p31_at m c (x 1) (x 2) _ _ (mob_read m c 0 arg4 harg4 _ inb_S2x128x1024_S1x128x1024_0_0_0 rfl) (mob_read m c 1 arg4 harg4 _ inb_S2x128x1024_S1x128x1024_1_0_0 rfl)
    · rcases cov y with h | h
      · exact ⟨_, .tail _ (.head _), hcov y 0 h inb_S2x288x1024_S1x288x1024_0_0_0⟩
      · exact ⟨_, .head _, hcov y 1 h inb_S2x288x1024_S1x288x1024_1_0_0⟩

theorem writes16 (arg16 : Memref sig .tc .vmem S2x2x288x128 .f32) (harg16 : arg16.IsWhole) (f) :
    arg16.view.writes (Elt Ideal) f (kernelRun0_A.sl.H16_4 c arg2 harg2 arg3 harg3 arg5 harg5 (iblk m c 0 t0) (iblk m c 1 t0) (iblk m c 3 t0)) = harg16.unread (Zv m c) := by
  unfold kernelRun0_A.sl.H16_4 kernelRun0_A.sl.r_8 kernelRun0_A.sl.r_7 kernelRun0_A.sl.r_6 kernelRun0_A.sl.r_5 kernelRun0_A.sl.r_4 kernelRun0_A.sl.r_3
  rw [r_1_eq]
  have hcov : ∀ y : S2x2x288x128.Idx, ∀ a b : Fin 2, (y 0).val = a.val → (y 1).val = b.val → ∀ inb, y ∈ (Rect.unit (s := S2x2x288x128) ![(a : ℕ), (b : ℕ), 0, 0] S1x1x288x128.size inb).set := by
    intro y a b ha hb inb
    refine mem_rect _ y (ix4 (0 : Fin 1) (0 : Fin 1) (y 2) (y 3)) fun d => ?_
    fin_cases d
    · show (y 0).val = a.val + 1 * 0; omega
    · show (y 1).val = b.val + 1 * 0; omega
    · show (y 2).val = 0 + 1 * (y 2).val; omega
    · show (y 3).val = 0 + 1 * (y 3).val; omega
  have cov : ∀ y : S2x2x288x128.Idx, ((y 0).val = 0 ∨ (y 0).val = 1) ∧ ((y 1).val = 0 ∨ (y 1).val = 1) := fun y => by
    have : (y 0).val < 2 := (y 0).isLt
    have : (y 1).val < 2 := (y 1).isLt
    omega
  refine (writes_covered arg16 harg16 f _ fun y => ?_).trans (congrArg harg16.unread (funext fun y => ?_))
  · obtain ⟨h | h, h' | h'⟩ := cov y
    · exact ⟨_, .tail _ (.tail _ (.tail _ (.head _))), hcov y 0 0 h h' inb_S2x2x288x128_S1x1x288x128_0_0_0_0⟩
    · exact ⟨_, .tail _ (.tail _ (.head _)), hcov y 0 1 h h' inb_S2x2x288x128_S1x1x288x128_0_1_0_0⟩
    · exact ⟨_, .tail _ (.head _), hcov y 1 0 h h' inb_S2x2x288x128_S1x1x288x128_1_0_0_0⟩
    · exact ⟨_, .head _, hcov y 1 1 h h' inb_S2x2x288x128_S1x1x288x128_1_1_0_0⟩
  · refine View.canon_apply_of_pieces (Val := Elt Ideal) (e := .f32) (Zv m c) _ ?_ _ ?_
    · intro q hq x
      simp only [List.mem_cons, List.not_mem_nil, or_false] at hq
      rcases hq with rfl | rfl | rfl | rfl
      · refine Eq.trans ?_ (congrArg (Zv m c) (emb16 1 1 ![((1 : Fin 2) : ℕ), ((1 : Fin 2) : ℕ), 0, 0] inb_S2x2x288x128_S1x1x288x128_1_1_0_0 rfl x)).symm
        refine (congrArg _ (x16 x)).trans ?_
        exact p696_at m c (x 2) (x 3) 1 _ _ (zpm_read m c 1 arg5 harg5 _ inb_S2x128x128_S1x128x128_1_0_0 rfl) (zpm_read m c 1 arg5 harg5 _ inb_S2x128x128_S1x128x128_1_0_0 rfl)
      · refine Eq.trans ?_ (congrArg (Zv m c) (emb16 1 0 ![((1 : Fin 2) : ℕ), ((0 : Fin 2) : ℕ), 0, 0] inb_S2x2x288x128_S1x1x288x128_1_0_0_0 rfl x)).symm
        refine (congrArg _ (x16 x)).trans ?_
        exact p695_at m c (x 2) (x 3) 0 _ _ (zpm_read m c 0 arg5 harg5 _ inb_S2x128x128_S1x128x128_0_0_0 rfl) (zpm_read m c 0 arg5 harg5 _ inb_S2x128x128_S1x128x128_0_0_0 rfl)
      · refine Eq.trans ?_ (congrArg (Zv m c) (emb16 0 1 ![((0 : Fin 2) : ℕ), ((1 : Fin 2) : ℕ), 0, 0] inb_S2x2x288x128_S1x1x288x128_0_1_0_0 rfl x)).symm
        refine (congrArg _ (x16 x)).trans ?_
        exact p33_at m c (x 2) (x 3) 1 _ _ (zpm_read m c 1 arg5 harg5 _ inb_S2x128x128_S1x128x128_1_0_0 rfl) (zpm_read m c 1 arg5 harg5 _ inb_S2x128x128_S1x128x128_1_0_0 rfl)
      · refine Eq.trans ?_ (congrArg (Zv m c) (emb16 0 0 ![((0 : Fin 2) : ℕ), ((0 : Fin 2) : ℕ), 0, 0] inb_S2x2x288x128_S1x1x288x128_0_0_0_0 rfl x)).symm
        refine (congrArg _ (x16 x)).trans ?_
        exact p32_at m c (x 2) (x 3) 0 _ _ (zpm_read m c 0 arg5 harg5 _ inb_S2x128x128_S1x128x128_0_0_0 rfl) (zpm_read m c 0 arg5 harg5 _ inb_S2x128x128_S1x128x128_0_0_0 rfl)
    · obtain ⟨h | h, h' | h'⟩ := cov y
      · exact ⟨_, .tail _ (.tail _ (.tail _ (.head _))), hcov y 0 0 h h' inb_S2x2x288x128_S1x1x288x128_0_0_0_0⟩
      · exact ⟨_, .tail _ (.tail _ (.head _)), hcov y 0 1 h h' inb_S2x2x288x128_S1x1x288x128_0_1_0_0⟩
      · exact ⟨_, .tail _ (.head _), hcov y 1 0 h h' inb_S2x2x288x128_S1x1x288x128_1_0_0_0⟩
      · exact ⟨_, .head _, hcov y 1 1 h h' inb_S2x2x288x128_S1x1x288x128_1_1_0_0⟩

end

theorem pile13w (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole)  (k0_h1 : k0_cond1 i = 1#1) (v197 : IVec S8x128 32) (v198 : Vec Ideal S8x1024 .f32) (E : Vec Ideal S2x288x1024 .f32) (X14 : BufTy.Contents (Elt Ideal) arg14.view.ty) (hX : X14 = harg14.unread E)
    (X16 : BufTy.Contents (Elt Ideal) arg16.view.ty) (O : Fin 192) (a : Fin 32) (b : Fin 1024) :
    View.canon (pile (fun k : Fin k0_t1_loop.trips => (trip1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X14 X16 k).1) 96) (ix3 O a b) = lg E v198 O a b := by
  subst hX
  exact pile13 ..

theorem pile15w (𝒱 : Variants) (c : Dev nD) (bd : Option 𝒱.V) (i : grid0.Coords) (arg2 : Memref sig .tc .vmem S288x128 .bf16) (harg2 : arg2.IsWhole) (arg3 : Memref sig .tc .vmem S4x128x512 .bf16) (harg3 : arg3.IsWhole) (arg4 : Memref sig .tc .vmem S2x128x1024 .bf16) (harg4 : arg4.IsWhole) (arg5 : Memref sig .tc .vmem S2x128x128 .bf16) (harg5 : arg5.IsWhole) (arg6 : Memref sig .tc .vmem S8x1024 .f32) (harg6 : arg6.IsWhole) (arg7 : Memref sig .tc .vmem S4x1024x512 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x3x4x256 .f32) (harg10 : arg10.IsWhole) (arg11 : Memref sig .tc .vmem S288x512 .i8) (harg11 : arg11.IsWhole) (arg12 : Memref sig .tc .vmem S288x128 .f32) (harg12 : arg12.IsWhole) (arg13 : Memref sig .tc .vmem S192x32x1024 .bf16) (harg13 : arg13.IsWhole) (arg14 : Memref sig .tc .vmem S2x288x1024 .f32) (harg14 : arg14.IsWhole) (arg15 : Memref sig .tc .vmem S192x3x8x128 .f32) (harg15 : arg15.IsWhole) (arg16 : Memref sig .tc .vmem S2x2x288x128 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x256 .i32) (harg19 : arg19.IsWhole) (arg20 : Memref sig .tc .vmem S3x8x256 .f32) (harg20 : arg20.IsWhole)  (k0_h1 : k0_cond1 i = 1#1) (v197 : IVec S8x128 32) (hv : ∀ r l, v197 (ix2 r l) = BitVec.ofNat 32 r) (v198 : Vec Ideal S8x1024 .f32) (X14 : BufTy.Contents (Elt Ideal) arg14.view.ty)
    (X16 : BufTy.Contents (Elt Ideal) arg16.view.ty) (Z : Vec Ideal S2x2x288x128 .f32) (hX : X16 = harg16.unread Z) (O : Fin 192) (t : Fin 3) (a : Fin 8) (b : Fin 128) :
    View.canon (pile (fun k : Fin k0_t1_loop.trips => (trip1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 v197 v198 X14 X16 k).2.1) 96) (ix4 O t a b) = zg Z O t a b := by
  subst hX
  exact pile15 (hv := hv) ..

/-- The mask of the table of left operands. -/
def mk : Vec Ideal S8x1024 .f32 := View.readAt (Elt Ideal) (ms0_4 t0).view (Rect.unit (s := S8x1024) ![0, 0] S8x1024.size inb_S8x1024_S8x1024_0_0).toLoadRect ((hs0_4 t0).unread (iblk m c 4 t0))

theorem mk_at (r : Fin 8) (l : Fin 1024) : mk m c (ix2 r l) = if (l : ℕ) / 16 % 2 = r / 4 then if (l : ℕ) % 4 = r % 4 then (1 : EReal) else 0 else 0 := by
  refine (View.readAt_apply ..).trans ?_
  rw [(hs0_4 t0).read_unread]
  refine Eq.trans (congrArg (iblk m c 4 t0) (funext fun a => Fin.ext ?_)) ((iblk_mask m c r l).trans (V_mask m c r l))
  fin_cases a
  · show 0 + 1 * r.val = r.val; omega
  · show 0 + 1 * l.val = l.val; omega

theorem lhs0_lg (O : Fin 192) (a : Fin 32) (b : Fin 1024) : lhs0 m c (ix3 O a b) = lg (Ev m c) (mk m c) O a b := by
  unfold lhs0 run0 runA kernelRun0_A
  dsimp only
  refine (congrFun (Memref.IsWhole.read_unread (m := scM0_0) (Memref.isWhole_whole _) _) _).trans ?_
  exact pile13w (hX := writes14 ..) ..

theorem v197_at (r : Fin 8) (l : Fin 128) : kernelRun0_A.sl.v197 (ix2 r l) = BitVec.ofNat 32 r := by
  unfold kernelRun0_A.sl.v197
  pointwise []

theorem zp0_zg (O : Fin 192) (t : Fin 3) (a : Fin 8) (b : Fin 128) : zp0 m c (ix4 O t a b) = zg (Zv m c) O t a b := by
  unfold zp0 run0 runA kernelRun0_A
  dsimp only
  refine (congrFun (Memref.IsWhole.read_unread (m := scM0_2) (Memref.isWhole_whole _) _) _).trans ?_
  exact pile15w (hv := v197_at) (hX := writes16 ..) ..

theorem EvF_eq (a : Fin 2) (r : Fin 288) (κ : Fin 1024) (t : Fin 3) (O : Fin 192) (e1 : tk r = t) (e2 : (gr r : ℕ) * 2 + a = O) :
    EvF m c a r κ = ((eo (CC (xk m c) t O) ⟨κ / 4 % 8, by omega⟩ (κ / 32) * 512 : ℝ) : EReal) := by
  subst e1
  unfold EvF
  rw [show (⟨(gr r : ℕ) * 2 + a, by omega⟩ : Fin 192) = O from Fin.ext e2]

theorem ZvF_eq (a : Fin 2) (b : Fin 2) (r : Fin 288) (t : Fin 3) (O : Fin 192) (e1 : tk r = t) (e2 : (gr r : ℕ) * 2 + a = O) :
    ZvF m c a b r = (((zz (xk m c) t O b : ℤ) : ℝ) : EReal) := by
  subst e1
  unfold ZvF
  rw [show (⟨(gr r : ℕ) * 2 + a, by omega⟩ : Fin 192) = O from Fin.ext e2]

theorem lhs0_at (O : Fin 192) (t : Fin 3) (r : Fin 8) (κ : Fin 1024) : lhs0 m c (ix3 O ⟨t * 8 + r, by omega⟩ κ)
    = if (κ : ℕ) / 16 % 2 = r / 4 then if (κ : ℕ) % 4 = r % 4 then ((eo (CC (xk m c) t O) ⟨κ / 4 % 8, by omega⟩ (κ / 32) * 512 : ℝ) : EReal) else 0 else 0 := by
  rw [lhs0_lg]
  unfold lg
  rw [dif_pos (show t.val * 8 + r.val < 24 by omega)]
  refine (congrArg₂ (· * ·) (?_ : _ = ((eo (CC (xk m c) t O) ⟨κ / 4 % 8, by omega⟩ (κ / 32) * 512 : ℝ) : EReal)) ((congrArg (mk m c) (congrArg (ix2 · κ) (?_ : _ = r))).trans (mk_at m c r κ))).trans ?_
  · exact EvF_eq m c _ _ κ t O (Fin.ext (by show (96 * ((t.val * 8 + r.val) / 8) + O.val / 2) / 96 = t.val; omega)) (by show (96 * ((t.val * 8 + r.val) / 8) + O.val / 2) % 96 * 2 + O.val % 2 = O.val; omega)
  · exact Fin.ext (by show (t.val * 8 + r.val) % 8 = r.val; omega)
  · split
    · split
      · rw [mul_one]
      · rw [mul_zero]
    · rw [mul_zero]

theorem zp0_at (O : Fin 192) (t : Fin 3) (r : Fin 8) (l : Fin 128) : zp0 m c (ix4 O t r l) = (((zz (xk m c) t O (r / 4) : ℤ) : ℝ) : EReal) := by
  rw [zp0_zg]
  unfold zg
  exact ZvF_eq m c _ ⟨r.val / 4, by omega⟩ _ t O (Fin.ext (by show (96 * t.val + O.val / 2) / 96 = t.val; omega)) (by show (96 * t.val + O.val / 2) % 96 * 2 + O.val % 2 = O.val; omega)

end Cert.KernelIdeal.Val
-- ==== Proof.V.Tail.lean ====
module

public import proofs.«01_k».proof.Proof.V.Codes
public import proofs.«01_k».proof.Proof.V.Blocks
public import proofs.«01_k».proof.Proof.V.Tabs
public import Idealize.ShloMosaic.Lib.Claim

/-! The host lines after the call, and what the kernel's results hold at the end. -/

@[expose] public section

set_option maxRecDepth 16384

noncomputable section

namespace Cert.KernelIdeal.Val

open Idealize.ShloMosaic Idealize.ShloMosaic.TcCoe Idealize.SL.Sem Cert.KernelIdeal Cert.KernelIdeal.Gen
open Cert.Val

variable (m : (ℓ : Loc nD τ sig) → Buf (Elt Ideal) ℓ) (c : Dev nD)

theorem arrs_inj : Function.Injective (Pipeline.arrRef spec0) := by decide

/-- What the arrays of the call hold when the lines after it start. -/
theorem arr9 : Pipeline.withArrays (cfgs 0).spec c (V0 m c) (fun w => (dats m 0 c).arrAt w (cfgs 0).N) (Proc.tc.devRef main_v143_1) = codes0 m c :=
  (Pipeline.withArrays_arr spec0 arrs_inj c (V0 m c) (fun w => (dats m 0 c).arrAt w (cfgs 0).N) 9).trans (final9 m c)

theorem arr10 : Pipeline.withArrays (cfgs 0).spec c (V0 m c) (fun w => (dats m 0 c).arrAt w (cfgs 0).N) (Proc.tc.devRef main_v143_2) = lut0 m c :=
  (Pipeline.withArrays_arr spec0 arrs_inj c (V0 m c) (fun w => (dats m 0 c).arrAt w (cfgs 0).N) 10).trans (final10 m c)

theorem tabs : Tabs m c := ⟨lhs0_at m c, zp0_at m c⟩

theorem arr8 : Pipeline.withArrays (cfgs 0).spec c (V0 m c) (fun w => (dats m 0 c).arrAt w (cfgs 0).N) (Proc.tc.devRef main_v143_0) = yarr m c :=
  (Pipeline.withArrays_arr spec0 arrs_inj c (V0 m c) (fun w => (dats m 0 c).arrAt w (cfgs 0).N) 8).trans (final8 m c (tabs m c))

theorem tail_y (t : Fin 3) (n : Fin 9216) : Pipeline.afterTail₀ cfgs (dats m) 0 (V0 m) [hostOps1] c main_v146 (ix3 t 0 n)
    = yq m c ⟨n / 1024, by omega⟩ t ⟨n % 4, by omega⟩ ⟨n / 4 % 256, by omega⟩ := by
  unfold Pipeline.afterTail₀
  simp only [hostOps1, List.flatten_cons, List.flatten_nil, List.append_nil, StableHlo.TRef.binary, StableHlo.TRef.ternary, StableHlo.TRef.unary, StableHlo.TRef.toBuf, StableHlo.TRef.ofBuf, cast_eq]
  after_results_simp
  rw [arr8]
  pointwise
  rfl

/-- Where the entry for token `t`, quad `q`, entry `e` lies among the stored codes. -/
theorem code_place {α : Type} (f : Fin 3 → Fin 3072 → Fin 16 → α) (t : Fin 3) (q : Fin 3072) (e : Fin 16)
    (h : (t : ℕ) * 96 + q / 32 < 288) (h' : (q : ℕ) / 16 % 2 * 256 + q % 2 * 128 + e * 8 + q / 2 % 8 < 512) :
    f (tk ⟨(t : ℕ) * 96 + q / 32, h⟩) (qd (gr ⟨(t : ℕ) * 96 + q / 32, h⟩) ⟨(q : ℕ) / 16 % 2 * 256 + q % 2 * 128 + e * 8 + q / 2 % 8, h'⟩) (en ⟨(q : ℕ) / 16 % 2 * 256 + q % 2 * 128 + e * 8 + q / 2 % 8, h'⟩) = f t q e := by
  have e1 : ∀ h, tk ⟨(t : ℕ) * 96 + q / 32, h⟩ = t := fun _ => Fin.ext (by simp only [tk]; omega)
  have e2 : ∀ h, gr ⟨(t : ℕ) * 96 + q / 32, h⟩ = ⟨q / 32, by omega⟩ := fun _ => Fin.ext (by simp only [gr]; omega)
  have e3 : ∀ h', (⟨(q : ℕ) / 16 % 2 * 256 + q % 2 * 128 + e * 8 + q / 2 % 8, h'⟩ : Fin 512) = lane ⟨q % 32, by omega⟩ e := by
    intro h'
    have a1 : (q : ℕ) % 32 / 16 = q / 16 % 2 := by omega
    have a2 : (q : ℕ) % 32 % 2 = q % 2 := by omega
    have a3 : (q : ℕ) % 32 % 16 / 2 = q / 2 % 8 := by omega
    apply Fin.ext
    show _ = (q : ℕ) % 32 / 16 * 256 + q % 32 % 2 * 128 + e * 8 + q % 32 % 16 / 2
    rw [a1, a2, a3]
  have e4 : ∀ h, (⟨(q : ℕ) / 32 * 32 + q % 32, h⟩ : Fin 3072) = q := fun _ => Fin.ext (by show (q : ℕ) / 32 * 32 + q % 32 = q; omega)
  rw [e1, e2, e3, qd_lane, en_lane]
  exact congrArg (fun q => f t q e) (e4 _)

theorem tail_codes (t : Fin 3) (q : Fin 3072) (e : Fin 16) :
    Pipeline.afterTail₀ cfgs (dats m) 0 (V0 m) [hostOps1] c main_v149 (ix4 t 0 q e) = BitVec.ofInt 8 (ci (xk m c) t q e) := by
  unfold Pipeline.afterTail₀
  simp only [hostOps1, List.flatten_cons, List.flatten_nil, List.append_nil, StableHlo.TRef.binary, StableHlo.TRef.ternary, StableHlo.TRef.unary, StableHlo.TRef.toBuf, StableHlo.TRef.ofBuf, cast_eq]
  after_results_simp
  rw [arr9]
  pointwise
  rw [codes0_apply]
  exact code_place (fun t q e => BitVec.ofInt 8 (ci (xk m c) t q e)) t q e _ _

theorem tail_scale (t : Fin 3) (g : Fin 96) : Pipeline.afterTail₀ cfgs (dats m) 0 (V0 m) [hostOps1] c main_v152 (ix3 t 0 g) = sv (xk m c) t g := by
  unfold Pipeline.afterTail₀
  simp only [hostOps1, List.flatten_cons, List.flatten_nil, List.append_nil, StableHlo.TRef.binary, StableHlo.TRef.ternary, StableHlo.TRef.unary, StableHlo.TRef.toBuf, StableHlo.TRef.ofBuf, cast_eq]
  after_results_simp
  rw [arr10]
  pointwise
  rw [lut0_apply]
  have e1 : ∀ h, tk ⟨(t : ℕ) * 96 + g, h⟩ = t := fun _ => Fin.ext (by simp only [tk]; omega)
  have e2 : ∀ h, gr ⟨(t : ℕ) * 96 + g, h⟩ = g := fun _ => Fin.ext (by simp only [gr]; omega)
  rw [e1, e2]

/-- The kernel's run, with what its results hold and its arguments unchanged. -/
theorem run (ρ : Dev nD → PrngReg) : θ_run defs (onTc (τ := τ) (main (F := Ideal))) ⟨m, fun _ => 0, ρ⟩ (fun r => ∀ c : Dev nD,
    (r.2.mem ((c.tc : Thread nD τ).loc main_v146) = Pipeline.afterTail₀ cfgs (dats m) 0 (V0 m) [hostOps1] c main_v146
    ∧ r.2.mem ((c.tc : Thread nD τ).loc main_v149) = Pipeline.afterTail₀ cfgs (dats m) 0 (V0 m) [hostOps1] c main_v149
    ∧ r.2.mem ((c.tc : Thread nD τ).loc main_v152) = Pipeline.afterTail₀ cfgs (dats m) 0 (V0 m) [hostOps1] c main_v152)) :=
  (θ_run defs _ _).mono (fun _ h c => ⟨(h c).2 main_v146 (Pipeline.mem_restRefs_of main_v146 (by decide) (by decide)), (h c).2 main_v149 (Pipeline.mem_restRefs_of main_v149 (by decide) (by decide)),
    (h c).2 main_v152 (Pipeline.mem_restRefs_of main_v152 (by decide) (by decide))⟩) (run_main m ρ)

end Cert.KernelIdeal.Val
-- ==== Proof.V.Ref.lean ====
module

public import proofs.«01_k».proof.Proof.Gen.ReferenceIdeal.Run
public import Idealize.ShloMosaic.Lib.Pointwise
public import Idealize.ShloMosaic.Lib.ValueIdx
public import proofs.«01_k».proof.Proof.V.Spec

/-! The reference's results, cut into named vector terms. -/

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem Idealize.ShloMosaic.StableHlo

def T (X : FVec Ideal S3x1x12288 .bf16) : FVec Ideal S3x1x3072x16 .f32 :=
  addf (addf (addf (addf (broadcastInDim S3x1x3072x16 ![] bcast_S_S3x1x3072x16 (constant (F := Ideal) S_ .f32 0x00000000#32)) (mulf (broadcastInDim S3x1x3072x16 ![0, 1, 2, 3] bcast_S1x1x1x16_S3x1x3072x16_0_1_2_3 (broadcastInDim S1x1x1x16 ![3] bcast_S16_S1x1x1x16_3 (shapeCast _ (extractStridedSlice S16x1 ![0, 0] (sitofp (F := Ideal) .f32 (andi (Host.shrsi (broadcastInDim S16x4 ![0, 1] bcast_S16x1_S16x4_0_1 (broadcastInDim S16x1 ![0] bcast_S16_S16x1_0 (iotaInDim S16 32 0))) (broadcastInDim S16x4 ![0, 1] bcast_S1x4_S16x4_0_1 (broadcastInDim S1x4 ![1] bcast_S4_S1x4_1 (iotaInDim S4 32 0)))) (broadcastInDim S16x4 ![] bcast_S_S16x4 (constantI S_ 32 1#32)))) slices_S16x4_S16x1_0_0) shapeCasts_S16x1_S16))) (broadcastInDim S3x1x3072x16 ![0, 1, 2, 3] bcast_S3x1x3072x1_S3x1x3072x16_0_1_2_3 (extractStridedSlice S3x1x3072x1 ![0, 0, 0, 0] (shapeCast _ (extf .f32 X bitsLt_bf16_f32) shapeCasts_S3x1x12288_S3x1x3072x4) slices_S3x1x3072x4_S3x1x3072x1_0_0_0_0)))) (mulf (broadcastInDim S3x1x3072x16 ![0, 1, 2, 3] bcast_S1x1x1x16_S3x1x3072x16_0_1_2_3 (broadcastInDim S1x1x1x16 ![3] bcast_S16_S1x1x1x16_3 (shapeCast _ (extractStridedSlice S16x1 ![0, 1] (sitofp (F := Ideal) .f32 (andi (Host.shrsi (broadcastInDim S16x4 ![0, 1] bcast_S16x1_S16x4_0_1 (broadcastInDim S16x1 ![0] bcast_S16_S16x1_0 (iotaInDim S16 32 0))) (broadcastInDim S16x4 ![0, 1] bcast_S1x4_S16x4_0_1 (broadcastInDim S1x4 ![1] bcast_S4_S1x4_1 (iotaInDim S4 32 0)))) (broadcastInDim S16x4 ![] bcast_S_S16x4 (constantI S_ 32 1#32)))) slices_S16x4_S16x1_0_1) shapeCasts_S16x1_S16))) (broadcastInDim S3x1x3072x16 ![0, 1, 2, 3] bcast_S3x1x3072x1_S3x1x3072x16_0_1_2_3 (extractStridedSlice S3x1x3072x1 ![0, 0, 0, 1] (shapeCast _ (extf .f32 X bitsLt_bf16_f32) shapeCasts_S3x1x12288_S3x1x3072x4) slices_S3x1x3072x4_S3x1x3072x1_0_0_0_1)))) (mulf (broadcastInDim S3x1x3072x16 ![0, 1, 2, 3] bcast_S1x1x1x16_S3x1x3072x16_0_1_2_3 (broadcastInDim S1x1x1x16 ![3] bcast_S16_S1x1x1x16_3 (shapeCast _ (extractStridedSlice S16x1 ![0, 2] (sitofp (F := Ideal) .f32 (andi (Host.shrsi (broadcastInDim S16x4 ![0, 1] bcast_S16x1_S16x4_0_1 (broadcastInDim S16x1 ![0] bcast_S16_S16x1_0 (iotaInDim S16 32 0))) (broadcastInDim S16x4 ![0, 1] bcast_S1x4_S16x4_0_1 (broadcastInDim S1x4 ![1] bcast_S4_S1x4_1 (iotaInDim S4 32 0)))) (broadcastInDim S16x4 ![] bcast_S_S16x4 (constantI S_ 32 1#32)))) slices_S16x4_S16x1_0_2) shapeCasts_S16x1_S16))) (broadcastInDim S3x1x3072x16 ![0, 1, 2, 3] bcast_S3x1x3072x1_S3x1x3072x16_0_1_2_3 (extractStridedSlice S3x1x3072x1 ![0, 0, 0, 2] (shapeCast _ (extf .f32 X bitsLt_bf16_f32) shapeCasts_S3x1x12288_S3x1x3072x4) slices_S3x1x3072x4_S3x1x3072x1_0_0_0_2)))) (mulf (broadcastInDim S3x1x3072x16 ![0, 1, 2, 3] bcast_S1x1x1x16_S3x1x3072x16_0_1_2_3 (broadcastInDim S1x1x1x16 ![3] bcast_S16_S1x1x1x16_3 (shapeCast _ (extractStridedSlice S16x1 ![0, 3] (sitofp (F := Ideal) .f32 (andi (Host.shrsi (broadcastInDim S16x4 ![0, 1] bcast_S16x1_S16x4_0_1 (broadcastInDim S16x1 ![0] bcast_S16_S16x1_0 (iotaInDim S16 32 0))) (broadcastInDim S16x4 ![0, 1] bcast_S1x4_S16x4_0_1 (broadcastInDim S1x4 ![1] bcast_S4_S1x4_1 (iotaInDim S4 32 0)))) (broadcastInDim S16x4 ![] bcast_S_S16x4 (constantI S_ 32 1#32)))) slices_S16x4_S16x1_0_3) shapeCasts_S16x1_S16))) (broadcastInDim S3x1x3072x16 ![0, 1, 2, 3] bcast_S3x1x3072x1_S3x1x3072x16_0_1_2_3 (extractStridedSlice S3x1x3072x1 ![0, 0, 0, 3] (shapeCast _ (extf .f32 X bitsLt_bf16_f32) shapeCasts_S3x1x12288_S3x1x3072x4) slices_S3x1x3072x4_S3x1x3072x1_0_0_0_3)))
def M (X : FVec Ideal S3x1x12288 .bf16) : FVec Ideal S3x1x96 .f32 :=
  Host.reduce FloatOps.maximumf (Host.absf (shapeCast S3x1x96x32x16 (T X) shapeCasts_S3x1x3072x16_S3x1x96x32x16)) (constant S_ .f32 0xFF800000#32) reducesTo_S3x1x96x32x16_S3x1x96_d3_4 h_S_
def SC (X : FVec Ideal S3x1x12288 .bf16) : FVec Ideal S3x1x96 .f32 :=
  select (cmpf .oeq (M X) (broadcastInDim S3x1x96 ![] bcast_S_S3x1x96 (constant S_ .f32 0x00000000#32))) (broadcastInDim S3x1x96 ![] bcast_S_S3x1x96 (id (constant S_ .f32 0x3F800000#32))) (Host.divf (M X) (broadcastInDim S3x1x96 ![] bcast_S_S3x1x96 (constant S_ .f32 0x42FE0000#32)))
def C (X : FVec Ideal S3x1x12288 .bf16) : IVec S3x1x3072x16 8 :=
  shapeCast _ (trunci 8 (fptosi 32 (minimumf (broadcastInDim S3x1x96x32x16 ![] bcast_S_S3x1x96x32x16 (sitofp .f32 (constantI S_ 32 127#32))) (maximumf (broadcastInDim S3x1x96x32x16 ![] bcast_S_S3x1x96x32x16 (sitofp .f32 (constantI S_ 32 4294967169#32))) (Host.roundeven (Host.divf (shapeCast S3x1x96x32x16 (T X) shapeCasts_S3x1x3072x16_S3x1x96x32x16) (broadcastInDim S3x1x96x32x16 ![0, 1, 2, 3, 4] bcast_S3x1x96x1x1_S3x1x96x32x16_0_1_2_3_4 (broadcastInDim S3x1x96x1x1 ![0, 1, 2] bcast_S3x1x96_S3x1x96x1x1_0_1_2 (SC X)))))))) natLt_8_32) shapeCasts_S3x1x96x32x16_S3x1x3072x16

variable (m : (ℓ : Loc nD τ sig) → Buf (Elt Ideal) ℓ) (c : Dev nD)

theorem res52 : res_main_v52 m c = SC (m ((c.tc : Thread nD τ).loc main_arg0)) := rfl
theorem res60 : res_main_v60 m c = C (m ((c.tc : Thread nD τ).loc main_arg0)) := rfl

/-- The entries of the argument `x` by token and position. -/
abbrev xa (X : FVec Ideal S3x1x12288 .bf16) : Fin 3 → Fin 12288 → EReal := fun t j => X (ix3 t 0 j)

theorem T_apply (X : FVec Ideal S3x1x12288 .bf16) (t : Fin 3) (q : Fin 3072) (e : Fin 16) : T X (ix4 t 0 q e) = Cert.Val.tv (xa X) t q e := by
  pointwise [T]
  have h := fun i : Fin 4 => (congrArg (FloatOps.sitofp (F := Ideal) .f32) (Cert.Val.bit_word e i)).trans (Cert.Val.sitofp_bit e i)
  have h0 := h 0; have h1 := h 1; have h2 := h 2; have h3 := h 3
  simp only [Fin.val_zero, Fin.val_one, Fin.val_two, show ((3 : Fin 4) : ℕ) = 3 from rfl] at h0 h1 h2 h3
  rw [h0, h1, h2, h3]
  rfl

theorem absT (X : FVec Ideal S3x1x12288 .bf16) (t : Fin 3) (g : Fin 96) (a : Fin 3) (b : Fin 96) (k : Fin 32) (e : Fin 16) (ha : a = t) (hb : b = g) :
    FloatOps.absf (T X (ix4 a 0 ⟨b * 32 + k, by omega⟩ e))
      = max (Cert.Val.tv (xa X) t ⟨g * 32 + k, by omega⟩ e) (-Cert.Val.tv (xa X) t ⟨g * 32 + k, by omega⟩ e) := by
  subst ha hb
  rw [T_apply]
  rfl

theorem M_apply (X : FVec Ideal S3x1x12288 .bf16) (t : Fin 3) (g : Fin 96) : M X (ix3 t 0 g) = Cert.Val.mv (xa X) t g := by
  pointwise [M]
  refine Cert.Val.fold_eq_mv _ _ _ _ _ (fun i hi => ?_) (fun k e => ?_)
  · have hd := (Finset.mem_filter.1 hi).2
    have e0 : i 0 = t := congrFun hd 0
    have e2 : i 2 = g := congrFun hd 2
    refine ⟨i 3, i 4, ?_⟩
    exact absT X t g _ _ _ _ e0 e2
  · refine ⟨ix5 t 0 g k e, Finset.mem_filter.2 ⟨Finset.mem_univ _, ?_⟩, ?_⟩
    · funext a; fin_cases a <;> rfl
    · exact absT X t g _ _ _ _ rfl rfl

theorem SC_apply (X : FVec Ideal S3x1x12288 .bf16) (t : Fin 3) (g : Fin 96) : SC X (ix3 t 0 g) = Cert.Val.sv (xa X) t g := by
  pointwise [SC, id]
  rw [M_apply]
  rfl

theorem C_apply (X : FVec Ideal S3x1x12288 .bf16) (t : Fin 3) (q : Fin 3072) (e : Fin 16) : C X (ix4 t 0 q e) = BitVec.ofInt 8 (Cert.Val.ci (xa X) t q e) := by
  pointwise [C]
  rw [T_apply, SC_apply]
  exact Cert.Val.fptosi32 _ _ _ _

end Cert.ReferenceIdeal.Val
-- ==== Proof.V.RefY.lean ====
module

public import proofs.«01_k».proof.Proof.V.Ref

/-! The reference's first result, entry by entry. -/

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem Idealize.ShloMosaic.StableHlo

def G0 (X : FVec Ideal S3x1x12288 .bf16) (W : IVec S4x9216x1536 8) : IVec S3x1x4x9216x1536 8 :=
  Host.gather gather_S3x1x1536x16_S4x9216x1536x2_S3x1x4x9216x1536_01_23_n_n_23_3_3111 (shapeCast _ (extractStridedSlice S3x1x1536x1x16 ![0, 0, 0, 0, 0] (shapeCast _ (C X) shapeCasts_S3x1x3072x16_S3x1x1536x2x16) slices_S3x1x1536x2x16_S3x1x1536x1x16_0_0_0_0_0) shapeCasts_S3x1x1536x1x16_S3x1x1536x16) (concatenate S4x9216x1536x2 3 [⟨S4x9216x1536x1, (broadcastInDim S4x9216x1536x1 ![0, 1, 2] bcast_S4x9216x1536_S4x9216x1536x1_0_1_2 (broadcastInDim S4x9216x1536 ![2] bcast_S1536_S4x9216x1536_2 (select (cmpi .slt (iotaInDim S1536 32 0) (broadcastInDim S1536 ![] bcast_S_S1536 (constantI S_ 32 0#32))) (addi (iotaInDim S1536 32 0) (broadcastInDim S1536 ![] bcast_S_S1536 (constantI S_ 32 1536#32))) (iotaInDim S1536 32 0)))) ⟩, ⟨S4x9216x1536x1, (broadcastInDim S4x9216x1536x1 ![0, 1, 2] bcast_S4x9216x1536_S4x9216x1536x1_0_1_2 (select (cmpi .slt (andi (extui 32 W natLt_8_32) (broadcastInDim S4x9216x1536 ![] bcast_S_S4x9216x1536 (constantI S_ 32 15#32))) (broadcastInDim S4x9216x1536 ![] bcast_S_S4x9216x1536 (constantI S_ 32 0#32))) (addi (andi (extui 32 W natLt_8_32) (broadcastInDim S4x9216x1536 ![] bcast_S_S4x9216x1536 (constantI S_ 32 15#32))) (broadcastInDim S4x9216x1536 ![] bcast_S_S4x9216x1536 (constantI S_ 32 16#32))) (andi (extui 32 W natLt_8_32) (broadcastInDim S4x9216x1536 ![] bcast_S_S4x9216x1536 (constantI S_ 32 15#32))))) ⟩] concatenates_S4x9216x1536x1_S4x9216x1536x1_S4x9216x1536x2_d3)
def G1 (X : FVec Ideal S3x1x12288 .bf16) (W : IVec S4x9216x1536 8) : IVec S3x1x4x9216x1536 8 :=
  Host.gather gather_S3x1x1536x16_S4x9216x1536x2_S3x1x4x9216x1536_01_23_n_n_23_3_3111 (shapeCast _ (extractStridedSlice S3x1x1536x1x16 ![0, 0, 0, 1, 0] (shapeCast _ (C X) shapeCasts_S3x1x3072x16_S3x1x1536x2x16) slices_S3x1x1536x2x16_S3x1x1536x1x16_0_0_0_1_0) shapeCasts_S3x1x1536x1x16_S3x1x1536x16) (concatenate S4x9216x1536x2 3 [⟨S4x9216x1536x1, (broadcastInDim S4x9216x1536x1 ![0, 1, 2] bcast_S4x9216x1536_S4x9216x1536x1_0_1_2 (broadcastInDim S4x9216x1536 ![2] bcast_S1536_S4x9216x1536_2 (select (cmpi .slt (iotaInDim S1536 32 0) (broadcastInDim S1536 ![] bcast_S_S1536 (constantI S_ 32 0#32))) (addi (iotaInDim S1536 32 0) (broadcastInDim S1536 ![] bcast_S_S1536 (constantI S_ 32 1536#32))) (iotaInDim S1536 32 0)))) ⟩, ⟨S4x9216x1536x1, (broadcastInDim S4x9216x1536x1 ![0, 1, 2] bcast_S4x9216x1536_S4x9216x1536x1_0_1_2 (select (cmpi .slt (Host.shrsi (extui 32 W natLt_8_32) (broadcastInDim S4x9216x1536 ![] bcast_S_S4x9216x1536 (constantI S_ 32 4#32))) (broadcastInDim S4x9216x1536 ![] bcast_S_S4x9216x1536 (constantI S_ 32 0#32))) (addi (Host.shrsi (extui 32 W natLt_8_32) (broadcastInDim S4x9216x1536 ![] bcast_S_S4x9216x1536 (constantI S_ 32 4#32))) (broadcastInDim S4x9216x1536 ![] bcast_S_S4x9216x1536 (constantI S_ 32 16#32))) (Host.shrsi (extui 32 W natLt_8_32) (broadcastInDim S4x9216x1536 ![] bcast_S_S4x9216x1536 (constantI S_ 32 4#32))))) ⟩] concatenates_S4x9216x1536x1_S4x9216x1536x1_S4x9216x1536x2_d3)
def AC (X : FVec Ideal S3x1x12288 .bf16) (W : IVec S4x9216x1536 8) : FVec Ideal S3x1x9216x384 .f32 :=
  sitofp .f32 (Host.reduce IntOp.addi (muli (Host.reduce IntOp.addi (shapeCast _ (addi (extsi 32 (G0 X W) natLt_8_32) (extsi 32 (G1 X W) natLt_8_32)) shapeCasts_S3x1x4x9216x1536_S3x1x4x9216x384x4) (constantI S_ 32 0#32) reducesTo_S3x1x4x9216x384x4_S3x1x4x9216x384_d5 h_S_) (broadcastInDim S3x1x4x9216x384 ![0, 1, 2, 3, 4] bcast_S1x1x4x1x1_S3x1x4x9216x384_0_1_2_3_4 (broadcastInDim S1x1x4x1x1 ![2, 3, 4] bcast_S4x1x1_S1x1x4x1x1_2_3_4 (broadcastInDim S4x1x1 ![0] bcast_S4_S4x1x1_0 (Host.shli (broadcastInDim S4 ![] bcast_S_S4 (constantI S_ 32 1#32)) (iotaInDim S4 32 0)))))) (constantI S_ 32 0#32) reducesTo_S3x1x4x9216x384_S3x1x9216x384_d2 h_S_)
def ZP (X : FVec Ideal S3x1x12288 .bf16) : FVec Ideal S3x1x384 .f32 :=
  sitofp .f32 (Host.reduce IntOp.addi (shapeCast _ (extsi 32 (shapeCast _ (extractStridedSlice S3x1x3072x1 ![0, 0, 0, 15] (C X) slices_S3x1x3072x16_S3x1x3072x1_0_0_0_15) shapeCasts_S3x1x3072x1_S3x1x3072) natLt_8_32) shapeCasts_S3x1x3072_S3x1x384x8) (constantI S_ 32 0#32) reducesTo_S3x1x384x8_S3x1x384_d3 h_S_)
def Y (X : FVec Ideal S3x1x12288 .bf16) (W : IVec S4x9216x1536 8) (ws wz : FVec Ideal S9216x384 .f32) : FVec Ideal S3x1x9216 .bf16 :=
  truncf .bf16 (Host.reduceAdd (mulf (mulf (broadcastInDim S3x1x9216x384 ![0, 1, 2, 3] bcast_S1x1x9216x384_S3x1x9216x384_0_1_2_3 (broadcastInDim S1x1x9216x384 ![2, 3] bcast_S9216x384_S1x1x9216x384_2_3 ws)) (broadcastInDim S3x1x9216x384 ![0, 1, 2, 3] bcast_S3x1x1x384_S3x1x9216x384_0_1_2_3 (broadcastInDim S3x1x1x384 ![0, 1, 3] bcast_S3x1x384_S3x1x1x384_0_1_3 (shapeCast _ (broadcastInDim S3x1x96x4 ![0, 1, 2] bcast_S3x1x96_S3x1x96x4_0_1_2 (SC X)) shapeCasts_S3x1x96x4_S3x1x384)))) (subf (AC X W) (mulf (broadcastInDim S3x1x9216x384 ![0, 1, 2, 3] bcast_S1x1x9216x384_S3x1x9216x384_0_1_2_3 (broadcastInDim S1x1x9216x384 ![2, 3] bcast_S9216x384_S1x1x9216x384_2_3 wz)) (broadcastInDim S3x1x9216x384 ![0, 1, 2, 3] bcast_S3x1x1x384_S3x1x9216x384_0_1_2_3 (broadcastInDim S3x1x1x384 ![0, 1, 3] bcast_S3x1x384_S3x1x1x384_0_1_3 (ZP X)))))) (constant S_ .f32 0x00000000#32) reducesTo_S3x1x9216x384_S3x1x9216_d3 h_S_) bitsLt_bf16_f32

variable (m : (ℓ : Loc nD τ sig) → Buf (Elt Ideal) ℓ) (c : Dev nD)

theorem res137 : res_main_v137 m c = Y (m ((c.tc : Thread nD τ).loc main_arg0)) (m ((c.tc : Thread nD τ).loc main_arg1)) (m ((c.tc : Thread nD τ).loc main_arg2)) (m ((c.tc : Thread nD τ).loc main_arg3)) := rfl

/-- The gather's dimensions. -/
abbrev gd : GatherDims S3x1x1536x16 S4x9216x1536x2 S3x1x4x9216x1536 := gather_S3x1x1536x16_S4x9216x1536x2_S3x1x4x9216x1536_01_23_n_n_23_3_3111

theorem gather_at (x : S3x1x1536x16.Idx → BitVec 8) (idx : IVec S4x9216x1536x2 32) (t : Fin 3) (p : Fin 4) (n : Fin 9216) (b : Fin 1536) :
    Host.gather gd x idx (ix5 t 0 p n b) = x (ix4 t 0 ⟨min (idx (ix4 p n b 0)).toInt.toNat 1535, by omega⟩ ⟨min (idx (ix4 p n b 1)).toInt.toNat 15, by omega⟩) := by
  unfold Host.gather
  congr 1
  funext a
  refine Fin.ext ?_
  show gd.start (ix5 t 0 p n b) idx a + gd.batchCoord (ix5 t 0 p n b) a + gd.offCoord (ix5 t 0 p n b) a = _
  rw [GatherDims.batchCoord_eq_zero _ _ _ List.not_mem_nil]
  match a with
  | ⟨0, _⟩ =>
    unfold GatherDims.start
    rw [dif_neg (by decide +revert)]
    show 0 + 0 + gd.offCoord (ix5 t 0 p n b) 0 = t
    simp only [Nat.zero_add]
    rfl
  | ⟨1, _⟩ =>
    unfold GatherDims.start
    rw [dif_neg (by decide +revert)]
    rfl
  | ⟨2, _⟩ =>
    rw [GatherDims.offCoord_eq_zero _ _ _ (by decide +revert)]
    unfold GatherDims.start
    rw [dif_pos (by decide +revert)]
    refine (congrArg (fun j => min (idx j).toInt.toNat 1535) (?_ : _ = ix4 p n b 0)).trans rfl
    funext a
    refine Fin.ext ?_
    match a with
    | ⟨0, _⟩ => rfl
    | ⟨1, _⟩ => rfl
    | ⟨2, _⟩ => rfl
    | ⟨3, _⟩ => rfl
  | ⟨3, _⟩ =>
    rw [GatherDims.offCoord_eq_zero _ _ _ (by decide +revert)]
    unfold GatherDims.start
    rw [dif_pos (by decide +revert)]
    refine (congrArg (fun j => min (idx j).toInt.toNat 15) (?_ : _ = ix4 p n b 1)).trans rfl
    funext a
    refine Fin.ext ?_
    match a with
    | ⟨0, _⟩ => rfl
    | ⟨1, _⟩ => rfl
    | ⟨2, _⟩ => rfl
    | ⟨3, _⟩ => rfl

theorem pos_word : ∀ b : Fin 1536, (Scalar.select (IntOp.cmpi .slt (BitVec.ofNat 32 b) 0#32) (IntOp.addi (BitVec.ofNat 32 b) 1536#32) (BitVec.ofNat 32 b)).toInt.toNat = (b : ℕ) := by decide +kernel

theorem lo_word : ∀ w : BitVec 8, (Scalar.select (IntOp.cmpi .slt (IntOp.andi (BitVec.setWidth 32 w) 15#32) 0#32) (IntOp.addi (IntOp.andi (BitVec.setWidth 32 w) 15#32) 16#32) (IntOp.andi (BitVec.setWidth 32 w) 15#32)).toInt.toNat = w.toNat % 16 := by
  intro ⟨w⟩
  revert w
  decide +kernel

theorem hi_word : ∀ w : BitVec 8, (Scalar.select (IntOp.cmpi .slt (IntOp.shrsi ArithUnit.host (BitVec.setWidth 32 w) 4#32) 0#32) (IntOp.addi (IntOp.shrsi ArithUnit.host (BitVec.setWidth 32 w) 4#32) 16#32) (IntOp.shrsi ArithUnit.host (BitVec.setWidth 32 w) 4#32)).toInt.toNat = w.toNat / 16 := by
  intro ⟨w⟩
  revert w
  decide +kernel

theorem G0_apply (X W) (t : Fin 3) (p : Fin 4) (n : Fin 9216) (b : Fin 1536) : G0 X W (ix5 t 0 p n b) = BitVec.ofInt 8 (Cert.Val.ci (xa X) t ⟨b * 2 + 0, by omega⟩ ⟨(W (ix3 p n b)).toNat % 16, Nat.mod_lt _ (by decide)⟩) := by
  unfold G0
  rw [gather_at]
  pointwise []
  refine (congrArg (C X) (congrArg₂ (fun q e => ix4 t 0 q e) (Fin.ext ?_) (Fin.ext ?_))).trans (C_apply X _ _ _)
  · show min _ 1535 * 2 = (b : ℕ) * 2 + 0
    rw [pos_word]
    omega
  · show min _ 15 = _
    rw [lo_word]
    exact Nat.min_eq_left (by omega)

theorem G1_apply (X W) (t : Fin 3) (p : Fin 4) (n : Fin 9216) (b : Fin 1536) : G1 X W (ix5 t 0 p n b) = BitVec.ofInt 8 (Cert.Val.ci (xa X) t ⟨b * 2 + 1, by omega⟩ ⟨(W (ix3 p n b)).toNat / 16, Nat.div_lt_of_lt_mul (by have := (W (ix3 p n b)).isLt; omega)⟩) := by
  unfold G1
  rw [gather_at]
  pointwise []
  refine (congrArg (C X) (congrArg₂ (fun q e => ix4 t 0 q e) (Fin.ext ?_) (Fin.ext ?_))).trans (C_apply X _ _ _)
  · show min _ 1535 * 2 + 1 = (b : ℕ) * 2 + 1
    rw [pos_word]
    omega
  · show min _ 15 = _
    rw [hi_word]
    have := (W (ix3 p n b)).isLt
    exact Nat.min_eq_left (by omega)

/-- An integer as a word. -/
theorem ofInt_add (a b : ℤ) : BitVec.ofInt 32 (a + b) = IntOp.addi (BitVec.ofInt 32 a) (BitVec.ofInt 32 b) := by
  show _ = BitVec.ofInt 32 a + BitVec.ofInt 32 b
  exact BitVec.ofInt_add _ _

/-- A sum of words is the word of the sum. -/
theorem fold_ofInt {ι : Type} [DecidableEq ι] (s : Finset ι) (f : ι → BitVec 32) (g : ι → ℤ) (h : ∀ i ∈ s, f i = BitVec.ofInt 32 (g i)) :
    Finset.fold IntOp.addi (0#32) f s = BitVec.ofInt 32 (∑ i ∈ s, g i) := by
  induction s using Finset.induction_on with
  | empty => rfl
  | insert a s ha ih =>
    rw [Finset.fold_insert ha, Finset.sum_insert ha, ofInt_add, h a (Finset.mem_insert_self _ _), ih fun i hi => h i (Finset.mem_insert_of_mem hi)]

theorem ext_ci (x t q e) : BitVec.signExtend 32 (BitVec.ofInt 8 (Cert.Val.ci x t q e)) = BitVec.ofInt 32 (Cert.Val.ci x t q e) := by
  have a := Cert.Val.ci_lo x t q e
  have b := Cert.Val.ci_hi x t q e
  apply BitVec.eq_of_toInt_eq
  rw [BitVec.toInt_signExtend_of_le (by decide), BitVec.toInt_ofInt, BitVec.toInt_ofInt]
  rw [Int.bmod_eq_of_le (by norm_num; omega) (by norm_num; omega), Int.bmod_eq_of_le (by norm_num; omega) (by norm_num; omega)]

theorem sitofp_ofInt (z : ℤ) (h : -(2:ℤ) ^ 30 ≤ z) (h' : z ≤ (2:ℤ) ^ 30) : (FloatOps.sitofp .f32 (BitVec.ofInt 32 z) : Ideal .f32) = ((z : ℝ) : EReal) := by
  show (((BitVec.ofInt 32 z).toInt : ℝ) : EReal) = _
  rw [BitVec.toInt_ofInt, Int.bmod_eq_of_le (by norm_num at h h' ⊢; omega) (by norm_num at h h' ⊢; omega)]

theorem mul_ofInt (a b : ℤ) : IntOp.muli (BitVec.ofInt 32 a) (BitVec.ofInt 32 b) = BitVec.ofInt 32 (a * b) := by
  show BitVec.ofInt 32 a * BitVec.ofInt 32 b = _
  exact (BitVec.ofInt_mul _ _).symm

theorem shl_word : ∀ p : Fin 4, IntOp.shli ArithUnit.host 1#32 (BitVec.ofNat 32 p) = BitVec.ofInt 32 (2 ^ (p : ℕ)) := by decide +kernel

/-- The sum of the last entries of the tables of a group of weights. -/
def zpz (x : Fin 3 → Fin 12288 → EReal) (t : Fin 3) (h : Fin 384) : ℤ := ∑ s : Fin 8, Cert.Val.ci x t ⟨h * 8 + s, by omega⟩ 15

theorem sum_bound {ι : Type} [Fintype ι] (f : ι → ℤ) (B : ℤ) (h : ∀ i, -B ≤ f i ∧ f i ≤ B) : -(Fintype.card ι * B) ≤ ∑ i, f i ∧ ∑ i, f i ≤ Fintype.card ι * B := by
  constructor
  · have := Finset.card_nsmul_le_sum Finset.univ f (-B) fun i _ => (h i).1
    rw [Finset.card_univ, nsmul_eq_mul] at this
    linarith
  · have := Finset.sum_le_card_nsmul Finset.univ f B fun i _ => (h i).2
    rwa [Finset.card_univ, nsmul_eq_mul] at this

theorem ZP_apply (X) (t : Fin 3) (h : Fin 384) : ZP X (ix3 t 0 h) = ((zpz (xa X) t h : ℝ) : EReal) := by
  pointwise [ZP]
  rw [fold_ofInt Finset.univ _ (fun s : Fin 8 => Cert.Val.ci (xa X) t ⟨h * 8 + s, by omega⟩ 15) fun s _ => by rw [C_apply, ext_ci]]
  have b := sum_bound (fun s : Fin 8 => Cert.Val.ci (xa X) t ⟨h * 8 + s, by omega⟩ 15) 127 fun s => ⟨Cert.Val.ci_lo _ _ _ _, Cert.Val.ci_hi _ _ _ _⟩
  exact sitofp_ofInt _ (by norm_num at b ⊢; omega) (by norm_num at b ⊢; omega)

theorem Y_apply (X W ws wz) (t : Fin 3) (n : Fin 9216) : Y X W ws wz (ix3 t 0 n)
    = ∑ h : Fin 384, ws (ix2 n h) * Cert.Val.sv (xa X) t ⟨h / 4, by omega⟩ * (AC X W (ix4 t 0 n h) - wz (ix2 n h) * ((zpz (xa X) t h : ℝ) : EReal)) := by
  pointwise [Y]
  refine Finset.sum_congr rfl fun h _ => ?_
  rw [SC_apply, ZP_apply]

/-- The four bytes of a plane over a group of weights, summed over the planes. -/
def acz (x : Fin 3 → Fin 12288 → EReal) (W : IVec S4x9216x1536 8) (t : Fin 3) (n : Fin 9216) (h : Fin 384) : ℤ :=
  ∑ p : Fin 4, (∑ b : Fin 4, (Cert.Val.ci x t ⟨(h * 4 + b) * 2 + 0, by omega⟩ ⟨(W (ix3 p n ⟨h * 4 + b, by omega⟩)).toNat % 16, Nat.mod_lt _ (by decide)⟩
    + Cert.Val.ci x t ⟨(h * 4 + b) * 2 + 1, by omega⟩ ⟨(W (ix3 p n ⟨h * 4 + b, by omega⟩)).toNat / 16, Nat.div_lt_of_lt_mul (by have := (W (ix3 p n ⟨h * 4 + b, by omega⟩)).isLt; omega)⟩)) * 2 ^ (p : ℕ)

theorem AC_apply (X W)
  (h0 : ∀ (t : Fin 3) (p : Fin 4) (n : Fin 9216) (b : Fin 1536), G0 X W (ix5 t 0 p n b) = BitVec.ofInt 8 (Cert.Val.ci (xa X) t ⟨b * 2 + 0, by omega⟩ ⟨(W (ix3 p n b)).toNat % 16, Nat.mod_lt _ (by decide)⟩))
  (h1 : ∀ (t : Fin 3) (p : Fin 4) (n : Fin 9216) (b : Fin 1536), G1 X W (ix5 t 0 p n b) = BitVec.ofInt 8 (Cert.Val.ci (xa X) t ⟨b * 2 + 1, by omega⟩ ⟨(W (ix3 p n b)).toNat / 16, Nat.div_lt_of_lt_mul (by have := (W (ix3 p n b)).isLt; omega)⟩))
  (t : Fin 3) (n : Fin 9216) (h : Fin 384) : AC X W (ix4 t 0 n h) = ((acz (xa X) W t n h : ℝ) : EReal) := by
  pointwise [AC]
  rw [fold_ofInt Finset.univ _ (fun p : Fin 4 => (∑ b : Fin 4, (Cert.Val.ci (xa X) t ⟨(h * 4 + b) * 2 + 0, by omega⟩ ⟨(W (ix3 p n ⟨h * 4 + b, by omega⟩)).toNat % 16, Nat.mod_lt _ (by decide)⟩
    + Cert.Val.ci (xa X) t ⟨(h * 4 + b) * 2 + 1, by omega⟩ ⟨(W (ix3 p n ⟨h * 4 + b, by omega⟩)).toNat / 16, Nat.div_lt_of_lt_mul (by have := (W (ix3 p n ⟨h * 4 + b, by omega⟩)).isLt; omega)⟩)) * 2 ^ (p : ℕ)) fun p _ => ?_]
  · have b1 : ∀ p : Fin 4, _ := fun p => sum_bound (fun b : Fin 4 => (Cert.Val.ci (xa X) t ⟨(h * 4 + b) * 2 + 0, by omega⟩ ⟨(W (ix3 p n ⟨h * 4 + b, by omega⟩)).toNat % 16, Nat.mod_lt _ (by decide)⟩
    + Cert.Val.ci (xa X) t ⟨(h * 4 + b) * 2 + 1, by omega⟩ ⟨(W (ix3 p n ⟨h * 4 + b, by omega⟩)).toNat / 16, Nat.div_lt_of_lt_mul (by have := (W (ix3 p n ⟨h * 4 + b, by omega⟩)).isLt; omega)⟩)) 254
      fun b => ⟨by have := Cert.Val.ci_lo (xa X) t ⟨(h * 4 + b) * 2 + 0, by omega⟩ ⟨(W (ix3 p n ⟨h * 4 + b, by omega⟩)).toNat % 16, Nat.mod_lt _ (by decide)⟩; have := Cert.Val.ci_lo (xa X) t ⟨(h * 4 + b) * 2 + 1, by omega⟩ ⟨(W (ix3 p n ⟨h * 4 + b, by omega⟩)).toNat / 16, Nat.div_lt_of_lt_mul (by have := (W (ix3 p n ⟨h * 4 + b, by omega⟩)).isLt; omega)⟩; linarith,
        by have := Cert.Val.ci_hi (xa X) t ⟨(h * 4 + b) * 2 + 0, by omega⟩ ⟨(W (ix3 p n ⟨h * 4 + b, by omega⟩)).toNat % 16, Nat.mod_lt _ (by decide)⟩; have := Cert.Val.ci_hi (xa X) t ⟨(h * 4 + b) * 2 + 1, by omega⟩ ⟨(W (ix3 p n ⟨h * 4 + b, by omega⟩)).toNat / 16, Nat.div_lt_of_lt_mul (by have := (W (ix3 p n ⟨h * 4 + b, by omega⟩)).isLt; omega)⟩; linarith⟩
    have c0 := b1 0; have c1 := b1 1; have c2 := b1 2; have c3 := b1 3
    refine (sitofp_ofInt _ ?_ ?_).trans rfl
    · rw [Fin.sum_univ_four]
      norm_num only [Fintype.card_fin, Fin.val_zero, Fin.val_one, Fin.val_two, show ((3 : Fin 4) : ℕ) = 3 from rfl] at c0 c1 c2 c3 ⊢
      linarith [c0.1, c1.1, c2.1, c3.1]
    · rw [Fin.sum_univ_four]
      norm_num only [Fintype.card_fin, Fin.val_zero, Fin.val_one, Fin.val_two, show ((3 : Fin 4) : ℕ) = 3 from rfl] at c0 c1 c2 c3 ⊢
      linarith [c0.2, c1.2, c2.2, c3.2]
  · rw [fold_ofInt _ _ (fun x : S3x1x4x9216x384x4.Idx => Cert.Val.ci (xa X) t ⟨(h * 4 + x 5) * 2 + 0, by have : (x 5 : ℕ) < 4 := (x 5).isLt; omega⟩ ⟨(W (ix3 p n ⟨h * 4 + x 5, by have : (x 5 : ℕ) < 4 := (x 5).isLt; omega⟩)).toNat % 16, Nat.mod_lt _ (by decide)⟩
    + Cert.Val.ci (xa X) t ⟨(h * 4 + x 5) * 2 + 1, by have : (x 5 : ℕ) < 4 := (x 5).isLt; omega⟩ ⟨(W (ix3 p n ⟨h * 4 + x 5, by have : (x 5 : ℕ) < 4 := (x 5).isLt; omega⟩)).toNat / 16, Nat.div_lt_of_lt_mul (by have := (W (ix3 p n ⟨h * 4 + x 5, by have : (x 5 : ℕ) < 4 := (x 5).isLt; omega⟩)).isLt; omega)⟩) fun x hx => ?_]
    · rw [shl_word p, mul_ofInt]
      congr 2
      refine Finset.sum_nbij' (fun x : S3x1x4x9216x384x4.Idx => (x 5 : Fin 4)) (fun b => ix6 t 0 p n h b) (fun _ _ => Finset.mem_univ _) (fun b _ => Finset.mem_filter.2 ⟨Finset.mem_univ _, ?_⟩) (fun x hx => ?_) (fun b _ => rfl) (fun x _ => rfl)
      · funext a
        match a with
        | ⟨0, _⟩ => rfl
        | ⟨1, _⟩ => rfl
        | ⟨2, _⟩ => rfl
        | ⟨3, _⟩ => rfl
        | ⟨4, _⟩ => rfl
      · have hd := (Finset.mem_filter.1 hx).2
        funext a
        match a with
        | ⟨0, _⟩ => exact (congrFun hd 0).symm
        | ⟨1, _⟩ => exact (congrFun hd 1).symm
        | ⟨2, _⟩ => exact (congrFun hd 2).symm
        | ⟨3, _⟩ => exact (congrFun hd 3).symm
        | ⟨4, _⟩ => exact (congrFun hd 4).symm
        | ⟨5, _⟩ => rfl
    · have hd := (Finset.mem_filter.1 hx).2
      have e0 : (x 0 : Fin 3) = t := congrFun hd 0
      have e2 : (x 2 : Fin 4) = p := congrFun hd 2
      have e3 : (x 3 : Fin 9216) = n := congrFun hd 3
      have e4 : (x 4 : Fin 384) = h := congrFun hd 4
      refine (congrArg₂ IntOp.addi ((congrArg (BitVec.signExtend 32) (h0 _ _ _ _)).trans (ext_ci _ _ _ _)) ((congrArg (BitVec.signExtend 32) (h1 _ _ _ _)).trans (ext_ci _ _ _ _))).trans ((ofInt_add _ _).symm.trans ?_)
      subst e0 e2 e3 e4
      rfl
end Cert.ReferenceIdeal.Val
-- ==== Proof.V.SumY.lean ====
module

public import proofs.«01_k».proof.Proof.V.Blocks
public import proofs.«01_k».proof.Proof.V.Tabs
public import proofs.«01_k».proof.Proof.V.RefY

/-! The two sums of the first result are one. -/

@[expose] public section

set_option maxRecDepth 16384

noncomputable section

namespace Cert.Val

open Idealize.ShloMosaic Idealize.ShloMosaic.TcCoe Cert.KernelIdeal Cert.KernelIdeal.Gen
open Cert.KernelIdeal.Val Cert.ReferenceIdeal.Val

theorem sum_split {M : Type} [AddCommMonoid M] (a b : ℕ) (f : ℕ → M) : ∑ i : Fin (a * b), f i = ∑ i : Fin a, ∑ j : Fin b, f (i * b + j) := by
  rw [← Fintype.sum_prod_type' (f := fun (i : Fin a) (j : Fin b) => f (i * b + j))]
  refine (Fintype.sum_equiv (finProdFinEquiv (m := a) (n := b)) _ _ fun p => ?_).symm
  obtain ⟨i, j⟩ := p
  show f (i * b + j) = f ((j : ℕ) + b * i)
  rw [mul_comm b, add_comm]

theorem pick8 {M : Type} [AddCommMonoid M] (g : Fin 8 → M) (hf : Fin 2) : ∑ s : Fin 8, (if (s : ℕ) / 4 = hf then g s else 0) = ∑ b : Fin 4, g ⟨4 * hf + b, by omega⟩ := by
  rw [Fin.sum_univ_eight, Fin.sum_univ_four]
  fin_cases hf
  · show g 0 + g 1 + g 2 + g 3 + 0 + 0 + 0 + 0 = g 0 + g 1 + g 2 + g 3
    simp only [add_zero]
  · show 0 + 0 + 0 + 0 + g 4 + g 5 + g 6 + g 7 = g 4 + g 5 + g 6 + g 7
    simp only [zero_add]

/-- The sum of the last codes is the reference's. -/
theorem zz_eq (x : Fin 3 → Fin 12288 → EReal) (t : Fin 3) (O : Fin 192) (hf : Fin 2) (H : Fin 384) (hH : (H : ℕ) = O * 2 + hf) : zz x t O hf = zpz x t H := by
  unfold zz zpz
  have e : ∀ s : Fin 8, ci x t ⟨H * 8 + s, by omega⟩ 15 = (fun i : ℕ => ci x t ⟨(H * 8 + i) % 3072, Nat.mod_lt _ (by decide)⟩ 15) s :=
    fun s => congrArg (fun q => ci x t q 15) (Fin.ext (by show (H : ℕ) * 8 + s = (H * 8 + s) % 3072; omega))
  rw [Finset.sum_congr rfl fun s _ => e s]
  refine Eq.trans ?_ (sum_split 4 2 (fun i : ℕ => ci x t ⟨(H * 8 + i) % 3072, Nat.mod_lt _ (by decide)⟩ 15)).symm
  rw [Finset.sum_comm]
  have k : ∀ s : Fin 8, (∑ par : Fin 2, if (s : ℕ) / 4 = hf then CC x t O par s 15 else 0) = if (s : ℕ) / 4 = hf then ∑ par : Fin 2, CC x t O par s 15 else 0 := by
    intro s
    split
    · rfl
    · exact Finset.sum_const_zero
  rw [Finset.sum_congr rfl fun s _ => k s, pick8]
  refine Finset.sum_congr rfl fun b _ => Finset.sum_congr rfl fun par _ => ?_
  unfold CC
  refine congrArg (fun q => ci x t q 15) (Fin.ext ?_)
  show (O : ℕ) * 16 + (4 * hf + b) * 2 + par = (H * 8 + (b * 2 + par)) % 3072
  omega

/-- The sum of the codes is the reference's. -/
theorem accv_eq (x : Fin 3 → Fin 12288 → EReal) (W : IVec Cert.ReferenceIdeal.S4x9216x1536 8) (t : Fin 3) (O : Fin 192) (r : Fin 8) (n : Fin 9216) (H : Fin 384) (hH : (H : ℕ) = O * 2 + r / 4)
    (N : Fin 4 → Fin 2 → Fin 4 → Fin 8 → Fin 16)
    (hN : ∀ (p : Fin 4) (par : Fin 2) (b : Fin 4), N p par ⟨r % 4, by omega⟩ ⟨4 * (r / 4) + b, by omega⟩ = nibOf par (W (ix3 p n ⟨H * 4 + b, by omega⟩))) :
    accv (CC x t O) N r = (acz x W t n H : ℝ) := by
  unfold accv acz
  have hf : (r : ℕ) / 4 < 2 := by omega
  refine (pick8 (fun s : Fin 8 => ∑ p : Fin 4, (2 : ℝ) ^ (p : ℕ) * ∑ par : Fin 2, (CC x t O par s (N p par ⟨r % 4, by omega⟩ s) : ℝ)) ⟨r / 4, hf⟩).trans ?_
  rw [Finset.sum_comm, Int.cast_sum]
  refine Finset.sum_congr rfl fun p _ => ?_
  rw [← Finset.mul_sum, Int.cast_mul, Int.cast_sum, mul_comm, Int.cast_pow, Int.cast_ofNat]
  refine congrArg (· * (2 : ℝ) ^ (p : ℕ)) (Finset.sum_congr rfl fun b _ => ?_)
  rw [Fin.sum_univ_two, Int.cast_add]
  have i0 : (⟨(O : ℕ) * 16 + (4 * (r / 4) + b) * 2 + ((0 : Fin 2) : ℕ), by show (O : ℕ) * 16 + (4 * (r / 4) + b) * 2 + 0 < 3072; omega⟩ : Fin 3072) = ⟨(H * 4 + b) * 2 + 0, by omega⟩ := Fin.ext (by show (O : ℕ) * 16 + (4 * (r / 4) + b) * 2 + 0 = (H * 4 + b) * 2 + 0; omega)
  have i1 : (⟨(O : ℕ) * 16 + (4 * (r / 4) + b) * 2 + ((1 : Fin 2) : ℕ), by show (O : ℕ) * 16 + (4 * (r / 4) + b) * 2 + 1 < 3072; omega⟩ : Fin 3072) = ⟨(H * 4 + b) * 2 + 1, by omega⟩ := Fin.ext (by show (O : ℕ) * 16 + (4 * (r / 4) + b) * 2 + 1 = (H * 4 + b) * 2 + 1; omega)
  have n0 : ∀ w : BitVec 8, nibOf 0 w = ⟨w.toNat % 16, Nat.mod_lt _ (by decide)⟩ := fun w => Fin.ext (by show w.toNat / 16 ^ 0 % 16 = _; simp)
  have n1 : ∀ w : BitVec 8, nibOf 1 w = ⟨w.toNat / 16, Nat.div_lt_of_lt_mul (by have := w.isLt; omega)⟩ := fun w => Fin.ext (by show w.toNat / 16 ^ 1 % 16 = w.toNat / 16; have := w.isLt; omega)
  refine congrArg₂ (· + ·) (congrArg Int.cast ?_) (congrArg Int.cast ?_)
  · refine (congrArg₂ (ci x t) i0 ((hN p 0 b).trans (n0 _)))
  · refine (congrArg₂ (ci x t) i1 ((hN p 1 b).trans (n1 _)))

theorem ci_top (x : Fin 3 → Fin 12288 → EReal) (t : Fin 3) (q : Fin 3072) (e : Fin 16) (h : sv x t ⟨q / 32, by omega⟩ = ⊤) : ci x t q e = 0 := by
  have hc : cv x t q e = 0 := by
    unfold cv
    rw [h, Ideal.div, if_neg (by decide), EReal.inv_top, mul_zero]
    have h1 : (127#32 : BitVec 32).toInt = 127 := by decide
    have h2 : (4294967169#32 : BitVec 32).toInt = -127 := by decide
    have h3 : Ideal.roundHalfEven 0 = 0 := by simp [Ideal.roundHalfEven]
    rw [h1, h2, ← EReal.coe_zero, Ideal.liftRound_coe, h3]
    norm_num
  have h := cv_eq x t q e
  rw [hc] at h
  exact_mod_cast h.symm

theorem pair_alg (ls w1 w2 y1 y2 : EReal) (a1 z1 a2 z2 : ℤ) (h0 : 0 ≤ ls) (ht : ls = ⊤ → (a1 = 0 ∧ z1 = 0) ∧ (a2 = 0 ∧ z2 = 0)) :
    ls * (w1 * (((a1 : ℝ) : EReal) - y1 * ((z1 : ℝ) : EReal)) + w2 * (((a2 : ℝ) : EReal) - y2 * ((z2 : ℝ) : EReal)))
      = w1 * ls * (((a1 : ℝ) : EReal) - y1 * ((z1 : ℝ) : EReal)) + w2 * ls * (((a2 : ℝ) : EReal) - y2 * ((z2 : ℝ) : EReal)) := by
  by_cases h : ls = ⊤
  · obtain ⟨⟨rfl, rfl⟩, rfl, rfl⟩ := ht h
    simp
  · rw [EReal.left_distrib_of_nonneg_of_ne_top h0 h, ← mul_assoc, ← mul_assoc, mul_comm ls, mul_comm ls]

theorem acz_top (x : Fin 3 → Fin 12288 → EReal) (W) (t : Fin 3) (n : Fin 9216) (H : Fin 384) (h : sv x t ⟨H / 4, by omega⟩ = ⊤) : acz x W t n H = 0 ∧ zpz x t H = 0 := by
  have k : ∀ (q : Fin 3072) (e : Fin 16), (q : ℕ) / 32 = H / 4 → ci x t q e = 0 := by
    intro q e hq
    refine ci_top x t q e ?_
    rw [← h]
    exact congrArg (sv x t) (Fin.ext hq)
  constructor
  · unfold acz
    refine Finset.sum_eq_zero fun p _ => ?_
    rw [Finset.sum_eq_zero fun b _ => ?_, zero_mul]
    rw [k _ _ (by show (((H : ℕ) * 4 + b) * 2 + 0) / 32 = H / 4; omega), k _ _ (by show (((H : ℕ) * 4 + b) * 2 + 1) / 32 = H / 4; omega), add_zero]
  · unfold zpz
    refine Finset.sum_eq_zero fun s _ => k _ _ (by show ((H : ℕ) * 8 + s) / 32 = H / 4; omega)

/-- A term of the reference's sum. -/
def term (x : Fin 3 → Fin 12288 → EReal) (W : IVec Cert.ReferenceIdeal.S4x9216x1536 8) (ws wz : FVec Ideal Cert.ReferenceIdeal.S9216x384 .f32) (t : Fin 3) (n : Fin 9216) (H : Fin 384) : EReal :=
  ws (ix2 n H) * sv x t ⟨H / 4, by omega⟩ * (((acz x W t n H : ℝ) : EReal) - wz (ix2 n H) * ((zpz x t H : ℝ) : EReal))

section
variable (m : (ℓ : Loc nD τ sig) → Buf (Elt Ideal) ℓ) (c : Dev nD)

/-- The weights and their scales and zero points. -/
def Wk : IVec Cert.ReferenceIdeal.S4x9216x1536 8 := m ((c.tc : Thread nD τ).loc main_arg1)
def wsk : FVec Ideal Cert.ReferenceIdeal.S9216x384 .f32 := m ((c.tc : Thread nD τ).loc main_arg2)
def wzk : FVec Ideal Cert.ReferenceIdeal.S9216x384 .f32 := m ((c.tc : Thread nD τ).loc main_arg3)

/-- A cell of the kernel's sum. -/
theorem cell_eq (nb : Fin 9) (h : Fin 3) (k : Fin 4) (o : Fin 16) (q : Fin 3) (r : Fin 8) (l : Fin 256) (n : Fin 9216) (hn : (n : ℕ) = nb * 1024 + nrow r l) (O : Fin 192) (hO : (O : ℕ) = (h * 4 + k) * 16 + o)
    (H : Fin 384) (hH : (H : ℕ) = O * 2 + r / 4) :
    cell (iblk m c 5 (tp nb h)) (fun n h' => iblk m c 6 (tp nb h) (ix2 n h')) (fun n h' => iblk m c 7 (tp nb h) (ix2 n h')) (CC (xk m c) q O) (((zz (xk m c) q O (r / 4) : ℤ) : ℝ) : EReal) k o r l
      = wsk m c (ix2 n H) * (((acz (xk m c) (Wk m c) q n H : ℝ) : EReal) - wzk m c (ix2 n H) * ((zpz (xk m c) q H : ℝ) : EReal)) := by
  have hnr : (nrow r l : ℕ) = l.val / 128 * 512 + 4 * (l.val % 128) + r.val % 4 := rfl
  have jn : (⟨nb * 1024 + nrow r l, by omega⟩ : Fin 9216) = n := Fin.ext hn.symm
  have jH : (⟨(h : ℕ) * 128 + ((k * 16 + o) * 2 + r / 4), by omega⟩ : Fin 384) = H := Fin.ext (by show (h : ℕ) * 128 + ((k * 16 + o) * 2 + r / 4) = H; omega)
  unfold cell
  have e6 : iblk m c 6 (tp nb h) (ix2 (nrow r l) ⟨(k * 16 + o) * 2 + r / 4, by omega⟩) = wsk m c (ix2 n H) := by
    refine (iblk_ws m c nb h (nrow r l) ⟨(k * 16 + o) * 2 + r / 4, by omega⟩).trans ?_
    exact congrArg (wsk m c) (congrArg₂ ix2 jn jH)
  have e7 : iblk m c 7 (tp nb h) (ix2 (nrow r l) ⟨(k * 16 + o) * 2 + r / 4, by omega⟩) = wzk m c (ix2 n H) := by
    refine (iblk_wz m c nb h (nrow r l) ⟨(k * 16 + o) * 2 + r / 4, by omega⟩).trans ?_
    exact congrArg (wzk m c) (congrArg₂ ix2 jn jH)
  have ea : accv (CC (xk m c) q O) (fun pl par b s => nibOf par (byt (iblk m c 5 (tp nb h)) pl ⟨l.val / 128 * 512 + 4 * (l.val % 128) + b, by omega⟩ ⟨128 * k + (8 * o + s), by omega⟩)) r = (acz (xk m c) (Wk m c) q n H : ℝ) := by
    refine accv_eq (xk m c) (Wk m c) q O r n H hH _ fun p par b => ?_
    refine congrArg (nibOf par) ?_
    unfold byt
    refine (iblk_w m c nb h p _ _).trans (congrArg (Wk m c) (congrArg₂ (ix3 p) (Fin.ext ?_) (Fin.ext ?_)))
    · show (nb : ℕ) * 1024 + (l.val / 128 * 512 + 4 * (l.val % 128) + r.val % 4) = n
      omega
    · show (h : ℕ) * 512 + (128 * k + (8 * o + (4 * (r / 4) + b))) = H * 4 + b
      omega
  have ez : zz (xk m c) q O (r / 4) = zpz (xk m c) q H := zz_eq (xk m c) q O ⟨r / 4, by omega⟩ H hH
  refine congrArg₂ (· * ·) e6 (congrArg₂ (· - ·) (congrArg _ ea) (congrArg₂ (· * ·) e7 ?_))
  rw [ez]

/-- A term by number. -/
def tN (q : Fin 3) (n : Fin 9216) (i : ℕ) : EReal := if h : i < 384 then term (xk m c) (Wk m c) (wsk m c) (wzk m c) q n ⟨i, h⟩ else 0

theorem pv_eq (nb : Fin 9) (h q : Fin 3) (r : Fin 8) (l : Fin 256) (n : Fin 9216) (hn : (n : ℕ) = nb * 1024 + nrow r l) :
    pv m c (tp nb h) h q r l = ∑ k : Fin 4, ∑ j : Fin 8, (tN m c q n (((h.val * 4 + k.val) * 8 + j.val) * 4 + r.val / 4) + tN m c q n (((h.val * 4 + k.val) * 8 + j.val) * 4 + 2 + r.val / 4)) := by
  unfold pv pointc
  refine Finset.sum_congr rfl fun k _ => Finset.sum_congr rfl fun j _ => ?_
  have l0 : ((h.val * 4 + k.val) * 8 + j.val) * 4 + r.val / 4 < 384 := by omega
  have l1 : ((h.val * 4 + k.val) * 8 + j.val) * 4 + 2 + r.val / 4 < 384 := by omega
  have c0 := cell_eq m c nb h k ⟨2 * j.val, by omega⟩ q r l n hn ⟨(h.val * 4 + k.val) * 16 + 2 * j.val, by omega⟩ rfl ⟨_, l0⟩ (by show ((h.val * 4 + k.val) * 8 + j.val) * 4 + r.val / 4 = ((h.val * 4 + k.val) * 16 + 2 * j.val) * 2 + (r : ℕ) / 4; omega)
  have c1 := cell_eq m c nb h k ⟨2 * j.val + 1, by omega⟩ q r l n hn ⟨(h.val * 4 + k.val) * 16 + (2 * j.val + 1), by omega⟩ rfl ⟨_, l1⟩ (by show ((h.val * 4 + k.val) * 8 + j.val) * 4 + 2 + r.val / 4 = ((h.val * 4 + k.val) * 16 + (2 * j.val + 1)) * 2 + (r : ℕ) / 4; omega)
  have g : ∀ (i : ℕ) (hi : i < 384), i / 4 = (h.val * 4 + k.val) * 8 + j.val → sv (xk m c) (tk ⟨96 * q.val + ((h.val * 4 + k.val) * 8 + j.val), by omega⟩) (gr ⟨96 * q.val + ((h.val * 4 + k.val) * 8 + j.val), by omega⟩) = sv (xk m c) q ⟨(⟨i, hi⟩ : Fin 384) / 4, by show i / 4 < 96; omega⟩ := by
    intro i hi hg
    refine congrArg₂ (sv (xk m c)) (Fin.ext ?_) (Fin.ext ?_)
    · show (96 * q.val + ((h.val * 4 + k.val) * 8 + j.val)) / 96 = (q : ℕ); omega
    · show (96 * q.val + ((h.val * 4 + k.val) * 8 + j.val)) % 96 = i / 4; omega
  have g0 := g _ l0 (by omega)
  have g1 := g _ l1 (by omega)
  unfold pairc
  rw [c0, c1]
  refine (pair_alg _ _ _ _ _ _ _ _ _ (sv_pos _ _ _).le fun ht => ⟨acz_top _ _ _ _ _ (g0.symm.trans ht), acz_top _ _ _ _ _ (g1.symm.trans ht)⟩).trans ?_
  unfold tN
  rw [dif_pos l0, dif_pos l1]
  unfold term
  rw [← g0, ← g1]

theorem yq_eq (nb : Fin 9) (q : Fin 3) (r : Fin 4) (l : Fin 256) (n : Fin 9216) (hn : (n : ℕ) = nb * 1024 + 4 * l + r) :
    yq m c nb q r l = ∑ H : Fin 384, term (xk m c) (Wk m c) (wsk m c) (wzk m c) q n H := by
  have e : ∀ H : Fin 384, term (xk m c) (Wk m c) (wsk m c) (wzk m c) q n H = tN m c q n H := fun H => by unfold tN; rw [dif_pos H.isLt]
  rw [Finset.sum_congr rfl fun H _ => e H]
  refine Eq.trans ?_ (sum_split 96 4 (tN m c q n)).symm
  refine Eq.trans ?_ (sum_split 12 8 (fun G : ℕ => ∑ u : Fin 4, tN m c q n (G * 4 + u))).symm
  refine Eq.trans ?_ (sum_split 3 4 (fun a : ℕ => ∑ j : Fin 8, ∑ u : Fin 4, tN m c q n ((a * 8 + j) * 4 + u))).symm
  have hr : ∀ r' : Fin 8, (r' : ℕ) % 4 = r → (n : ℕ) = nb * 1024 + nrow r' l := by
    intro r' h
    have : (nrow r' l : ℕ) = l.val / 128 * 512 + 4 * (l.val % 128) + r'.val % 4 := rfl
    omega
  have step : ∀ h : Fin 3, pv m c (tp nb h) h q ⟨r, by omega⟩ l + pv m c (tp nb h) h q ⟨4 + r, by omega⟩ l
      = ∑ k : Fin 4, ∑ j : Fin 8, ∑ u : Fin 4, tN m c q n (((h.val * 4 + k.val) * 8 + j.val) * 4 + u) := by
    intro h
    rw [pv_eq m c nb h q ⟨r, by omega⟩ l n (hr _ (by show (r : ℕ) % 4 = r; omega)), pv_eq m c nb h q ⟨4 + r, by omega⟩ l n (hr _ (by show (4 + r : ℕ) % 4 = r; omega)), ← Finset.sum_add_distrib]
    refine Finset.sum_congr rfl fun k _ => ?_
    rw [← Finset.sum_add_distrib]
    refine Finset.sum_congr rfl fun j _ => ?_
    have q0 : (r : ℕ) / 4 = 0 := by omega
    have q1 : (4 + (r : ℕ)) / 4 = 1 := by omega
    dsimp only
    rw [q0, q1, Fin.sum_univ_four]
    show tN m c q n (((h.val * 4 + k.val) * 8 + j.val) * 4 + 0) + tN m c q n (((h.val * 4 + k.val) * 8 + j.val) * 4 + 2) + (tN m c q n (((h.val * 4 + k.val) * 8 + j.val) * 4 + 1) + tN m c q n (((h.val * 4 + k.val) * 8 + j.val) * 4 + 3))
      = tN m c q n (((h.val * 4 + k.val) * 8 + j.val) * 4 + 0) + tN m c q n (((h.val * 4 + k.val) * 8 + j.val) * 4 + 1) + tN m c q n (((h.val * 4 + k.val) * 8 + j.val) * 4 + 2) + tN m c q n (((h.val * 4 + k.val) * 8 + j.val) * 4 + 3)
    rw [add_add_add_comm, ← add_assoc]
  rw [Fin.sum_univ_three, ← step, ← step, ← step]
  unfold yq
  rw [add_add_add_comm, add_add_add_comm (pv m c (tp nb 0) 0 q ⟨r, by omega⟩ l)]

end

theorem Y_term (X W ws wz) (t : Fin 3) (n : Fin 9216) : Y X W ws wz (ix3 t 0 n) = ∑ H : Fin 384, term (xa X) W ws wz t n H := by
  rw [Y_apply]
  refine Finset.sum_congr rfl fun H _ => ?_
  rw [AC_apply X W (G0_apply X W) (G1_apply X W)]
  rfl

end Cert.Val
-- ==== Proof.V.Alg.lean ====
module

public import proofs.«01_k».proof.Defs
public import proofs.«01_k».proof.Proof.V.Tail
public import proofs.«01_k».proof.Proof.V.Ref
public import proofs.«01_k».proof.Proof.V.SumY
public import Idealize.ShloMosaic.Lib.Claim

/-! The kernel's results are the reference's. -/

@[expose] public section

set_option maxRecDepth 16384

noncomputable section

namespace Cert.Val

open Idealize.ShloMosaic Idealize.ShloMosaic.TcCoe Idealize.SL.Sem Cert.KernelIdeal Cert.KernelIdeal.Gen

open Cert.KernelIdeal.Val Cert.ReferenceIdeal.Val

/-- The codes of the two programs agree. -/
theorem codes_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)) :
    Cert.ReferenceIdeal.Value.res_main_v60 m' c = Pipeline.afterTail₀ cfgs (dats m) 0 (V0 m) [hostOps1] c main_v149 := by
  rw [res60, h]
  funext i
  obtain ⟨t, o, q, e, rfl⟩ : ∃ (t : Fin 3) (o : Fin 1) (q : Fin 3072) (e : Fin 16), i = ix4 t o q e := ⟨i 0, i 1, i 2, i 3, by funext a; fin_cases a <;> rfl⟩
  obtain rfl := Subsingleton.elim o 0
  exact (C_apply _ t q e).trans (tail_codes m c t q e).symm

/-- The scales of the two programs agree. -/
theorem scale_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)) :
    Cert.ReferenceIdeal.Value.res_main_v52 m' c = Pipeline.afterTail₀ cfgs (dats m) 0 (V0 m) [hostOps1] c main_v152 := by
  rw [res52, h]
  funext i
  obtain ⟨t, o, g, rfl⟩ : ∃ (t : Fin 3) (o : Fin 1) (g : Fin 96), i = ix3 t o g := ⟨i 0, i 1, i 2, by funext a; fin_cases a <;> rfl⟩
  obtain rfl := Subsingleton.elim o 0
  exact (SC_apply _ t g).trans (tail_scale m c t g).symm

/-- The results of the layer agree. -/
theorem y_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v137 m' c = Pipeline.afterTail₀ cfgs (dats m) 0 (V0 m) [hostOps1] c main_v146 := by
  rw [res137, h0, h1, h2, h3]
  funext i
  obtain ⟨t, o, n, rfl⟩ : ∃ (t : Fin 3) (o : Fin 1) (n : Fin 9216), i = ix3 t o n := ⟨i 0, i 1, i 2, by funext a; fin_cases a <;> rfl⟩
  obtain rfl := Subsingleton.elim o 0
  refine (Y_term _ _ _ _ t n).trans (Eq.trans ?_ (tail_y m c t n).symm)
  exact (yq_eq m c ⟨n / 1024, by omega⟩ t ⟨n % 4, by omega⟩ ⟨n / 4 % 256, by omega⟩ n (by show (n : ℕ) = n / 1024 * 1024 + 4 * (n / 4 % 256) + n % 4; omega)).symm

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Pipeline.afterTail₀ cfgs (dats m) 0 (V0 m) [hostOps1] c main_v146, fun c => Pipeline.afterTail₀ cfgs (dats m) 0 (V0 m) [hostOps1] c main_v149, fun c => Pipeline.afterTail₀ cfgs (dats m) 0 (V0 m) [hostOps1] c main_v152, ?_, ?_⟩
  · exact (θ_run Cert.KernelIdeal.defs _ _).mono (fun _ h c => ⟨(h.1 c).1, (h.1 c).2.1, (h.1 c).2.2, h.2 c⟩) (θ_run_and (Cert.KernelIdeal.Val.run m g) (Cert.KernelIdeal.Gen.unchanged m g))
  · exact (θ_run Cert.ReferenceIdeal.defs _ _).mono
      (fun _ h c => ⟨(h c).1.trans (y_eq m m' c (hagree c).1 (hagree c).2.1 (hagree c).2.2.1 (hagree c).2.2.2), (h c).2.1.trans (codes_eq m m' c (hagree c).1), (h c).2.2.1.trans (scale_eq m m' c (hagree c).1), (h c).2.2.2⟩)
      (Cert.ReferenceIdeal.Value.run m' g')

end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.V.Alg
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore that could end at anything but zero. -/
theorem frame_reference : Cert.quiescent_ReferenceIdeal (hReferenceIdeal := Cert.ReferenceIdeal.Gen.facts) := fun m g _ =>
  (θ_run Cert.ReferenceIdeal.defs _ _).mono
    (fun _ h => ⟨fun c => ⟨(h c).2.2.2.1, (h c).2.2.2.2.1, (h c).2.2.2.2.2.1, (h c).2.2.2.2.2.2⟩, sem_eq_zero_of_no_sems rfl _⟩)
    (Cert.ReferenceIdeal.Value.run m g)

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, Cert.Val.algebraic⟩

end Cert.Proof

end
